-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_logits [hPre_finite_logits : Cert.Pre_finite_logits.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_logits.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_logits [hPre_finite_logits : Cert.Pre_finite_logits.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_logits.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Kernel6Ideal_pre_finite_logits [hKernel6Ideal : Cert.Kernel6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_logits m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Reference6Ideal_pre_finite_logits [hReference6Ideal : Cert.Reference6Ideal.Facts] [hPre_finite_logits : Cert.Pre_finite_logits.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_logits m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)) (v5 : (c : Dev Cert.KernelIdeal.nD) → Buf (Elt Ideal) ((c.tc : Thread Cert.KernelIdeal.nD Cert.KernelIdeal.τ).loc Cert.KernelIdeal.main_v3_5)) (v6 : (c : Dev Cert.KernelIdeal.nD) → Buf (Elt Ideal) ((c.tc : Thread Cert.KernelIdeal.nD Cert.KernelIdeal.τ).loc Cert.KernelIdeal.main_v3_6)) (v7 : (c : Dev Cert.KernelIdeal.nD) → Buf (Elt Ideal) ((c.tc : Thread Cert.KernelIdeal.nD Cert.KernelIdeal.τ).loc Cert.KernelIdeal.main_v3_7)) (v8 : (c : Dev Cert.KernelIdeal.nD) → Buf (Elt Ideal) ((c.tc : Thread Cert.KernelIdeal.nD Cert.KernelIdeal.τ).loc Cert.KernelIdeal.main_v3_8)) (v9 : (c : Dev Cert.KernelIdeal.nD) → Buf (Elt Ideal) ((c.tc : Thread Cert.KernelIdeal.nD Cert.KernelIdeal.τ).loc Cert.KernelIdeal.main_v3_9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_v3_5) = v5 c
          ∧ r.2.mem ((c.tc : Thread Cert.KernelIdeal.nD Cert.KernelIdeal.τ).loc Cert.KernelIdeal.main_v3_6) = v6 c
          ∧ r.2.mem ((c.tc : Thread Cert.KernelIdeal.nD Cert.KernelIdeal.τ).loc Cert.KernelIdeal.main_v3_7) = v7 c
          ∧ r.2.mem ((c.tc : Thread Cert.KernelIdeal.nD Cert.KernelIdeal.τ).loc Cert.KernelIdeal.main_v3_8) = v8 c
          ∧ r.2.mem ((c.tc : Thread Cert.KernelIdeal.nD Cert.KernelIdeal.τ).loc Cert.KernelIdeal.main_v3_9) = v9 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_v101) = v1 c
          ∧ r.2.mem ((c.tc : Thread Cert.ReferenceIdeal.nD Cert.ReferenceIdeal.τ).loc Cert.ReferenceIdeal.main_v102) = v2 c
          ∧ r.2.mem ((c.tc : Thread Cert.ReferenceIdeal.nD Cert.ReferenceIdeal.τ).loc Cert.ReferenceIdeal.main_v62) = v3 c
          ∧ r.2.mem ((c.tc : Thread Cert.ReferenceIdeal.nD Cert.ReferenceIdeal.τ).loc Cert.ReferenceIdeal.main_v103) = v4 c
          ∧ r.2.mem ((c.tc : Thread Cert.ReferenceIdeal.nD Cert.ReferenceIdeal.τ).loc Cert.ReferenceIdeal.main_v82) = v5 c
          ∧ r.2.mem ((c.tc : Thread Cert.ReferenceIdeal.nD Cert.ReferenceIdeal.τ).loc Cert.ReferenceIdeal.main_v104) = v6 c
          ∧ r.2.mem ((c.tc : Thread Cert.ReferenceIdeal.nD Cert.ReferenceIdeal.τ).loc Cert.ReferenceIdeal.main_v85) = v7 c
          ∧ r.2.mem ((c.tc : Thread Cert.ReferenceIdeal.nD Cert.ReferenceIdeal.τ).loc Cert.ReferenceIdeal.main_v105) = v8 c
          ∧ r.2.mem ((c.tc : Thread Cert.ReferenceIdeal.nD Cert.ReferenceIdeal.τ).loc Cert.ReferenceIdeal.main_v106) = v9 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v10) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)) (v2 : (c : Dev Cert.Kernel3Ideal.nD) → Buf (Elt Ideal) ((c.tc : Thread Cert.Kernel3Ideal.nD Cert.Kernel3Ideal.τ).loc Cert.Kernel3Ideal.main_v7_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_v7_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v39) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v72) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v1) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def preserves_Kernel6_Kernel6Ideal : Prop :=
  True

def algebraic_Kernel6Ideal_Reference6Ideal_pre_finite_logits [hKernel6Ideal : Cert.Kernel6Ideal.Facts] [hReference6Ideal : Cert.Reference6Ideal.Facts] [hPre_finite_logits : Cert.Pre_finite_logits.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_logits m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v3_0)) (v1 : (c : Dev Cert.Kernel6Ideal.nD) → Buf (Elt Ideal) ((c.tc : Thread Cert.Kernel6Ideal.nD Cert.Kernel6Ideal.τ).loc Cert.Kernel6Ideal.main_v3_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3_0) = v0 c
          ∧ r.2.mem ((c.tc : Thread Cert.Kernel6Ideal.nD Cert.Kernel6Ideal.τ).loc Cert.Kernel6Ideal.main_v3_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v103) = v0 c
          ∧ r.2.mem ((c.tc : Thread Cert.Reference6Ideal.nD Cert.Reference6Ideal.τ).loc Cert.Reference6Ideal.main_v120) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hKernel6 : Cert.Kernel6.Facts) (hKernel6Ideal : Cert.Kernel6Ideal.Facts) (hReference6Ideal : Cert.Reference6Ideal.Facts) (hPre_finite_logits : Cert.Pre_finite_logits.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel6 (hKernel6 := hKernel6)
    ∧ quiescent_Kernel6Ideal (hKernel6Ideal := hKernel6Ideal)
    ∧ quiescent_Kernel6Ideal_pre_finite_logits (hKernel6Ideal := hKernel6Ideal) (hPre_finite_logits := hPre_finite_logits)
    ∧ quiescent_Reference6Ideal (hReference6Ideal := hReference6Ideal)
    ∧ quiescent_Reference6Ideal_pre_finite_logits (hReference6Ideal := hReference6Ideal) (hPre_finite_logits := hPre_finite_logits)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ preserves_Kernel6_Kernel6Ideal
    ∧ algebraic_Kernel6Ideal_Reference6Ideal_pre_finite_logits (hKernel6Ideal := hKernel6Ideal) (hReference6Ideal := hReference6Ideal) (hPre_finite_logits := hPre_finite_logits)
-- ==== Pre_finite_logits.lean ====
abbrev S8x256x1024 : Shape := ⟨3, ![8, 256, 1024]⟩
abbrev S1024 : Shape := ⟨1, ![1024]⟩
abbrev S16x6144 : Shape := ⟨2, ![16, 6144]⟩
abbrev S2x2x1024 : Shape := ⟨3, ![2, 2, 1024]⟩
abbrev S1024x7680 : Shape := ⟨2, ![1024, 7680]⟩
abbrev S_ : Shape := ⟨0, ![]⟩

class Facts : Prop where
  bcast_S_S2x2x1024 : S_.BroadcastsInDim S2x2x1024 (![] : Fin 0 → Fin S2x2x1024.rank)

variable [Facts]

def fn {F : FTy → Type} [FloatOps F] (main_arg0 : FVec F S8x256x1024 .f32) (main_arg1 : FVec F S1024 .f32) (main_arg2 : FVec F S16x6144 .f32) (main_arg3 : FVec F S2x2x1024 .f32) (main_arg4 : FVec F S1024x7680 .f32) : IVec S2x2x1024 1 :=
  let main_v0 : FVec F S2x2x1024 .f32 := Host.absf main_arg3
  let main_cst : FVec F S_ .f32 := constant S_ .f32 0x7F800000#32
  let main_v1 : FVec F S2x2x1024 .f32 := broadcastInDim S2x2x1024 ![] bcast_S_S2x2x1024 main_cst
  let main_v2 : IVec S2x2x1024 1 := cmpf .olt main_v0 main_v1
  main_v2
-- ==== Kernel.lean ====
abbrev S8x8192x1024 : Shape := ⟨3, ![8, 8192, 1024]⟩
abbrev S1024 : Shape := ⟨1, ![1024]⟩
abbrev S16x6144 : Shape := ⟨2, ![16, 6144]⟩
abbrev S2x2x1024 : Shape := ⟨3, ![2, 2, 1024]⟩
abbrev S1024x7680 : Shape := ⟨2, ![1024, 7680]⟩
abbrev S1x1024 : Shape := ⟨2, ![1, 1024]⟩
abbrev S4x1024 : Shape := ⟨2, ![4, 1024]⟩
abbrev S8x8192x512 : Shape := ⟨3, ![8, 8192, 512]⟩
abbrev S8x32x8x128 : Shape := ⟨4, ![8, 32, 8, 128]⟩
abbrev S1x256x1024 : Shape := ⟨3, ![1, 256, 1024]⟩
abbrev S1x256x512 : Shape := ⟨3, ![1, 256, 512]⟩
abbrev S1x1x8x128 : Shape := ⟨4, ![1, 1, 8, 128]⟩
abbrev S256x1024 : Shape := ⟨2, ![256, 1024]⟩
abbrev S1x6144 : Shape := ⟨2, ![1, 6144]⟩
abbrev S256 : Shape := ⟨1, ![256]⟩
abbrev S256x1 : Shape := ⟨2, ![256, 1]⟩
abbrev S1024x1024 : Shape := ⟨2, ![1024, 1024]⟩
abbrev S32x1024 : Shape := ⟨2, ![32, 1024]⟩
abbrev S1 : Shape := ⟨1, ![1]⟩
abbrev S1x1 : Shape := ⟨2, ![1, 1]⟩
abbrev S1x128 : Shape := ⟨2, ![1, 128]⟩
abbrev S4x128 : Shape := ⟨2, ![4, 128]⟩
abbrev S8x128 : Shape := ⟨2, ![8, 128]⟩
abbrev S1024x512 : Shape := ⟨2, ![1024, 512]⟩
abbrev S256x512 : Shape := ⟨2, ![256, 512]⟩

abbrev nBuf : Space → Nat
  | .hbm => 19
  | .vmem => 28
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S16x6144, .f32⟩
  | .hbm, ⟨3, _⟩ => ⟨S2x2x1024, .f32⟩
  | .hbm, ⟨4, _⟩ => ⟨S1024x7680, .f32⟩
  | .hbm, ⟨5, _⟩ => ⟨S1x1024, .f32⟩
  | .hbm, ⟨6, _⟩ => ⟨S4x1024, .f32⟩
  | .hbm, ⟨7, _⟩ => ⟨S1024x7680, .bf16⟩
  | .hbm, ⟨8, _⟩ => ⟨S8x8192x1024, .bf16⟩
  | .hbm, ⟨9, _⟩ => ⟨S8x8192x1024, .bf16⟩
  | .hbm, ⟨10, _⟩ => ⟨S8x8192x1024, .bf16⟩
  | .hbm, ⟨11, _⟩ => ⟨S8x8192x1024, .f32⟩
  | .hbm, ⟨12, _⟩ => ⟨S8x8192x1024, .bf16⟩
  | .hbm, ⟨13, _⟩ => ⟨S8x8192x1024, .f32⟩
  | .hbm, ⟨14, _⟩ => ⟨S8x8192x1024, .bf16⟩
  | .hbm, ⟨15, _⟩ => ⟨S8x8192x512, .f32⟩
  | .hbm, ⟨16, _⟩ => ⟨S8x8192x1024, .bf16⟩
  | .hbm, ⟨17, _⟩ => ⟨S8x8192x1024, .bf16⟩
  | .hbm, ⟨18, _⟩ => ⟨S8x32x8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S16x6144, .f32⟩
  | .local _ .vmem, ⟨4, _⟩ => ⟨S4x1024, .f32⟩
  | .local _ .vmem, ⟨5, _⟩ => ⟨S1024x7680, .bf16⟩
  | .local _ .vmem, ⟨6, _⟩ => ⟨S1x256x1024, .bf16⟩
  | .local _ .vmem, ⟨7, _⟩ => ⟨S1x256x1024, .bf16⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .f32⟩
  | .local _ .vmem, ⟨13, _⟩ => ⟨S1x256x1024, .f32⟩
  | .local _ .vmem, ⟨14, _⟩ => ⟨S1x256x1024, .bf16⟩
  | .local _ .vmem, ⟨15, _⟩ => ⟨S1x256x1024, .bf16⟩
  | .local _ .vmem, ⟨16, _⟩ => ⟨S1x256x1024, .f32⟩
  | .local _ .vmem, ⟨17, _⟩ => ⟨S1x256x1024, .f32⟩
  | .local _ .vmem, ⟨18, _⟩ => ⟨S1x256x1024, .bf16⟩
  | .local _ .vmem, ⟨19, _⟩ => ⟨S1x256x1024, .bf16⟩
  | .local _ .vmem, ⟨20, _⟩ => ⟨S1x256x512, .f32⟩
  | .local _ .vmem, ⟨21, _⟩ => ⟨S1x256x512, .f32⟩
  | .local _ .vmem, ⟨22, _⟩ => ⟨S1x256x1024, .bf16⟩
  | .local _ .vmem, ⟨23, _⟩ => ⟨S1x256x1024, .bf16⟩
  | .local _ .vmem, ⟨24, _⟩ => ⟨S1x256x1024, .bf16⟩
  | .local _ .vmem, ⟨25, _⟩ => ⟨S1x256x1024, .bf16⟩
  | .local _ .vmem, ⟨26, _⟩ => ⟨S1x1x8x128, .f32⟩
  | .local _ .vmem, ⟨27, _⟩ => ⟨S1x1x8x128, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev main_v3_3 : Ref sig .tc := ⟨.hbm, 11, rfl⟩
abbrev main_v3_4 : Ref sig .tc := ⟨.hbm, 12, rfl⟩
abbrev main_v3_5 : Ref sig .tc := ⟨.hbm, 13, rfl⟩
abbrev main_v3_6 : Ref sig .tc := ⟨.hbm, 14, rfl⟩
abbrev main_v3_7 : Ref sig .tc := ⟨.hbm, 15, rfl⟩
abbrev main_v3_8 : Ref sig .tc := ⟨.hbm, 16, rfl⟩
abbrev main_v3_9 : Ref sig .tc := ⟨.hbm, 17, rfl⟩
abbrev main_v3_10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27

abbrev nD : Nat := 1
abbrev τ : Topo := Topo.v7x

variable {F : FTy → Type} [FloatOps F]

abbrev grid0 : Pipeline.Grid := ⟨2, ![8, 32], ![false, false]⟩

def k0_off1 (i : grid0.Coords) : Fin 2 → Nat :=
  let arg0 : BitVec 32 := BitVec.ofNat 32 (i 0).val
  let v2 : Index := Scalar.indexCast arg0
  let c0_2 : Index := 0#32
  ![v2.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x7680 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x256x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x256x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x1x8x128 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]
-- ==== ReferenceIdeal.lean ====
abbrev S8x8192x1024 : Shape := ⟨3, ![8, 8192, 1024]⟩
abbrev S1024 : Shape := ⟨1, ![1024]⟩
abbrev S16x6144 : Shape := ⟨2, ![16, 6144]⟩
abbrev S2x2x1024 : Shape := ⟨3, ![2, 2, 1024]⟩
abbrev S1024x7680 : Shape := ⟨2, ![1024, 7680]⟩
abbrev S_ : Shape := ⟨0, ![]⟩
abbrev S2x1024 : Shape := ⟨2, ![2, 1024]⟩
abbrev S2x1x1024 : Shape := ⟨3, ![2, 1, 1024]⟩
abbrev S8x6144 : Shape := ⟨2, ![8, 6144]⟩
abbrev S8x1x6144 : Shape := ⟨3, ![8, 1, 6144]⟩
abbrev S8x1x1024 : Shape := ⟨3, ![8, 1, 1024]⟩
abbrev S8x8192 : Shape := ⟨2, ![8, 8192]⟩
abbrev S8x8192x1 : Shape := ⟨3, ![8, 8192, 1]⟩
abbrev S1x1x1024 : Shape := ⟨3, ![1, 1, 1024]⟩
abbrev S8x8192x7680 : Shape := ⟨3, ![8, 8192, 7680]⟩
abbrev S8x8192x512 : Shape := ⟨3, ![8, 8192, 512]⟩

abbrev nBuf : Space → Nat
  | .hbm => 149
  | .vmem => 0
  | .smem => 0
  | _ => 0

abbrev hbmTy0_0 (i : Nat) : BufTy := match i % 128 with
  | 0 => ⟨S8x8192x1024, .f32⟩
  | 1 => ⟨S1024, .f32⟩
  | 2 => ⟨S16x6144, .f32⟩
  | 3 => ⟨S2x2x1024, .f32⟩
  | 4 => ⟨S1024x7680, .f32⟩
  | 5 => ⟨S_, .f32⟩
  | 6 => ⟨S2x1024, .f32⟩
  | 7 => ⟨S_, .f32⟩
  | 8 => ⟨S2x1024, .f32⟩
  | 9 => ⟨S2x1024, .f32⟩
  | 10 => ⟨S2x1x1024, .f32⟩
  | 11 => ⟨S2x2x1024, .f32⟩
  | 12 => ⟨S2x2x1024, .f32⟩
  | 13 => ⟨S2x2x1024, .f32⟩
  | 14 => ⟨S_, .f32⟩
  | 15 => ⟨S2x1024, .f32⟩
  | 16 => ⟨S2x1x1024, .f32⟩
  | 17 => ⟨S2x2x1024, .f32⟩
  | 18 => ⟨S2x2x1024, .f32⟩
  | 19 => ⟨S_, .f32⟩
  | 20 => ⟨S_, .f32⟩
  | 21 => ⟨S2x2x1024, .f32⟩
  | 22 => ⟨S8x6144, .f32⟩
  | 23 => ⟨S8x1x6144, .f32⟩
  | 24 => ⟨S8x1x1024, .f32⟩
  | 25 => ⟨S8x1x1024, .f32⟩
  | 26 => ⟨S8x1x1024, .f32⟩
  | 27 => ⟨S8x1x1024, .f32⟩
  | 28 => ⟨S8x1x1024, .f32⟩
  | 29 => ⟨S8x1x1024, .f32⟩
  | 30 => ⟨S8x8192x1024, .f32⟩
  | 31 => ⟨S_, .f32⟩
  | 32 => ⟨S8x8192, .f32⟩
  | 33 => ⟨S8x8192x1, .f32⟩
  | 34 => ⟨S_, .f32⟩
  | 35 => ⟨S8x8192x1, .f32⟩
  | 36 => ⟨S8x8192x1, .f32⟩
  | 37 => ⟨S_, .f32⟩
  | 38 => ⟨S8x8192x1, .f32⟩
  | 39 => ⟨S8x8192x1, .f32⟩
  | 40 => ⟨S8x8192x1, .f32⟩
  | 41 => ⟨S8x8192x1024, .f32⟩
  | 42 => ⟨S8x8192x1024, .f32⟩
  | 43 => ⟨S1x1x1024, .f32⟩
  | 44 => ⟨S8x8192x1024, .f32⟩
  | 45 => ⟨S8x8192x1024, .f32⟩
  | 46 => ⟨S_, .f32⟩
  | 47 => ⟨S8x1x1024, .f32⟩
  | 48 => ⟨S8x1x1024, .f32⟩
  | 49 => ⟨S8x8192x1024, .f32⟩
  | 50 => ⟨S8x8192x1024, .f32⟩
  | 51 => ⟨S8x8192x1024, .f32⟩
  | 52 => ⟨S8x8192x1024, .f32⟩
  | 53 => ⟨S8x8192x7680, .f32⟩
  | 54 => ⟨S8x8192x1024, .f32⟩
  | 55 => ⟨S8x8192x1024, .f32⟩
  | 56 => ⟨S8x8192x1024, .f32⟩
  | 57 => ⟨S_, .f32⟩
  | 58 => ⟨S8x8192x1024, .f32⟩
  | 59 => ⟨S8x8192x1024, .f32⟩
  | 60 => ⟨S_, .f32⟩
  | 61 => ⟨S8x8192x1024, .f32⟩
  | 62 => ⟨S8x8192x1024, .f32⟩
  | 63 => ⟨S8x8192x1024, .f32⟩
  | 64 => ⟨S8x8192x1024, .f32⟩
  | 65 => ⟨S8x8192x1024, .f32⟩
  | 66 => ⟨S1x1x1024, .f32⟩
  | 67 => ⟨S1024, .f32⟩
  | 68 => ⟨S_, .f32⟩
  | 69 => ⟨S1024, .f32⟩
  | 70 => ⟨S1024, .f32⟩
  | 71 => ⟨S8x8192x1024, .f32⟩
  | 72 => ⟨S8x8192x1024, .f32⟩
  | 73 => ⟨S_, .f32⟩
  | 74 => ⟨S8x8192x1024, .f32⟩
  | 75 => ⟨S8x8192x1024, .f32⟩
  | 76 => ⟨S_, .f32⟩
  | 77 => ⟨S8x8192x1024, .f32⟩
  | 78 => ⟨S8x8192x1024, .f32⟩
  | 79 => ⟨S1x1x1024, .f32⟩
  | 80 => ⟨S8x8192x1024, .f32⟩
  | 81 => ⟨S8x8192x1024, .f32⟩
  | 82 => ⟨S1x1x1024, .f32⟩
  | 83 => ⟨S8x8192x1024, .f32⟩
  | 84 => ⟨S8x8192x1024, .f32⟩
  | 85 => ⟨S_, .f32⟩
  | 86 => ⟨S8x8192x1024, .f32⟩
  | 87 => ⟨S8x8192x1024, .f32⟩
  | 88 => ⟨S8x8192x1024, .f32⟩
  | 89 => ⟨S8x8192x1024, .f32⟩
  | 90 => ⟨S1x1x1024, .f32⟩
  | 91 => ⟨S1024, .f32⟩
  | 92 => ⟨S_, .f32⟩
  | 93 => ⟨S1024, .f32⟩
  | 94 => ⟨S1024, .f32⟩
  | 95 => ⟨S8x8192x1024, .f32⟩
  | 96 => ⟨S8x8192x1024, .f32⟩
  | 97 => ⟨S_, .f32⟩
  | 98 => ⟨S8x8192x1024, .f32⟩
  | 99 => ⟨S8x8192x1024, .f32⟩
  | 100 => ⟨S_, .f32⟩
  | 101 => ⟨S8x8192x1024, .f32⟩
  | 102 => ⟨S8x8192x1024, .f32⟩
  | 103 => ⟨S1x1x1024, .f32⟩
  | 104 => ⟨S8x8192x1024, .f32⟩
  | 105 => ⟨S8x8192x1024, .f32⟩
  | 106 => ⟨S1x1x1024, .f32⟩
  | 107 => ⟨S8x8192x1024, .f32⟩
  | 108 => ⟨S8x8192x1024, .f32⟩
  | 109 => ⟨S_, .f32⟩
  | 110 => ⟨S8x8192x1024, .f32⟩
  | 111 => ⟨S8x8192x1024, .f32⟩
  | 112 => ⟨S8x8192x1024, .f32⟩
  | 113 => ⟨S8x8192x1024, .f32⟩
  | 114 => ⟨S8x8192x1024, .f32⟩
  | 115 => ⟨S8x8192x1024, .f32⟩
  | 116 => ⟨S_, .f32⟩
  | 117 => ⟨S8x8192x1024, .f32⟩
  | 118 => ⟨S8x8192x1024, .f32⟩
  | 119 => ⟨S_, .f32⟩
  | 120 => ⟨S8x8192x1024, .f32⟩
  | 121 => ⟨S8x8192x1024, .f32⟩
  | 122 => ⟨S8x8192x1024, .f32⟩
  | 123 => ⟨S8x8192x512, .f32⟩
  | 124 => ⟨S8x8192x1024, .f32⟩
  | 125 => ⟨S8x8192x1024, .f32⟩
  | 126 => ⟨S8x8192x1024, .f32⟩
  | 127 => ⟨S_, .f32⟩
  | _ => ⟨S8x8192x1024, .f32⟩

abbrev hbmTy0_1 (i : Nat) : BufTy := match i % 128 with
  | 0 => ⟨S8x8192x1024, .f32⟩
  | 1 => ⟨S8x8192x1024, .f32⟩
  | 2 => ⟨S_, .f32⟩
  | 3 => ⟨S8x8192x1024, .f32⟩
  | 4 => ⟨S8x8192x1024, .f32⟩
  | 5 => ⟨S8x8192x1024, .f32⟩
  | 6 => ⟨S8x8192x1024, .f32⟩
  | 7 => ⟨S8x8192x1024, .f32⟩
  | 8 => ⟨S_, .f32⟩
  | 9 => ⟨S8x8192x1024, .f32⟩
  | 10 => ⟨S8x8192x1024, .f32⟩
  | 11 => ⟨S_, .f32⟩
  | 12 => ⟨S8x8192x1024, .f32⟩
  | 13 => ⟨S8x8192x1024, .f32⟩
  | 14 => ⟨S8x8192x1024, .bf16⟩
  | 15 => ⟨S8x8192x1024, .bf16⟩
  | 16 => ⟨S8x8192x1024, .bf16⟩
  | 17 => ⟨S8x8192x1024, .bf16⟩
  | 18 => ⟨S8x8192x1024, .bf16⟩
  | 19 => ⟨S8x8192x1024, .bf16⟩
  | 20 => ⟨S8x8192x1024, .bf16⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_call1_v0 : Ref sig .tc := ⟨.hbm, 55, rfl⟩
abbrev main_call1_v1 : Ref sig .tc := ⟨.hbm, 56, rfl⟩
abbrev main_call1_cst : Ref sig .tc := ⟨.hbm, 57, rfl⟩
abbrev main_call1_v2 : Ref sig .tc := ⟨.hbm, 58, rfl⟩
abbrev main_call1_v3 : Ref sig .tc := ⟨.hbm, 59, rfl⟩
abbrev main_call1_cst_0 : Ref sig .tc := ⟨.hbm, 60, rfl⟩
abbrev main_call1_v4 : Ref sig .tc := ⟨.hbm, 61, rfl⟩
abbrev main_call1_v5 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_cst_6 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_cst_8 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_cst_9 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_cst_10 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_cst_11 : Ref sig .tc := ⟨.hbm, 97, rfl⟩
abbrev main_v70 : Ref sig .tc := ⟨.hbm, 98, rfl⟩
abbrev main_v71 : Ref sig .tc := ⟨.hbm, 99, rfl⟩
abbrev main_cst_12 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_v79 : Ref sig .tc := ⟨.hbm, 108, rfl⟩
abbrev main_cst_13 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_call2_v0 : Ref sig .tc := ⟨.hbm, 114, rfl⟩
abbrev main_call2_v1 : Ref sig .tc := ⟨.hbm, 115, rfl⟩
abbrev main_call2_cst : Ref sig .tc := ⟨.hbm, 116, rfl⟩
abbrev main_call2_v2 : Ref sig .tc := ⟨.hbm, 117, rfl⟩
abbrev main_call2_v3 : Ref sig .tc := ⟨.hbm, 118, rfl⟩
abbrev main_call2_cst_0 : Ref sig .tc := ⟨.hbm, 119, rfl⟩
abbrev main_call2_v4 : Ref sig .tc := ⟨.hbm, 120, rfl⟩
abbrev main_call2_v5 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_cst_14 : Ref sig .tc := ⟨.hbm, 127, rfl⟩
abbrev main_v89 : Ref sig .tc := ⟨.hbm, 128, rfl⟩
abbrev main_v90 : Ref sig .tc := ⟨.hbm, 129, rfl⟩
abbrev main_cst_15 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_16 : Ref sig .tc := ⟨.hbm, 136, rfl⟩
abbrev main_v96 : Ref sig .tc := ⟨.hbm, 137, rfl⟩
abbrev main_v97 : Ref sig .tc := ⟨.hbm, 138, rfl⟩
abbrev main_cst_17 : Ref sig .tc := ⟨.hbm, 139, rfl⟩
abbrev main_v98 : Ref sig .tc := ⟨.hbm, 140, rfl⟩
abbrev main_v99 : Ref sig .tc := ⟨.hbm, 141, rfl⟩
abbrev main_v100 : Ref sig .tc := ⟨.hbm, 142, rfl⟩
abbrev main_v101 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_v105 : Ref sig .tc := ⟨.hbm, 147, rfl⟩
abbrev main_v106 : Ref sig .tc := ⟨.hbm, 148, rfl⟩

abbrev nD : Nat := 1
abbrev τ : Topo := Topo.v7x

variable {F : FTy → Type} [FloatOps F]
-- ==== Kernel2.lean ====
abbrev S8x16x1088x1024 : Shape := ⟨4, ![8, 16, 1088, 1024]⟩
abbrev S16x1024x1024 : Shape := ⟨3, ![16, 1024, 1024]⟩
abbrev S8x16x1024x1024 : Shape := ⟨4, ![8, 16, 1024, 1024]⟩
abbrev S1x1x1024x1024 : Shape := ⟨4, ![1, 1, 1024, 1024]⟩
abbrev S1x1024x1024 : Shape := ⟨3, ![1, 1024, 1024]⟩
abbrev S1024x1024 : Shape := ⟨2, ![1024, 1024]⟩
abbrev S1x1x256x1024 : Shape := ⟨4, ![1, 1, 256, 1024]⟩
abbrev S256x1024 : Shape := ⟨2, ![256, 1024]⟩

abbrev nBuf : Space → Nat
  | .hbm => 5
  | .vmem => 13
  | .smem => 0
  | _ => 0

abbrev bufTy : (tb : Table) → Fin (tcTables nBuf tb) → BufTy
  | .hbm, ⟨0, _⟩ => ⟨S8x16x1088x1024, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S8x16x1024x1024, .bf16⟩
  | .local _ .vmem, ⟨0, _⟩ => ⟨S1x1x1024x1024, .bf16⟩
  | .local _ .vmem, ⟨1, _⟩ => ⟨S1x1x1024x1024, .bf16⟩
  | .local _ .vmem, ⟨2, _⟩ => ⟨S1x1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024x1024, .bf16⟩
  | .local _ .vmem, ⟨9, _⟩ => ⟨S1x1x1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1024x1024, .bf16⟩
  | _, _ => ⟨S8x16x1088x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, arg0.toNat, c0_i32.toNat, c0_i32_0.toNat]

abbrev stage0_0 : Fin 2 → Memref sig .tc .vmem S1x1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1x1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x16x1088x1024 : Shape := ⟨4, ![8, 16, 1088, 1024]⟩
abbrev S16x1024x1024 : Shape := ⟨3, ![16, 1024, 1024]⟩
abbrev S8x16x1024x1024 : Shape := ⟨4, ![8, 16, 1024, 1024]⟩
abbrev S16x1024x8x1024 : Shape := ⟨4, ![16, 1024, 8, 1024]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S8x16x1088x1024, .bf16⟩
  | .hbm, ⟨1, _⟩ => ⟨S16x1024x1024, .f32⟩
  | .hbm, ⟨2, _⟩ => ⟨S16x1024x1024, .f32⟩
  | .hbm, ⟨3, _⟩ => ⟨S16x1024x1024, .f32⟩
  | .hbm, ⟨4, _⟩ => ⟨S8x16x1024x1024, .bf16⟩
  | .hbm, ⟨5, _⟩ => ⟨S8x16x1024x1024, .f32⟩
  | .hbm, ⟨6, _⟩ => ⟨S16x1024x8x1024, .f32⟩
  | .hbm, ⟨7, _⟩ => ⟨S8x16x1024x1024, .f32⟩
  | .hbm, ⟨8, _⟩ => ⟨S8x16x1024x1024, .f32⟩
  | .hbm, ⟨9, _⟩ => ⟨S8x16x1024x1024, .f32⟩
  | .hbm, ⟨10, _⟩ => ⟨S_, .f32⟩
  | .hbm, ⟨11, _⟩ => ⟨S8x16x1024x1024, .f32⟩
  | .hbm, ⟨12, _⟩ => ⟨S8x16x1024x1024, .f32⟩
  | .hbm, ⟨13, _⟩ => ⟨S_, .f32⟩
  | .hbm, ⟨14, _⟩ => ⟨S8x16x1024x1024, .f32⟩
  | .hbm, ⟨15, _⟩ => ⟨S8x16x1024x1024, .f32⟩
  | .hbm, ⟨16, _⟩ => ⟨S8x16x1024x1024, .f32⟩
  | .hbm, ⟨17, _⟩ => ⟨S16x1024x8x1024, .f32⟩
  | .hbm, ⟨18, _⟩ => ⟨S8x16x1024x1024, .f32⟩
  | .hbm, ⟨19, _⟩ => ⟨S8x16x1024x1024, .f32⟩
  | .hbm, ⟨20, _⟩ => ⟨S16x1024x8x1024, .f32⟩
  | .hbm, ⟨21, _⟩ => ⟨S8x16x1024x1024, .f32⟩
  | .hbm, ⟨22, _⟩ => ⟨S8x16x1024x1024, .bf16⟩
  | _, _ => ⟨S8x16x1088x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Kernel3.lean ====
abbrev S8x8192x1024 : Shape := ⟨3, ![8, 8192, 1024]⟩
abbrev S8x8192x512 : Shape := ⟨3, ![8, 8192, 512]⟩
abbrev S16x6144 : Shape := ⟨2, ![16, 6144]⟩
abbrev S128 : Shape := ⟨1, ![128]⟩
abbrev S1024 : Shape := ⟨1, ![1024]⟩
abbrev S1024x1024 : Shape := ⟨2, ![1024, 1024]⟩
abbrev S512x1024 : Shape := ⟨2, ![512, 1024]⟩
abbrev S1024x16 : Shape := ⟨2, ![1024, 16]⟩
abbrev S1x128 : Shape := ⟨2, ![1, 128]⟩
abbrev S1x1024 : Shape := ⟨2, ![1, 1024]⟩
abbrev S16x1024 : Shape := ⟨2, ![16, 1024]⟩
abbrev S8x16x8192 : Shape := ⟨3, ![8, 16, 8192]⟩
abbrev S1x512x1024 : Shape := ⟨3, ![1, 512, 1024]⟩
abbrev S1x512x512 : Shape := ⟨3, ![1, 512, 512]⟩
abbrev S1x16x512 : Shape := ⟨3, ![1, 16, 512]⟩
abbrev S1x6144 : Shape := ⟨2, ![1, 6144]⟩
abbrev S1x512x128 : Shape := ⟨3, ![1, 512, 128]⟩
abbrev S512x128 : Shape := ⟨2, ![512, 128]⟩
abbrev S512 : Shape := ⟨1, ![512]⟩
abbrev S512x1 : Shape := ⟨2, ![512, 1]⟩
abbrev S512x512 : Shape := ⟨2, ![512, 512]⟩
abbrev S16x512 : Shape := ⟨2, ![16, 512]⟩
abbrev S1x512 : Shape := ⟨2, ![1, 512]⟩

abbrev nBuf : Space → Nat
  | .hbm => 24
  | .vmem => 27
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x512, .bf16⟩
  | .hbm, ⟨5, _⟩ => ⟨S8x8192x1024, .bf16⟩
  | .hbm, ⟨6, _⟩ => ⟨S8x8192x1024, .bf16⟩
  | .hbm, ⟨7, _⟩ => ⟨S16x6144, .f32⟩
  | .hbm, ⟨8, _⟩ => ⟨S128, .f32⟩
  | .hbm, ⟨9, _⟩ => ⟨S1024, .f32⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S1x128, .f32⟩
  | .hbm, ⟨15, _⟩ => ⟨S1x1024, .f32⟩
  | .hbm, ⟨16, _⟩ => ⟨S1024x1024, .bf16⟩
  | .hbm, ⟨17, _⟩ => ⟨S512x1024, .bf16⟩
  | .hbm, ⟨18, _⟩ => ⟨S1024x1024, .bf16⟩
  | .hbm, ⟨19, _⟩ => ⟨S16x1024, .f32⟩
  | .hbm, ⟨20, _⟩ => ⟨S16x1024, .bf16⟩
  | .hbm, ⟨21, _⟩ => ⟨S8x8192x1024, .f32⟩
  | .hbm, ⟨22, _⟩ => ⟨S8x8192x1024, .bf16⟩
  | .hbm, ⟨23, _⟩ => ⟨S8x16x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .bf16⟩
  | .local _ .vmem, ⟨3, _⟩ => ⟨S1x512x1024, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x512x512, .bf16⟩
  | .local _ .vmem, ⟨9, _⟩ => ⟨S1x512x512, .bf16⟩
  | .local _ .vmem, ⟨10, _⟩ => ⟨S1x512x1024, .bf16⟩
  | .local _ .vmem, ⟨11, _⟩ => ⟨S1x512x1024, .bf16⟩
  | .local _ .vmem, ⟨12, _⟩ => ⟨S1x512x1024, .bf16⟩
  | .local _ .vmem, ⟨13, _⟩ => ⟨S1x512x1024, .bf16⟩
  | .local _ .vmem, ⟨14, _⟩ => ⟨S16x6144, .f32⟩
  | .local _ .vmem, ⟨15, _⟩ => ⟨S1x128, .f32⟩
  | .local _ .vmem, ⟨16, _⟩ => ⟨S1x1024, .f32⟩
  | .local _ .vmem, ⟨17, _⟩ => ⟨S1024x1024, .bf16⟩
  | .local _ .vmem, ⟨18, _⟩ => ⟨S512x1024, .bf16⟩
  | .local _ .vmem, ⟨19, _⟩ => ⟨S1024x1024, .bf16⟩
  | .local _ .vmem, ⟨20, _⟩ => ⟨S16x1024, .bf16⟩
  | .local _ .vmem, ⟨21, _⟩ => ⟨S1x512x1024, .f32⟩
  | .local _ .vmem, ⟨22, _⟩ => ⟨S1x512x1024, .f32⟩
  | .local _ .vmem, ⟨23, _⟩ => ⟨S1x512x1024, .bf16⟩
  | .local _ .vmem, ⟨24, _⟩ => ⟨S1x512x1024, .bf16⟩
  | .local _ .vmem, ⟨25, _⟩ => ⟨S1x16x512, .f32⟩
  | .local _ .vmem, ⟨26, _⟩ => ⟨S1x16x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7_0 : Ref sig .tc := ⟨.hbm, 21, rfl⟩
abbrev main_v7_1 : Ref sig .tc := ⟨.hbm, 22, rfl⟩
abbrev main_v7_2 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg13_0 : Ref sig .tc := ⟨.vmem, 20, rfl⟩
abbrev cc0_stg14_0 : Ref sig .tc := ⟨.vmem, 21, rfl⟩
abbrev cc0_stg14_1 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem13_0 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26

abbrev nD : Nat := 1
abbrev τ : Topo := Topo.v7x

variable {F : FTy → Type} [FloatOps F]

abbrev grid0 : Pipeline.Grid := ⟨2, ![8, 16], ![false, false]⟩

def k0_off1 (i : grid0.Coords) : Fin 2 → Nat :=
  let arg0 : BitVec 32 := BitVec.ofNat 32 (i 0).val
  let v0 : Index := Scalar.indexCast arg0
  let c0 : Index := 0#32
  ![v0.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x6144 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S512x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S16x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x1024 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x16x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference3Ideal.lean ====
abbrev S8x8192x1024 : Shape := ⟨3, ![8, 8192, 1024]⟩
abbrev S8x8192x512 : Shape := ⟨3, ![8, 8192, 512]⟩
abbrev S16x6144 : Shape := ⟨2, ![16, 6144]⟩
abbrev S128 : Shape := ⟨1, ![128]⟩
abbrev S1024 : Shape := ⟨1, ![1024]⟩
abbrev S1024x1024 : Shape := ⟨2, ![1024, 1024]⟩
abbrev S512x1024 : Shape := ⟨2, ![512, 1024]⟩
abbrev S1024x16 : Shape := ⟨2, ![1024, 16]⟩
abbrev S8x6144 : Shape := ⟨2, ![8, 6144]⟩
abbrev S8x1x6144 : Shape := ⟨3, ![8, 1, 6144]⟩
abbrev S8x1x1024 : Shape := ⟨3, ![8, 1, 1024]⟩
abbrev S8x8192x8x128 : Shape := ⟨4, ![8, 8192, 8, 128]⟩
abbrev S_ : Shape := ⟨0, ![]⟩
abbrev S8x8192x8 : Shape := ⟨3, ![8, 8192, 8]⟩
abbrev S8x8192x8x1 : Shape := ⟨4, ![8, 8192, 8, 1]⟩
abbrev S1x1x1x128 : Shape := ⟨4, ![1, 1, 1, 128]⟩
abbrev S8x8192 : Shape := ⟨2, ![8, 8192]⟩
abbrev S8x8192x1 : Shape := ⟨3, ![8, 8192, 1]⟩
abbrev S1x1x1024 : Shape := ⟨3, ![1, 1, 1024]⟩
abbrev S8x8192x16 : Shape := ⟨3, ![8, 8192, 16]⟩
abbrev S8x16x8192 : Shape := ⟨3, ![8, 16, 8192]⟩

abbrev nBuf : Space → Nat
  | .hbm => 97
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x1024, .bf16⟩
  | .hbm, ⟨2, _⟩ => ⟨S8x8192x1024, .bf16⟩
  | .hbm, ⟨3, _⟩ => ⟨S8x8192x1024, .bf16⟩
  | .hbm, ⟨4, _⟩ => ⟨S8x8192x512, .bf16⟩
  | .hbm, ⟨5, _⟩ => ⟨S8x8192x1024, .bf16⟩
  | .hbm, ⟨6, _⟩ => ⟨S8x8192x1024, .bf16⟩
  | .hbm, ⟨7, _⟩ => ⟨S16x6144, .f32⟩
  | .hbm, ⟨8, _⟩ => ⟨S128, .f32⟩
  | .hbm, ⟨9, _⟩ => ⟨S1024, .f32⟩
  | .hbm, ⟨10, _⟩ => ⟨S1024x1024, .f32⟩
  | .hbm, ⟨11, _⟩ => ⟨S512x1024, .f32⟩
  | .hbm, ⟨12, _⟩ => ⟨S1024x1024, .f32⟩
  | .hbm, ⟨13, _⟩ => ⟨S1024x16, .f32⟩
  | .hbm, ⟨14, _⟩ => ⟨S8x6144, .f32⟩
  | .hbm, ⟨15, _⟩ => ⟨S8x1x6144, .f32⟩
  | .hbm, ⟨16, _⟩ => ⟨S8x1x1024, .f32⟩
  | .hbm, ⟨17, _⟩ => ⟨S8x1x1024, .f32⟩
  | .hbm, ⟨18, _⟩ => ⟨S8x1x1024, .f32⟩
  | .hbm, ⟨19, _⟩ => ⟨S8x1x1024, .f32⟩
  | .hbm, ⟨20, _⟩ => ⟨S8x1x1024, .f32⟩
  | .hbm, ⟨21, _⟩ => ⟨S8x1x1024, .f32⟩
  | .hbm, ⟨22, _⟩ => ⟨S8x8192x1024, .f32⟩
  | .hbm, ⟨23, _⟩ => ⟨S8x8192x1024, .f32⟩
  | .hbm, ⟨24, _⟩ => ⟨S8x8192x1024, .f32⟩
  | .hbm, ⟨25, _⟩ => ⟨S8x8192x8x128, .f32⟩
  | .hbm, ⟨26, _⟩ => ⟨S8x8192x8x128, .f32⟩
  | .hbm, ⟨27, _⟩ => ⟨S_, .f32⟩
  | .hbm, ⟨28, _⟩ => ⟨S8x8192x8, .f32⟩
  | .hbm, ⟨29, _⟩ => ⟨S8x8192x8x1, .f32⟩
  | .hbm, ⟨30, _⟩ => ⟨S_, .f32⟩
  | .hbm, ⟨31, _⟩ => ⟨S8x8192x8x1, .f32⟩
  | .hbm, ⟨32, _⟩ => ⟨S8x8192x8x1, .f32⟩
  | .hbm, ⟨33, _⟩ => ⟨S_, .f32⟩
  | .hbm, ⟨34, _⟩ => ⟨S8x8192x8x1, .f32⟩
  | .hbm, ⟨35, _⟩ => ⟨S8x8192x8x1, .f32⟩
  | .hbm, ⟨36, _⟩ => ⟨S8x8192x8x1, .f32⟩
  | .hbm, ⟨37, _⟩ => ⟨S8x8192x8x128, .f32⟩
  | .hbm, ⟨38, _⟩ => ⟨S8x8192x8x128, .f32⟩
  | .hbm, ⟨39, _⟩ => ⟨S1x1x1x128, .f32⟩
  | .hbm, ⟨40, _⟩ => ⟨S8x8192x8x128, .f32⟩
  | .hbm, ⟨41, _⟩ => ⟨S8x8192x8x128, .f32⟩
  | .hbm, ⟨42, _⟩ => ⟨S8x8192x1024, .f32⟩
  | .hbm, ⟨43, _⟩ => ⟨S8x8192x1024, .f32⟩
  | .hbm, ⟨44, _⟩ => ⟨S8x8192x1024, .f32⟩
  | .hbm, ⟨45, _⟩ => ⟨S8x8192x1024, .f32⟩
  | .hbm, ⟨46, _⟩ => ⟨S8x8192x512, .f32⟩
  | .hbm, ⟨47, _⟩ => ⟨S8x8192x1024, .f32⟩
  | .hbm, ⟨48, _⟩ => ⟨S8x8192x1024, .f32⟩
  | .hbm, ⟨49, _⟩ => ⟨S8x8192x1024, .f32⟩
  | .hbm, ⟨50, _⟩ => ⟨S8x8192x1024, .f32⟩
  | .hbm, ⟨51, _⟩ => ⟨S8x8192x1024, .f32⟩
  | .hbm, ⟨52, _⟩ => ⟨S8x8192x1024, .f32⟩
  | .hbm, ⟨53, _⟩ => ⟨S8x8192x1024, .f32⟩
  | .hbm, ⟨54, _⟩ => ⟨S8x8192x1024, .f32⟩
  | .hbm, ⟨55, _⟩ => ⟨S8x8192x1024, .f32⟩
  | .hbm, ⟨56, _⟩ => ⟨S8x8192x1024, .f32⟩
  | .hbm, ⟨57, _⟩ => ⟨S8x8192x1024, .f32⟩
  | .hbm, ⟨58, _⟩ => ⟨S_, .f32⟩
  | .hbm, ⟨59, _⟩ => ⟨S8x8192, .f32⟩
  | .hbm, ⟨60, _⟩ => ⟨S8x8192x1, .f32⟩
  | .hbm, ⟨61, _⟩ => ⟨S_, .f32⟩
  | .hbm, ⟨62, _⟩ => ⟨S8x8192x1, .f32⟩
  | .hbm, ⟨63, _⟩ => ⟨S8x8192x1, .f32⟩
  | .hbm, ⟨64, _⟩ => ⟨S_, .f32⟩
  | .hbm, ⟨65, _⟩ => ⟨S8x8192x1, .f32⟩
  | .hbm, ⟨66, _⟩ => ⟨S8x8192x1, .f32⟩
  | .hbm, ⟨67, _⟩ => ⟨S8x8192x1, .f32⟩
  | .hbm, ⟨68, _⟩ => ⟨S8x8192x1024, .f32⟩
  | .hbm, ⟨69, _⟩ => ⟨S8x8192x1024, .f32⟩
  | .hbm, ⟨70, _⟩ => ⟨S1x1x1024, .f32⟩
  | .hbm, ⟨71, _⟩ => ⟨S8x8192x1024, .f32⟩
  | .hbm, ⟨72, _⟩ => ⟨S8x8192x1024, .f32⟩
  | .hbm, ⟨73, _⟩ => ⟨S_, .f32⟩
  | .hbm, ⟨74, _⟩ => ⟨S8x1x1024, .f32⟩
  | .hbm, ⟨75, _⟩ => ⟨S8x1x1024, .f32⟩
  | .hbm, ⟨76, _⟩ => ⟨S8x8192x1024, .f32⟩
  | .hbm, ⟨77, _⟩ => ⟨S8x8192x1024, .f32⟩
  | .hbm, ⟨78, _⟩ => ⟨S8x8192x1024, .f32⟩
  | .hbm, ⟨79, _⟩ => ⟨S8x8192x1024, .f32⟩
  | .hbm, ⟨80, _⟩ => ⟨S8x8192x16, .f32⟩
  | .hbm, ⟨81, _⟩ => ⟨S_, .f32⟩
  | .hbm, ⟨82, _⟩ => ⟨S8x8192, .f32⟩
  | .hbm, ⟨83, _⟩ => ⟨S_, .f32⟩
  | .hbm, ⟨84, _⟩ => ⟨S8x8192, .f32⟩
  | .hbm, ⟨85, _⟩ => ⟨S8x8192, .f32⟩
  | .hbm, ⟨86, _⟩ => ⟨S8x8192x1, .f32⟩
  | .hbm, ⟨87, _⟩ => ⟨S8x8192x16, .f32⟩
  | .hbm, ⟨88, _⟩ => ⟨S8x8192x16, .f32⟩
  | .hbm, ⟨89, _⟩ => ⟨S8x8192x16, .f32⟩
  | .hbm, ⟨90, _⟩ => ⟨S_, .f32⟩
  | .hbm, ⟨91, _⟩ => ⟨S8x8192, .f32⟩
  | .hbm, ⟨92, _⟩ => ⟨S8x8192x1, .f32⟩
  | .hbm, ⟨93, _⟩ => ⟨S8x8192x16, .f32⟩
  | .hbm, ⟨94, _⟩ => ⟨S8x8192x16, .f32⟩
  | .hbm, ⟨95, _⟩ => ⟨S8x8192x1024, .bf16⟩
  | .hbm, ⟨96, _⟩ => ⟨S8x16x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_2 : Ref sig .tc := ⟨.hbm, 58, rfl⟩
abbrev main_v41 : Ref sig .tc := ⟨.hbm, 59, rfl⟩
abbrev main_v42 : Ref sig .tc := ⟨.hbm, 60, rfl⟩
abbrev main_cst_3 : Ref sig .tc := ⟨.hbm, 61, rfl⟩
abbrev main_v43 : Ref sig .tc := ⟨.hbm, 62, rfl⟩
abbrev main_v44 : Ref sig .tc := ⟨.hbm, 63, rfl⟩
abbrev main_cst_4 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_5 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_6 : Ref sig .tc := ⟨.hbm, 81, rfl⟩
abbrev main_v60 : Ref sig .tc := ⟨.hbm, 82, rfl⟩
abbrev main_cst_7 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_cst_8 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩

abbrev nD : Nat := 1
abbrev τ : Topo := Topo.v7x

variable {F : FTy → Type} [FloatOps F]
-- ==== Kernel4.lean ====
abbrev S16x1024 : Shape := ⟨2, ![16, 1024]⟩
abbrev S1024x6144 : Shape := ⟨2, ![1024, 6144]⟩
abbrev S6144 : Shape := ⟨1, ![6144]⟩
abbrev S1x6144 : Shape := ⟨2, ![1, 6144]⟩
abbrev S16x6144 : Shape := ⟨2, ![16, 6144]⟩
abbrev S1024x768 : Shape := ⟨2, ![1024, 768]⟩
abbrev S1x768 : Shape := ⟨2, ![1, 768]⟩
abbrev S16x768 : Shape := ⟨2, ![16, 768]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S1x6144, .f32⟩
  | .hbm, ⟨4, _⟩ => ⟨S16x6144, .f32⟩
  | .local _ .vmem, ⟨0, _⟩ => ⟨S16x1024, .f32⟩
  | .local _ .vmem, ⟨1, _⟩ => ⟨S1024x768, .f32⟩
  | .local _ .vmem, ⟨2, _⟩ => ⟨S1024x768, .f32⟩
  | .local _ .vmem, ⟨3, _⟩ => ⟨S1x768, .f32⟩
  | .local _ .vmem, ⟨4, _⟩ => ⟨S1x768, .f32⟩
  | .local _ .vmem, ⟨5, _⟩ => ⟨S16x768, .f32⟩
  | .local _ .vmem, ⟨6, _⟩ => ⟨S16x768, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference4Ideal.lean ====
abbrev S16x1024 : Shape := ⟨2, ![16, 1024]⟩
abbrev S1024x6144 : Shape := ⟨2, ![1024, 6144]⟩
abbrev S6144 : Shape := ⟨1, ![6144]⟩
abbrev S_ : Shape := ⟨0, ![]⟩
abbrev S16x6144 : Shape := ⟨2, ![16, 6144]⟩
abbrev S1x6144 : Shape := ⟨2, ![1, 6144]⟩

abbrev nBuf : Space → Nat
  | .hbm => 16
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S1024x6144, .f32⟩
  | .hbm, ⟨2, _⟩ => ⟨S6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S16x6144, .f32⟩
  | .hbm, ⟨13, _⟩ => ⟨S1x6144, .f32⟩
  | .hbm, ⟨14, _⟩ => ⟨S16x6144, .f32⟩
  | .hbm, ⟨15, _⟩ => ⟨S16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel5.lean ====
abbrev S1024 : Shape := ⟨1, ![1024]⟩
abbrev S8x8192x1024 : Shape := ⟨3, ![8, 8192, 1024]⟩
abbrev S8x8x128x128 : Shape := ⟨4, ![8, 8, 128, 128]⟩
abbrev S1x256x1024 : Shape := ⟨3, ![1, 256, 1024]⟩
abbrev S1x8x128x128 : Shape := ⟨4, ![1, 8, 128, 128]⟩
abbrev S8x128x128 : Shape := ⟨3, ![8, 128, 128]⟩
abbrev S128x1024 : Shape := ⟨2, ![128, 1024]⟩
abbrev S1 : Shape := ⟨1, ![1]⟩
abbrev S1x128x1024 : Shape := ⟨3, ![1, 128, 1024]⟩
abbrev S128x128 : Shape := ⟨2, ![128, 128]⟩
abbrev S1x1024 : Shape := ⟨2, ![1, 1024]⟩
abbrev S1x128 : Shape := ⟨2, ![1, 128]⟩
abbrev S120x128 : Shape := ⟨2, ![120, 128]⟩
abbrev S32x128 : Shape := ⟨2, ![32, 128]⟩
abbrev S64x128 : Shape := ⟨2, ![64, 128]⟩
abbrev S64x256 : Shape := ⟨2, ![64, 256]⟩
abbrev S128x256 : Shape := ⟨2, ![128, 256]⟩
abbrev S64x512 : Shape := ⟨2, ![64, 512]⟩
abbrev S128x512 : Shape := ⟨2, ![128, 512]⟩
abbrev S1x128x128 : Shape := ⟨3, ![1, 128, 128]⟩
abbrev S256x128 : Shape := ⟨2, ![256, 128]⟩
abbrev S128x1 : Shape := ⟨2, ![128, 1]⟩
abbrev S128 : Shape := ⟨1, ![128]⟩

abbrev nBuf : Space → Nat
  | .hbm => 12
  | .vmem => 31
  | .smem => 1
  | _ => 0

abbrev bufTy : (tb : Table) → Fin (tcTables nBuf tb) → BufTy
  | .hbm, ⟨0, _⟩ => ⟨S8x8192x1024, .bf16⟩
  | .hbm, ⟨1, _⟩ => ⟨S8x8192x1024, .bf16⟩
  | .hbm, ⟨2, _⟩ => ⟨S8x8192x1024, .bf16⟩
  | .hbm, ⟨3, _⟩ => ⟨S8x8192x1024, .f32⟩
  | .hbm, ⟨4, _⟩ => ⟨S8x8192x1024, .bf16⟩
  | .hbm, ⟨5, _⟩ => ⟨S8x8192x1024, .bf16⟩
  | .hbm, ⟨6, _⟩ => ⟨S8x8192x1024, .bf16⟩
  | .hbm, ⟨7, _⟩ => ⟨S8x8192x1024, .f32⟩
  | .hbm, ⟨8, _⟩ => ⟨S8x8x128x128, .f32⟩
  | .hbm, ⟨9, _⟩ => ⟨S8x8x128x128, .f32⟩
  | .hbm, ⟨10, _⟩ => ⟨S8x8192x1024, .bf16⟩
  | .hbm, ⟨11, _⟩ => ⟨S8x8192x1024, .bf16⟩
  | .local _ .vmem, ⟨0, _⟩ => ⟨S1x256x1024, .bf16⟩
  | .local _ .vmem, ⟨1, _⟩ => ⟨S1x256x1024, .bf16⟩
  | .local _ .vmem, ⟨2, _⟩ => ⟨S1x256x1024, .bf16⟩
  | .local _ .vmem, ⟨3, _⟩ => ⟨S1x256x1024, .bf16⟩
  | .local _ .vmem, ⟨4, _⟩ => ⟨S1x256x1024, .bf16⟩
  | .local _ .vmem, ⟨5, _⟩ => ⟨S1x256x1024, .bf16⟩
  | .local _ .vmem, ⟨6, _⟩ => ⟨S1x256x1024, .f32⟩
  | .local _ .vmem, ⟨7, _⟩ => ⟨S1x256x1024, .f32⟩
  | .local _ .vmem, ⟨8, _⟩ => ⟨S1x256x1024, .bf16⟩
  | .local _ .vmem, ⟨9, _⟩ => ⟨S1x256x1024, .bf16⟩
  | .local _ .vmem, ⟨10, _⟩ => ⟨S1x256x1024, .bf16⟩
  | .local _ .vmem, ⟨11, _⟩ => ⟨S1x256x1024, .bf16⟩
  | .local _ .vmem, ⟨12, _⟩ => ⟨S1x256x1024, .bf16⟩
  | .local _ .vmem, ⟨13, _⟩ => ⟨S1x256x1024, .bf16⟩
  | .local _ .vmem, ⟨14, _⟩ => ⟨S1x256x1024, .f32⟩
  | .local _ .vmem, ⟨15, _⟩ => ⟨S1x256x1024, .f32⟩
  | .local _ .vmem, ⟨16, _⟩ => ⟨S1x8x128x128, .f32⟩
  | .local _ .vmem, ⟨17, _⟩ => ⟨S1x8x128x128, .f32⟩
  | .local _ .vmem, ⟨18, _⟩ => ⟨S1x8x128x128, .f32⟩
  | .local _ .vmem, ⟨19, _⟩ => ⟨S1x8x128x128, .f32⟩
  | .local _ .vmem, ⟨20, _⟩ => ⟨S1x256x1024, .bf16⟩
  | .local _ .vmem, ⟨21, _⟩ => ⟨S1x256x1024, .bf16⟩
  | .local _ .vmem, ⟨22, _⟩ => ⟨S1x256x1024, .bf16⟩
  | .local _ .vmem, ⟨23, _⟩ => ⟨S1x256x1024, .bf16⟩
  | .local _ .vmem, ⟨24, _⟩ => ⟨S8x128x128, .f32⟩
  | .local _ .vmem, ⟨25, _⟩ => ⟨S8x128x128, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .f32⟩
  | .local _ .smem, ⟨0, _⟩ => ⟨S1024, .i32⟩
  | _, _ => ⟨S8x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_arg9 : Ref sig .tc := ⟨.hbm, 8, rfl⟩
abbrev main_arg10 : Ref sig .tc := ⟨.hbm, 9, rfl⟩
abbrev main_v0_0 : Ref sig .tc := ⟨.hbm, 10, rfl⟩
abbrev main_v0_1 : Ref sig .tc := ⟨.hbm, 11, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_scratch5 : Ref sig .tc := ⟨.vmem, 29, rfl⟩
abbrev cc0_scratch6 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32_1 : BitVec 32 := 0#32
  let c2_i32 : BitVec 32 := 2#32
  let v3 : BitVec 32 := Scalar.addi c0_i32_1 c2_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  v4
def k0_mult2 (k0_t1 : Fin k0_t1_loop.trips) : BitVec 32 :=
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  v7
def k0_off1 (i : grid0.Coords) (k0_t1 : Fin k0_t1_loop.trips) : Fin 1 → Nat :=
  let arg0 : BitVec 32 := BitVec.ofNat 32 (i 0).val
  let c64_i32 : BitVec 32 := 64#32
  let v11 : BitVec 32 := Scalar.muli arg0 c64_i32
  let arg1 : BitVec 32 := BitVec.ofNat 32 (i 1).val
  let c2_i32_5 : BitVec 32 := 2#32
  let v9 : BitVec 32 := Scalar.muli arg1 c2_i32_5
  let c0_i32_1 : BitVec 32 := 0#32
  let c1_i32 : BitVec 32 := 1#32
  let arg22 : BitVec 32 := Scf.iv c0_i32_1 c1_i32 k0_t1
  let v10 : BitVec 32 := Scalar.addi v9 arg22
  let v12 : BitVec 32 := Scalar.addi v11 v10
  let c2_i32_6 : BitVec 32 := 2#32
  let v13 : BitVec 32 := Scalar.muli v12 c2_i32_6
  let v14 : Index := Scalar.indexCast v13
  ![v14.toNat]
def k0_off2 (i : grid0.Coords) (k0_t1 : Fin k0_t1_loop.trips) : Fin 1 → Nat :=
  let arg0 : BitVec 32 := BitVec.ofNat 32 (i 0).val
  let c64_i32_7 : BitVec 32 := 64#32
  let v16 : BitVec 32 := Scalar.muli arg0 c64_i32_7
  let c64_i32_8 : BitVec 32 := 64#32
  let v17 : BitVec 32 := Scalar.addi v16 c64_i32_8
  let c1_i32_9 : BitVec 32 := 1#32
  let v18 : BitVec 32 := Scalar.subi v17 c1_i32_9
  let arg1 : BitVec 32 := BitVec.ofNat 32 (i 1).val
  let c2_i32_5 : BitVec 32 := 2#32
  let v9 : BitVec 32 := Scalar.muli arg1 c2_i32_5
  let c0_i32_1 : BitVec 32 := 0#32
  let c1_i32 : BitVec 32 := 1#32
  let arg22 : BitVec 32 := Scf.iv c0_i32_1 c1_i32 k0_t1
  let v10 : BitVec 32 := Scalar.addi v9 arg22
  let v19 : BitVec 32 := Scalar.subi v18 v10
  let c2_i32_10 : BitVec 32 := 2#32
  let v20 : BitVec 32 := Scalar.muli v19 c2_i32_10
  let c1_i32_11 : BitVec 32 := 1#32
  let v21 : BitVec 32 := Scalar.addi v20 c1_i32_11
  let v22 : Index := Scalar.indexCast v21
  ![v22.toNat]
def k0_off3 (k0_t1 : Fin k0_t1_loop.trips) : Fin 3 → Nat :=
  let c0_i32_13 : BitVec 32 := 0#32
  let v31 : Index := Scalar.indexCast c0_i32_13
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let v32 : Index := Scalar.indexCast v5
  let c0 : Index := 0#32
  ![0, v32.toNat, 0]
def k0_off4 (k0_t1 : Fin k0_t1_loop.trips) : Fin 3 → Nat :=
  let c0_i32_14 : BitVec 32 := 0#32
  let v52 : Index := Scalar.indexCast c0_i32_14
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let v53 : Index := Scalar.indexCast v8
  let c0_40 : Index := 0#32
  ![0, v53.toNat, 0]
def k0_off5 (k0_t1 : Fin k0_t1_loop.trips) : Fin 3 → Nat :=
  let c0_i32_15 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let c0_i32_56 : BitVec 32 := 0#32
  ![0, v5.toNat, 0]
def k0_off6 (k0_t1 : Fin k0_t1_loop.trips) : Fin 3 → Nat :=
  let c0_i32_17 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let c0_i32_137 : BitVec 32 := 0#32
  ![0, v8.toNat, 0]
def k0_off7 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let c0_i32_223 : BitVec 32 := 0#32
  ![0, v5.toNat, 0]
def k0_off8 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 128]
def k0_off9 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 256]
def k0_off10 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 384]
def k0_off11 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 512]
def k0_off12 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 640]
def k0_off13 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 768]
def k0_off14 (k0_t1 : Fin k0_t1_loop.trips) : Fin 3 → Nat :=
  let c0_i32_20 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 896]
def k0_off15 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let c0_i32_304 : BitVec 32 := 0#32
  ![0, v8.toNat, 0]
def k0_off16 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 128]
def k0_off17 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 256]
def k0_off18 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 384]
def k0_off19 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 512]
def k0_off20 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 640]
def k0_off21 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 768]
def k0_off22 (k0_t1 : Fin k0_t1_loop.trips) : Fin 3 → Nat :=
  let c0_i32_22 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 896]
def k0_off23 (k0_t1 : Fin k0_t1_loop.trips) : Fin 3 → Nat :=
  let c0_i32_24 : BitVec 32 := 0#32
  let v31 : Index := Scalar.indexCast c0_i32_24
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let v32 : Index := Scalar.indexCast v5
  let c0 : Index := 0#32
  ![0, v32.toNat, 0]
def k0_off24 (k0_t1 : Fin k0_t1_loop.trips) : Fin 3 → Nat :=
  let c0_i32_25 : BitVec 32 := 0#32
  let v52 : Index := Scalar.indexCast c0_i32_25
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let v53 : Index := Scalar.indexCast v8
  let c0_40 : Index := 0#32
  ![0, v53.toNat, 0]
@[reducible] def k0_t2_loop : Scf.Loop 32 :=
  let c0_i32_59 : BitVec 32 := 0#32
  let c128_i32_60 : BitVec 32 := 128#32
  let v100 : BitVec 32 := Scalar.addi c0_i32_59 c128_i32_60
  let c1_i32_61 : BitVec 32 := 1#32
  ⟨c0_i32_59, v100, c1_i32_61⟩
def k0_off25 (k0_t2 : Fin k0_t2_loop.trips) : Fin 2 → Nat :=
  let c0_i32_59 : BitVec 32 := 0#32
  let c1_i32_61 : BitVec 32 := 1#32
  let arg23 : BitVec 32 := Scf.iv c0_i32_59 c1_i32_61 k0_t2
  let v575 : Index := Scalar.indexCast arg23
  let c0_378 : Index := 0#32
  ![v575.toNat, 0]
def k0_off26 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let c0_i32_73 : BitVec 32 := 0#32
  ![0, v5.toNat, 0]
def k0_off27 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  let c0_i32_73 : BitVec 32 := 0#32
  ![0, v5.toNat, 0]
def k0_off28 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 128]
def k0_off29 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 256]
def k0_off30 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 384]
def k0_off31 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 512]
def k0_off32 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 640]
def k0_off33 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 768]
def k0_off34 (k0_t1 : Fin k0_t1_loop.trips) : Fin 3 → Nat :=
  let c0_i32_29 : BitVec 32 := 0#32
  let c0_i32_1 : BitVec 32 := 0#32
  let c1_i32 : BitVec 32 := 1#32
  let arg22 : BitVec 32 := Scf.iv c0_i32_1 c1_i32 k0_t1
  let c128_i32 : BitVec 32 := 128#32
  let v4 : BitVec 32 := Scalar.muli arg22 c128_i32
  let v5 : BitVec 32 := v4
  ![0, v5.toNat, 896]
@[reducible] def k0_t3_loop : Scf.Loop 32 :=
  let c0_i32_217 : BitVec 32 := 0#32
  let c128_i32_218 : BitVec 32 := 128#32
  let v350 : BitVec 32 := Scalar.addi c0_i32_217 c128_i32_218
  let c1_i32_219 : BitVec 32 := 1#32
  ⟨c0_i32_217, v350, c1_i32_219⟩
def k0_off35 (k0_t3 : Fin k0_t3_loop.trips) : Fin 2 → Nat :=
  let c0_i32_217 : BitVec 32 := 0#32
  let c1_i32_219 : BitVec 32 := 1#32
  let arg23 : BitVec 32 := Scf.iv c0_i32_217 c1_i32_219 k0_t3
  let v575 : Index := Scalar.indexCast arg23
  let c0_378 : Index := 0#32
  ![v575.toNat, 0]
def k0_off36 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let c0_i32_232 : BitVec 32 := 0#32
  ![0, v8.toNat, 0]
def k0_off37 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  let c0_i32_232 : BitVec 32 := 0#32
  ![0, v8.toNat, 0]
def k0_off38 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 128]
def k0_off39 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 256]
def k0_off40 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 384]
def k0_off41 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 512]
def k0_off42 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 640]
def k0_off43 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 768]
def k0_off44 (k0_t1 : Fin k0_t1_loop.trips) : Fin 3 → Nat :=
  let c0_i32_33 : BitVec 32 := 0#32
  let c1_i32_3 : BitVec 32 := 1#32
  let c0_i32_1 : BitVec 32 := 0#32
  let c1_i32 : BitVec 32 := 1#32
  let arg22 : BitVec 32 := Scf.iv c0_i32_1 c1_i32 k0_t1
  let v6 : BitVec 32 := Scalar.subi c1_i32_3 arg22
  let c128_i32_4 : BitVec 32 := 128#32
  let v7 : BitVec 32 := Scalar.muli v6 c128_i32_4
  let v8 : BitVec 32 := v7
  ![0, v8.toNat, 896]
def k0_cond2 (v15 : BitVec 32) (v23 : BitVec 32) : BitVec 1 :=
  let v24 : BitVec 32 := Scalar.addi v15 v23
  let c2_i32_12 : BitVec 32 := 2#32
  let v25 : BitVec 1 := Scalar.cmpi .eq v24 c2_i32_12
  let v26 : BitVec 32 := Scalar.extui v25
  let c0_i32_23 : BitVec 32 := 0#32
  let v27 : BitVec 1 := Scalar.cmpi .ne v26 c0_i32_23
  v27

def k0_cond3 (v15 : BitVec 32) (v23 : BitVec 32) : BitVec 1 :=
  let v24 : BitVec 32 := Scalar.addi v15 v23
  let c2_i32_12 : BitVec 32 := 2#32
  let v25 : BitVec 1 := Scalar.cmpi .eq v24 c2_i32_12
  let v_true : BitVec 1 := 1#1
  let v28 : BitVec 1 := Scalar.xori v25 v_true
  let v29 : BitVec 32 := Scalar.extui v28
  let c0_i32_34 : BitVec 32 := 0#32
  let v30 : BitVec 1 := Scalar.cmpi .ne v29 c0_i32_34
  v30

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c31_i32 : BitVec 32 := 31#32
  let v0 : BitVec 32 := Scalar.subi c31_i32 arg1
  let c0_i32 : BitVec 32 := 0#32
  let c0_i32_0 : BitVec 32 := 0#32
  ![arg0.toNat, v0.toNat, c0_i32.toNat]

abbrev stage0_0 : Fin 2 → Memref sig .tc .vmem S1x256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x8x128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x256x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== Kernel6.lean ====
abbrev S8x256x1024 : Shape := ⟨3, ![8, 256, 1024]⟩
abbrev S1024 : Shape := ⟨1, ![1024]⟩
abbrev S16x6144 : Shape := ⟨2, ![16, 6144]⟩
abbrev S2x2x1024 : Shape := ⟨3, ![2, 2, 1024]⟩
abbrev S1024x7680 : Shape := ⟨2, ![1024, 7680]⟩
abbrev S1x1024 : Shape := ⟨2, ![1, 1024]⟩
abbrev S4x1024 : Shape := ⟨2, ![4, 1024]⟩
abbrev S8x8x128x128 : Shape := ⟨4, ![8, 8, 128, 128]⟩
abbrev S1x256x1024 : Shape := ⟨3, ![1, 256, 1024]⟩
abbrev S1024x1024 : Shape := ⟨2, ![1024, 1024]⟩
abbrev S1x8x128x128 : Shape := ⟨4, ![1, 8, 128, 128]⟩
abbrev S256x1024 : Shape := ⟨2, ![256, 1024]⟩
abbrev S256 : Shape := ⟨1, ![256]⟩
abbrev S256x1 : Shape := ⟨2, ![256, 1]⟩
abbrev S256x256 : Shape := ⟨2, ![256, 256]⟩
abbrev S256x128 : Shape := ⟨2, ![256, 128]⟩
abbrev S128x128 : Shape := ⟨2, ![128, 128]⟩
abbrev S1x1x128x128 : Shape := ⟨4, ![1, 1, 128, 128]⟩

abbrev nBuf : Space → Nat
  | .hbm => 10
  | .vmem => 12
  | .smem => 0
  | _ => 0

abbrev bufTy : (tb : Table) → Fin (tcTables nBuf tb) → BufTy
  | .hbm, ⟨0, _⟩ => ⟨S8x256x1024, .f32⟩
  | .hbm, ⟨1, _⟩ => ⟨S1024, .f32⟩
  | .hbm, ⟨2, _⟩ => ⟨S16x6144, .f32⟩
  | .hbm, ⟨3, _⟩ => ⟨S2x2x1024, .f32⟩
  | .hbm, ⟨4, _⟩ => ⟨S1024x7680, .f32⟩
  | .hbm, ⟨5, _⟩ => ⟨S1x1024, .f32⟩
  | .hbm, ⟨6, _⟩ => ⟨S4x1024, .f32⟩
  | .hbm, ⟨7, _⟩ => ⟨S1024x7680, .bf16⟩
  | .hbm, ⟨8, _⟩ => ⟨S8x8x128x128, .f32⟩
  | .hbm, ⟨9, _⟩ => ⟨S8x8x128x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S16x6144, .f32⟩
  | .local _ .vmem, ⟨4, _⟩ => ⟨S4x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1x8x128x128, .f32⟩
  | .local _ .vmem, ⟨9, _⟩ => ⟨S1x8x128x128, .f32⟩
  | .local _ .vmem, ⟨10, _⟩ => ⟨S1x8x128x128, .f32⟩
  | .local _ .vmem, ⟨11, _⟩ => ⟨S1x8x128x128, .f32⟩
  | _, _ => ⟨S8x256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_5 (i : grid0.Coords) : Fin 2 → Nat :=
  let arg0 : BitVec 32 := BitVec.ofNat 32 (i 0).val
  let c0_i32 : BitVec 32 := 0#32
  let c2_i32 : BitVec 32 := 2#32
  let c0_i32_0 : BitVec 32 := 0#32
  ![c0_i32.toNat, c2_i32.toNat]

def cc0_transform_6 (i : grid0.Coords) : Fin 2 → Nat :=
  let arg0 : BitVec 32 := BitVec.ofNat 32 (i 0).val
  let c0_i32 : BitVec 32 := 0#32
  let c3_i32 : BitVec 32 := 3#32
  let c0_i32_0 : BitVec 32 := 0#32
  ![c0_i32.toNat, c3_i32.toNat]

def cc0_transform_7 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x8x128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x8x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference6Ideal.lean ====
abbrev S8x256x1024 : Shape := ⟨3, ![8, 256, 1024]⟩
abbrev S1024 : Shape := ⟨1, ![1024]⟩
abbrev S16x6144 : Shape := ⟨2, ![16, 6144]⟩
abbrev S2x2x1024 : Shape := ⟨3, ![2, 2, 1024]⟩
abbrev S1024x7680 : Shape := ⟨2, ![1024, 7680]⟩
abbrev S_ : Shape := ⟨0, ![]⟩
abbrev S2x1024 : Shape := ⟨2, ![2, 1024]⟩
abbrev S2x1x1024 : Shape := ⟨3, ![2, 1, 1024]⟩
abbrev S1x6144 : Shape := ⟨2, ![1, 6144]⟩
abbrev S6144 : Shape := ⟨1, ![6144]⟩
abbrev S8x256 : Shape := ⟨2, ![8, 256]⟩
abbrev S8x256x1 : Shape := ⟨3, ![8, 256, 1]⟩
abbrev S1x1x1024 : Shape := ⟨3, ![1, 1, 1024]⟩
abbrev S1024x3072 : Shape := ⟨2, ![1024, 3072]⟩
abbrev S8x256x3072 : Shape := ⟨3, ![8, 256, 3072]⟩
abbrev S8x8x128x128 : Shape := ⟨4, ![8, 8, 128, 128]⟩
abbrev S8x256x8x128 : Shape := ⟨4, ![8, 256, 8, 128]⟩
abbrev S8x1x8x128 : Shape := ⟨4, ![8, 1, 8, 128]⟩
abbrev S8x8x128 : Shape := ⟨3, ![8, 8, 128]⟩
abbrev S8x8x128x1 : Shape := ⟨4, ![8, 8, 128, 1]⟩

abbrev nBuf : Space → Nat
  | .hbm => 148
  | .vmem => 0
  | .smem => 0
  | _ => 0

abbrev hbmTy0_0 (i : Nat) : BufTy := match i % 128 with
  | 0 => ⟨S8x256x1024, .f32⟩
  | 1 => ⟨S1024, .f32⟩
  | 2 => ⟨S16x6144, .f32⟩
  | 3 => ⟨S2x2x1024, .f32⟩
  | 4 => ⟨S1024x7680, .f32⟩
  | 5 => ⟨S_, .f32⟩
  | 6 => ⟨S2x1024, .f32⟩
  | 7 => ⟨S_, .f32⟩
  | 8 => ⟨S2x1024, .f32⟩
  | 9 => ⟨S2x1024, .f32⟩
  | 10 => ⟨S2x1x1024, .f32⟩
  | 11 => ⟨S2x2x1024, .f32⟩
  | 12 => ⟨S2x2x1024, .f32⟩
  | 13 => ⟨S2x2x1024, .f32⟩
  | 14 => ⟨S_, .f32⟩
  | 15 => ⟨S2x1024, .f32⟩
  | 16 => ⟨S2x1x1024, .f32⟩
  | 17 => ⟨S2x2x1024, .f32⟩
  | 18 => ⟨S2x2x1024, .f32⟩
  | 19 => ⟨S_, .f32⟩
  | 20 => ⟨S_, .f32⟩
  | 21 => ⟨S2x2x1024, .f32⟩
  | 22 => ⟨S1x6144, .f32⟩
  | 23 => ⟨S6144, .f32⟩
  | 24 => ⟨S1024, .f32⟩
  | 25 => ⟨S1024, .f32⟩
  | 26 => ⟨S1024, .f32⟩
  | 27 => ⟨S1024, .f32⟩
  | 28 => ⟨S1024, .f32⟩
  | 29 => ⟨S1024, .f32⟩
  | 30 => ⟨S8x256x1024, .f32⟩
  | 31 => ⟨S_, .f32⟩
  | 32 => ⟨S8x256, .f32⟩
  | 33 => ⟨S8x256x1, .f32⟩
  | 34 => ⟨S_, .f32⟩
  | 35 => ⟨S8x256x1, .f32⟩
  | 36 => ⟨S8x256x1, .f32⟩
  | 37 => ⟨S_, .f32⟩
  | 38 => ⟨S8x256x1, .f32⟩
  | 39 => ⟨S8x256x1, .f32⟩
  | 40 => ⟨S8x256x1, .f32⟩
  | 41 => ⟨S8x256x1024, .f32⟩
  | 42 => ⟨S8x256x1024, .f32⟩
  | 43 => ⟨S1x1x1024, .f32⟩
  | 44 => ⟨S8x256x1024, .f32⟩
  | 45 => ⟨S8x256x1024, .f32⟩
  | 46 => ⟨S_, .f32⟩
  | 47 => ⟨S1024, .f32⟩
  | 48 => ⟨S1024, .f32⟩
  | 49 => ⟨S1x1x1024, .f32⟩
  | 50 => ⟨S8x256x1024, .f32⟩
  | 51 => ⟨S8x256x1024, .f32⟩
  | 52 => ⟨S1x1x1024, .f32⟩
  | 53 => ⟨S8x256x1024, .f32⟩
  | 54 => ⟨S8x256x1024, .f32⟩
  | 55 => ⟨S1024x3072, .f32⟩
  | 56 => ⟨S8x256x3072, .f32⟩
  | 57 => ⟨S_, .f32⟩
  | 58 => ⟨S8x8x128x128, .f32⟩
  | 59 => ⟨S8x256x1024, .f32⟩
  | 60 => ⟨S8x256x8x128, .f32⟩
  | 61 => ⟨S8x256x1024, .f32⟩
  | 62 => ⟨S1x1x1024, .f32⟩
  | 63 => ⟨S1024, .f32⟩
  | 64 => ⟨S_, .f32⟩
  | 65 => ⟨S1024, .f32⟩
  | 66 => ⟨S1024, .f32⟩
  | 67 => ⟨S8x256x1024, .f32⟩
  | 68 => ⟨S8x256x1024, .f32⟩
  | 69 => ⟨S_, .f32⟩
  | 70 => ⟨S8x256x1024, .f32⟩
  | 71 => ⟨S8x256x1024, .f32⟩
  | 72 => ⟨S_, .f32⟩
  | 73 => ⟨S8x256x1024, .f32⟩
  | 74 => ⟨S8x256x1024, .f32⟩
  | 75 => ⟨S1x1x1024, .f32⟩
  | 76 => ⟨S8x256x1024, .f32⟩
  | 77 => ⟨S8x256x1024, .f32⟩
  | 78 => ⟨S1x1x1024, .f32⟩
  | 79 => ⟨S8x256x1024, .f32⟩
  | 80 => ⟨S8x256x1024, .f32⟩
  | 81 => ⟨S_, .f32⟩
  | 82 => ⟨S8x256x1024, .f32⟩
  | 83 => ⟨S8x256x1024, .f32⟩
  | 84 => ⟨S8x256x1024, .f32⟩
  | 85 => ⟨S8x256x8x128, .f32⟩
  | 86 => ⟨S8x256x8x128, .f32⟩
  | 87 => ⟨S8x256x1024, .f32⟩
  | 88 => ⟨S1x1x1024, .f32⟩
  | 89 => ⟨S1024, .f32⟩
  | 90 => ⟨S_, .f32⟩
  | 91 => ⟨S1024, .f32⟩
  | 92 => ⟨S1024, .f32⟩
  | 93 => ⟨S8x256x1024, .f32⟩
  | 94 => ⟨S8x256x1024, .f32⟩
  | 95 => ⟨S_, .f32⟩
  | 96 => ⟨S8x256x1024, .f32⟩
  | 97 => ⟨S8x256x1024, .f32⟩
  | 98 => ⟨S_, .f32⟩
  | 99 => ⟨S8x256x1024, .f32⟩
  | 100 => ⟨S8x256x1024, .f32⟩
  | 101 => ⟨S1x1x1024, .f32⟩
  | 102 => ⟨S8x256x1024, .f32⟩
  | 103 => ⟨S8x256x1024, .f32⟩
  | 104 => ⟨S1x1x1024, .f32⟩
  | 105 => ⟨S8x256x1024, .f32⟩
  | 106 => ⟨S8x256x1024, .f32⟩
  | 107 => ⟨S_, .f32⟩
  | 108 => ⟨S8x256x1024, .f32⟩
  | 109 => ⟨S8x256x1024, .f32⟩
  | 110 => ⟨S8x256x1024, .f32⟩
  | 111 => ⟨S8x256x8x128, .f32⟩
  | 112 => ⟨S8x256x8x128, .f32⟩
  | 113 => ⟨S_, .f32⟩
  | 114 => ⟨S_, .f32⟩
  | 115 => ⟨S8x256x8x128, .f32⟩
  | 116 => ⟨S8x1x8x128, .f32⟩
  | 117 => ⟨S8x8x128, .f32⟩
  | 118 => ⟨S8x8x128, .f32⟩
  | 119 => ⟨S8x8x128x1, .f32⟩
  | 120 => ⟨S8x8x128x128, .f32⟩
  | 121 => ⟨S8x8x128x128, .f32⟩
  | 122 => ⟨S8x1x8x128, .f32⟩
  | 123 => ⟨S8x256x8x128, .f32⟩
  | 124 => ⟨S8x256x8x128, .f32⟩
  | 125 => ⟨S8x256x8x128, .f32⟩
  | 126 => ⟨S8x256x8x128, .f32⟩
  | 127 => ⟨S8x8x128x128, .f32⟩
  | _ => ⟨S8x256x1024, .f32⟩

abbrev hbmTy0_1 (i : Nat) : BufTy := match i % 128 with
  | 0 => ⟨S8x8x128x128, .f32⟩
  | 1 => ⟨S8x256x8x128, .f32⟩
  | 2 => ⟨S8x256x8x128, .f32⟩
  | 3 => ⟨S8x256x8x128, .f32⟩
  | 4 => ⟨S_, .f32⟩
  | 5 => ⟨S_, .f32⟩
  | 6 => ⟨S8x256x8x128, .f32⟩
  | 7 => ⟨S8x1x8x128, .f32⟩
  | 8 => ⟨S8x8x128, .f32⟩
  | 9 => ⟨S8x8x128, .f32⟩
  | 10 => ⟨S8x8x128x1, .f32⟩
  | 11 => ⟨S8x8x128x128, .f32⟩
  | 12 => ⟨S8x8x128x128, .f32⟩
  | 13 => ⟨S8x1x8x128, .f32⟩
  | 14 => ⟨S8x256x8x128, .f32⟩
  | 15 => ⟨S8x256x8x128, .f32⟩
  | 16 => ⟨S8x256x8x128, .f32⟩
  | 17 => ⟨S8x256x8x128, .f32⟩
  | 18 => ⟨S8x8x128x128, .f32⟩
  | 19 => ⟨S8x8x128x128, .f32⟩
  | _ => ⟨S8x256x1024, .f32⟩

abbrev hbmTy (i : Nat) : BufTy := match i / 128 with
  | 0 => hbmTy0_0 i
  | 1 => hbmTy0_1 i
  | _ => ⟨S8x256x1024, .f32⟩

abbrev bufTy : (tb : Table) → Fin (tcTables nBuf tb) → BufTy
  | .hbm, ⟨i, _⟩ => hbmTy i
  | _, _ => ⟨S8x256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_call0_call0_cst : Ref sig .tc := ⟨.hbm, 19, rfl⟩
abbrev main_call0_call0_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_5 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_cst_6 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_7 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_8 : Ref sig .tc := ⟨.hbm, 69, rfl⟩
abbrev main_v53 : Ref sig .tc := ⟨.hbm, 70, rfl⟩
abbrev main_v54 : Ref sig .tc := ⟨.hbm, 71, rfl⟩
abbrev main_cst_9 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_cst_10 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_11 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_cst_12 : Ref sig .tc := ⟨.hbm, 95, rfl⟩
abbrev main_v75 : Ref sig .tc := ⟨.hbm, 96, rfl⟩
abbrev main_v76 : Ref sig .tc := ⟨.hbm, 97, rfl⟩
abbrev main_cst_13 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_cst_14 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call1_call0_cst : Ref sig .tc := ⟨.hbm, 113, rfl⟩
abbrev main_call1_call0_v0 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_v105 : Ref sig .tc := ⟨.hbm, 130, rfl⟩
abbrev main_v106 : Ref sig .tc := ⟨.hbm, 131, rfl⟩
abbrev main_call2_call0_cst : Ref sig .tc := ⟨.hbm, 132, rfl⟩
abbrev main_call2_call0_v0 : Ref sig .tc := ⟨.hbm, 133, rfl⟩
abbrev main_v107 : Ref sig .tc := ⟨.hbm, 134, rfl⟩
abbrev main_v108 : Ref sig .tc := ⟨.hbm, 135, rfl⟩
abbrev main_v109 : Ref sig .tc := ⟨.hbm, 136, rfl⟩
abbrev main_v110 : Ref sig .tc := ⟨.hbm, 137, rfl⟩
abbrev main_v111 : Ref sig .tc := ⟨.hbm, 138, rfl⟩
abbrev main_v112 : Ref sig .tc := ⟨.hbm, 139, rfl⟩
abbrev main_v113 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩

abbrev nD : Nat := 1
abbrev τ : Topo := Topo.v7x

variable {F : FTy → Type} [FloatOps F]
-- ==== Proof.InProjBlock.lean ====
/-
  The input projection's kernel, one block of 256 tokens at a time, at the ideal values.
-/
module

public import proofs.«01_k».proof.Defs
public import proofs.«01_k».proof.Proof.Gen.KernelIdeal.Value
public import Idealize.ShloMosaic.Lib.Pipeline.ValueKit
public import Idealize.ShloMosaic.Lib.MatmulPlain
public import Idealize.ShloMosaic.Lib.ValueIdx
public import Idealize.ShloMosaic.Lib.Tactic
public import Idealize.ShloMosaic.Lib.ValueLayout

@[expose] public section

noncomputable section

namespace Cert.Proof.InProj

open Idealize.ShloMosaic Idealize.ShloMosaic.TcCoe Idealize.SL.Sem
open Cert.KernelIdeal Cert.KernelIdeal.Gen
open scoped BigOperators

/-- A token's row, normalised by its root mean square, weighted by `g`, scaled by `1 + sc` and shifted by `sh`. -/
def normed (x g sh sc : Fin 1024 → EReal) (k : Fin 1024) : EReal :=
  x k * Ideal.rsqrt (Ideal.div (∑ j, x j * x j) (Ideal.ofBits .f32 0x44800000#32) + Ideal.ofBits .f32 0x358637BD#32) * g k
    * (Ideal.ofBits .f32 0x3F800000#32 + sc k) + sh k

theorem pay2_apply (v0 : Vec Ideal S1x256x1024 .f32) (v3 : Vec Ideal S1x6144 .f32) (v6 : Vec Ideal S1x1024 .f32) (i : S256x1024.Idx) :
    k0_pay2 v0 v3 v6 i = normed (fun j => v0 (ix3 0 (i 0) j)) (fun j => v6 (ix2 0 j)) (fun j => v3 (ix2 0 ⟨j.val, by omega⟩))
      (fun j => v3 (ix2 0 ⟨1024 + j.val, by omega⟩)) (i 1) := by
  unfold k0_pay2 normed
  dsimp only
  pointwise

/-- The first of two classes' softmax weights. -/
def lower (a b : EReal) : EReal := Ideal.div (Ideal.exp (a - max a b)) (Ideal.exp (a - max a b) + Ideal.exp (b - max a b))

/-- The forget gate between its lower bound and one. -/
def forget (lb z : EReal) : EReal := lb + (1 - lb) * Ideal.logistic z

def silu (z : EReal) : EReal := z * Ideal.logistic z

/-- A row times a column of a block of the matrix. -/
def dotCol {n : Nat} (u : S256x1024.Idx → EReal) (w : (⟨2, ![1024, n]⟩ : Shape).Idx → EReal) (r : Fin 256) (c : Fin n) : EReal := ∑ k : Fin 1024, u (ix2 r k) * w (ix2 k c)

theorem pay3_apply (v0 : Vec Ideal S1x256x1024 .f32) (v3 : Vec Ideal S1x6144 .f32) (v6 : Vec Ideal S1x1024 .f32) (w : Vec Ideal S1024x1024 .bf16) (j : S1x256x1024.Idx) :
    k0_pay3 v0 v3 v6 w j = silu (dotCol (n := 1024) (k0_pay2 v0 v3 v6) w (j 1) (j 2)) := by
  unfold k0_pay3 silu dotCol
  generalize k0_pay2 v0 v3 v6 = u
  pointwise

theorem pay5_apply (u : FVec Ideal S256x1024 .bf16) (a b : Vec Ideal S1x1024 .f32) (w : Vec Ideal S1024x1024 .bf16) (j : S256x1024.Idx) :
    k0_pay5 u (k0_pay4 a) b w j = forget (lower (a (ix2 0 (j 1))) (b (ix2 0 (j 1)))) (dotCol (n := 1024) u w (j 0) (j 1)) := by
  unfold k0_pay5 k0_pay4 forget lower dotCol
  pointwise

theorem pay6_apply (u : FVec Ideal S256x1024 .bf16) (a b : Vec Ideal S1x1024 .f32) (w : Vec Ideal S1024x1024 .bf16) (j : S1x256x1024.Idx) :
    k0_pay6 u (k0_pay4 a) b w j = 1 - forget (lower (a (ix2 0 (j 2))) (b (ix2 0 (j 2)))) (dotCol (n := 1024) u w (j 1) (j 2)) := by
  unfold k0_pay6
  refine Eq.trans ?_ (congrArg (fun z => 1 - z) (pay5_apply u a b w (ix2 (j 1) (j 2))))
  generalize k0_pay5 u (k0_pay4 a) b w = v
  pointwise

theorem pay8_apply (u : FVec Ideal S256x1024 .bf16) (a b : Vec Ideal S1x1024 .f32) (w : Vec Ideal S1024x1024 .bf16) (j : S1x256x1024.Idx) :
    k0_pay8 u (k0_pay4 a) b w j = Ideal.log (forget (lower (a (ix2 0 (j 2))) (b (ix2 0 (j 2)))) (dotCol (n := 1024) u w (j 1) (j 2))) := by
  unfold k0_pay8 k0_pay7
  refine Eq.trans ?_ (congrArg (fun z => Ideal.log z) (pay5_apply u a b w (ix2 (j 1) (j 2))))
  generalize k0_pay5 u (k0_pay4 a) b w = v
  pointwise

theorem pay18_apply (u : FVec Ideal S256x1024 .bf16) (a b : Vec Ideal S1x1024 .f32) (w : Vec Ideal S1024x1024 .bf16) (j : S256x1024.Idx) :
    k0_pay18 u (k0_pay16 a b) (k0_pay17 a b) w j = forget (lower (a (ix2 0 (j 1))) (b (ix2 0 (j 1)))) (dotCol (n := 1024) u w (j 0) (j 1)) := by
  unfold k0_pay18 k0_pay16 k0_pay17 k0_pay15 k0_pay14 k0_pay13 forget lower dotCol
  pointwise

theorem pay19_apply (u : FVec Ideal S256x1024 .bf16) (a b : Vec Ideal S1x1024 .f32) (w : Vec Ideal S1024x1024 .bf16) (j : S1x256x1024.Idx) :
    k0_pay19 u (k0_pay16 a b) (k0_pay17 a b) w j = 1 - forget (lower (a (ix2 0 (j 2))) (b (ix2 0 (j 2)))) (dotCol (n := 1024) u w (j 1) (j 2)) := by
  unfold k0_pay19
  refine Eq.trans ?_ (congrArg (fun z => 1 - z) (pay18_apply u a b w (ix2 (j 1) (j 2))))
  generalize k0_pay18 u (k0_pay16 a b) (k0_pay17 a b) w = v
  pointwise

theorem pay21_apply (u : FVec Ideal S256x1024 .bf16) (a b : Vec Ideal S1x1024 .f32) (w : Vec Ideal S1024x1024 .bf16) (j : S1x256x1024.Idx) :
    k0_pay21 u (k0_pay16 a b) (k0_pay17 a b) w j = Ideal.log (forget (lower (a (ix2 0 (j 2))) (b (ix2 0 (j 2)))) (dotCol (n := 1024) u w (j 1) (j 2))) := by
  unfold k0_pay21 k0_pay20
  refine Eq.trans ?_ (congrArg (fun z => Ideal.log z) (pay18_apply u a b w (ix2 (j 1) (j 2))))
  generalize k0_pay18 u (k0_pay16 a b) (k0_pay17 a b) w = v
  pointwise

theorem pay25_apply (u : FVec Ideal S256x1024 .bf16) (w : Vec Ideal S1024x1024 .bf16) (j : S1x256x1024.Idx) :
    k0_pay25 (k0_pay24 u w) j = silu (dotCol (n := 1024) u w (j 1) (j 2)) := by
  unfold k0_pay25 k0_pay24 silu dotCol
  pointwise

theorem pay26_apply (u : FVec Ideal S256x1024 .bf16) (w : Vec Ideal S1024x1024 .bf16) (j : S1x256x1024.Idx) :
    k0_pay26 u w j = Ideal.logistic (dotCol (n := 1024) u w (j 1) (j 2)) := by
  unfold k0_pay26 dotCol
  pointwise

theorem pay27_apply (u : FVec Ideal S256x1024 .bf16) (w : Vec Ideal S1024x1024 .bf16) (j : S1x256x1024.Idx) :
    k0_pay27 u w j = Ideal.logistic (dotCol (n := 1024) u w (j 1) (j 2)) := by
  unfold k0_pay27 dotCol
  pointwise

theorem pay28_apply (u : FVec Ideal S256x1024 .bf16) (w : Vec Ideal S1024x512 .bf16) (j : S1x256x512.Idx) :
    k0_pay28 u w j = dotCol (n := 512) u w (j 1) (j 2) := by
  unfold k0_pay28 dotCol
  pointwise

theorem pay1_apply (u : FVec Ideal S256x1024 .bf16) (w : Vec Ideal S1024x1024 .bf16) (j : S1x256x1024.Idx) :
    k0_pay1 (k0_pay29 u w) j = dotCol (n := 1024) u w (j 1) (j 2) := by
  unfold k0_pay1 k0_pay29 dotCol
  pointwise

end Cert.Proof.InProj

end
-- ==== Proof.InProjValue.lean ====
/-
  The input projection's kernel over its whole grid: every array it leaves is the layer's function of the arguments.
-/
module

public import proofs.«01_k».proof.Proof.InProjBlock

@[expose] public section

noncomputable section

namespace Cert.Proof.InProj

open Idealize.ShloMosaic Idealize.ShloMosaic.TcCoe Idealize.SL.Sem
open Cert.KernelIdeal Cert.KernelIdeal.Gen
open scoped BigOperators

/-- The modulated norm of token `l` of sample `b`. -/
def hid (x : S8x8192x1024.Idx → EReal) (g : S1024.Idx → EReal) (md : S16x6144.Idx → EReal) (b : Fin 8) (l : Fin 8192) (k : Fin 1024) : EReal :=
  normed (fun j => x (ix3 b l j)) (fun j => g (ix1 j)) (fun j => md (ix2 ⟨b.val, by omega⟩ ⟨j.val, by omega⟩))
    (fun j => md (ix2 ⟨b.val, by omega⟩ ⟨1024 + j.val, by omega⟩)) k

/-- Column `c` of the combined projection of a token. -/
def zed (x : S8x8192x1024.Idx → EReal) (g : S1024.Idx → EReal) (md : S16x6144.Idx → EReal) (w : S1024x7680.Idx → EReal) (b : Fin 8) (l : Fin 8192)
    (c : Fin 7680) : EReal := ∑ k : Fin 1024, hid x g md b l k * w (ix2 k c)

/-- A group of 1024 columns of the projection, from column `o`, each through `f` (which may depend on the column within the group). -/
def group (o : Nat) (ho : o + 1024 ≤ 7680) (f : Fin 1024 → EReal → EReal) (x : S8x8192x1024.Idx → EReal) (g : S1024.Idx → EReal) (md : S16x6144.Idx → EReal)
    (w : S1024x7680.Idx → EReal) : S8x8192x1024.Idx → EReal :=
  fun i => f (i 2) (zed x g md w (i 0) (i 1) ⟨o + (i 2).val, by have h : (i 2).val < 1024 := (i 2).isLt; omega⟩)

/-- The 512 columns that the pooling mixer takes. -/
def poolGroup (x : S8x8192x1024.Idx → EReal) (g : S1024.Idx → EReal) (md : S16x6144.Idx → EReal)
    (w : S1024x7680.Idx → EReal) : S8x8192x512.Idx → EReal :=
  fun i => zed x g md w (i 0) (i 1) ⟨5120 + (i 2).val, by have h : (i 2).val < 512 := (i 2).isLt; omega⟩

/-- The lower bound of the forget gate of direction `d` at column `j`. -/
def bound (a : S2x2x1024.Idx → EReal) (d : Fin 2) (j : Fin 1024) : EReal := lower (a (ix3 d 0 j)) (a (ix3 d 1 j))

/-- What a token keeps in and what it forgets, per direction. -/
def keepOf (a : S2x2x1024.Idx → EReal) (d : Fin 2) (j : Fin 1024) (z : EReal) : EReal := 1 - forget (bound a d j) z
def decayOf (a : S2x2x1024.Idx → EReal) (d : Fin 2) (j : Fin 1024) (z : EReal) : EReal := Ideal.log (forget (bound a d j) z)

variable (m : (ℓ : Loc nD τ sig) → Buf (Elt Ideal) ℓ)

theorem index0 : ∀ t : Fin cfg0.N, win0_0.index t = ![t.val / 32, t.val % 32, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem off1 : ∀ t : Fin cfg0.N, k0_off1 (grid0.coords t) = ![t.val / 32, 0] := (by decide +kernel : ∀ t : Fin grid0.N, _)

theorem div_lt (t : Fin cfg0.N) : t.val / 32 < 8 := by
  have h := lt_of_lt_of_eq t.isLt (show cfg0.N = 256 from N_0)
  omega

/-- The sample of a point, and the token of one of its rows. -/
def sam (t : Fin cfg0.N) : Fin 8 := ⟨t.val / 32, div_lt t⟩
def tok (t : Fin cfg0.N) (r : Fin 256) : Fin 8192 := ⟨t.val % 32 * 256 + r.val, by omega⟩

/-- The modulated norms that a point's body computes. -/
theorem hid_blk (c : Dev nD) (t : Fin cfg0.N) (h : ∀ a, k0_off1 (grid0.coords t) a + (![1, 6144] : Fin 2 → Nat) a ≤ S16x6144.size a) (i : S256x1024.Idx) :
    k0_pay2 (iblk m c 0 t) (View.ld (iblk m c 2 t) (Rect.unit (s := S16x6144) (k0_off1 (grid0.coords t)) ![1, 6144] h)) (iblk m c 1 t) i
      = hid (m ((c : Thread nD τ).loc main_arg0)) (m ((c : Thread nD τ).loc main_arg1)) (m ((c : Thread nD τ).loc main_arg2)) (sam t) (tok t (i 0)) (i 1) := by
  refine (pay2_apply _ _ _ i).trans ?_
  unfold hid
  congr 1
  · funext j
    blk_ext [iblk, V, index0 t]
    · show _ = t.val / 32; omega
    · rfl
  · funext j
    blk_ext! [iblk, V, index1 t]
  · funext j
    rw [View.ld_apply]
    blk_ext! [iblk, V, index2 t, off1 t]
    · show k0_off1 (grid0.coords t) 0 + 1 * 0 = t.val / 32; rw [off1]; simp
    · show k0_off1 (grid0.coords t) 1 + 1 * j.val = j.val; rw [off1]; simp
  · funext j
    rw [View.ld_apply]
    blk_ext! [iblk, V, index2 t, off1 t]
    · show k0_off1 (grid0.coords t) 0 + 1 * 0 = t.val / 32; rw [off1]; simp
    · show k0_off1 (grid0.coords t) 1 + 1 * (1024 + j.val) = 1024 + j.val; rw [off1]; simp

theorem dot_blk (c : Dev nD) (t : Fin cfg0.N) (h : ∀ a, k0_off1 (grid0.coords t) a + (![1, 6144] : Fin 2 → Nat) a ≤ S16x6144.size a) (o n : Nat)
   (hi : ∀ a, (![0, o] : Fin 2 → Nat) a + (![1024, n] : Fin 2 → Nat) a ≤ S1024x7680.size a) (r : Fin 256) (j : Fin n) :
    dotCol (k0_pay2 (iblk m c 0 t) (View.ld (iblk m c 2 t) (Rect.unit (s := S16x6144) (k0_off1 (grid0.coords t)) ![1, 6144] h)) (iblk m c 1 t))
        (View.ld (iblk m c 4 t) (Rect.unit (s := S1024x7680) ![0, o] ![1024, n] hi)) r j
      = zed (m ((c : Thread nD τ).loc main_arg0)) (m ((c : Thread nD τ).loc main_arg1)) (m ((c : Thread nD τ).loc main_arg2)) (m ((c : Thread nD τ).loc main_arg4)) (sam t) (tok t r)
        ⟨o + j.val, by have := hi 1; have h2 : o + n ≤ 7680 := this; omega⟩ := by
  unfold dotCol zed
  refine Finset.sum_congr rfl fun k _ => congrArg₂ (· * ·) (hid_blk m c t h (ix2 r k)) ?_
  rw [View.ld_apply]
  blk_ext! [iblk, V, index4 t]
  · show 0 + 1 * k.val = k.val; omega
  · show o + 1 * j.val = o + j.val; omega

/-- The rows of logits that a point's body reads are the argument's, direction by direction. -/
theorem lb_blk (c : Dev nD) (t : Fin cfg0.N) (q : Fin 4) (h : ∀ a, (![q.val, 0] : Fin 2 → Nat) a + (![1, 1024] : Fin 2 → Nat) a ≤ S4x1024.size a) (j : Fin 1024) :
    View.ld (iblk m c 3 t) (Rect.unit (s := S4x1024) ![q.val, 0] ![1, 1024] h) (ix2 0 j)
      = m ((c : Thread nD τ).loc main_arg3) (ix3 ⟨q.val / 2, by omega⟩ ⟨q.val % 2, by omega⟩ j) := by
  rw [View.ld_apply]
  have e : (Rect.unit (s := S4x1024) ![q.val, 0] ![1, 1024] h).idx (ix2 0 j) = ix2 q j := funext fun a => Fin.ext (by
    match a with
    | ⟨0, _⟩ => show q.val + 1 * 0 = q.val; omega
    | ⟨1, _⟩ => show 0 + 1 * j.val = j.val; omega)
  rw [e]
  blk_ext! [iblk, V, index3 t]

theorem index5 : ∀ t : Fin cfg0.N, win0_5.index t = ![t.val / 32, t.val % 32, 0] := (by decide +kernel : ∀ t : Fin grid0.N, _)
theorem index6 : ∀ t : Fin cfg0.N, win0_6.index t = ![t.val / 32, t.val % 32, 0] := (by decide +kernel : ∀ t : Fin grid0.N, _)
theorem index7 : ∀ t : Fin cfg0.N, win0_7.index t = ![t.val / 32, t.val % 32, 0] := (by decide +kernel : ∀ t : Fin grid0.N, _)
theorem index8 : ∀ t : Fin cfg0.N, win0_8.index t = ![t.val / 32, t.val % 32, 0] := (by decide +kernel : ∀ t : Fin grid0.N, _)
theorem index9 : ∀ t : Fin cfg0.N, win0_9.index t = ![t.val / 32, t.val % 32, 0] := (by decide +kernel : ∀ t : Fin grid0.N, _)
theorem index10 : ∀ t : Fin cfg0.N, win0_10.index t = ![t.val / 32, t.val % 32, 0] := (by decide +kernel : ∀ t : Fin grid0.N, _)
theorem index11 : ∀ t : Fin cfg0.N, win0_11.index t = ![t.val / 32, t.val % 32, 0] := (by decide +kernel : ∀ t : Fin grid0.N, _)
theorem index12 : ∀ t : Fin cfg0.N, win0_12.index t = ![t.val / 32, t.val % 32, 0] := (by decide +kernel : ∀ t : Fin grid0.N, _)
theorem index13 : ∀ t : Fin cfg0.N, win0_13.index t = ![t.val / 32, t.val % 32, 0] := (by decide +kernel : ∀ t : Fin grid0.N, _)
theorem index14 : ∀ t : Fin cfg0.N, win0_14.index t = ![t.val / 32, t.val % 32, 0] := (by decide +kernel : ∀ t : Fin grid0.N, _)

theorem bound_blk0 (c : Dev nD) (t : Fin cfg0.N) (h0 : ∀ a, (![0, 0] : Fin 2 → Nat) a + (![1, 1024] : Fin 2 → Nat) a ≤ S4x1024.size a)
    (h1 : ∀ a, (![1, 0] : Fin 2 → Nat) a + (![1, 1024] : Fin 2 → Nat) a ≤ S4x1024.size a) (j : Fin 1024) :
    lower (View.ld (iblk m c 3 t) (Rect.unit (s := S4x1024) ![0, 0] ![1, 1024] h0) (ix2 0 j)) (View.ld (iblk m c 3 t) (Rect.unit (s := S4x1024) ![1, 0] ![1, 1024] h1) (ix2 0 j))
      = bound (m ((c : Thread nD τ).loc main_arg3)) 0 j := congrArg₂ lower (lb_blk m c t 0 h0 j) (lb_blk m c t 1 h1 j)

theorem bound_blk1 (c : Dev nD) (t : Fin cfg0.N) (h0 : ∀ a, (![2, 0] : Fin 2 → Nat) a + (![1, 1024] : Fin 2 → Nat) a ≤ S4x1024.size a)
    (h1 : ∀ a, (![3, 0] : Fin 2 → Nat) a + (![1, 1024] : Fin 2 → Nat) a ≤ S4x1024.size a) (j : Fin 1024) :
    lower (View.ld (iblk m c 3 t) (Rect.unit (s := S4x1024) ![2, 0] ![1, 1024] h0) (ix2 0 j)) (View.ld (iblk m c 3 t) (Rect.unit (s := S4x1024) ![3, 0] ![1, 1024] h1) (ix2 0 j))
      = bound (m ((c : Thread nD τ).loc main_arg3)) 1 j := congrArg₂ lower (lb_blk m c t 2 h0 j) (lb_blk m c t 3 h1 j)

theorem out5 (c : Dev nD) (t : Fin cfg0.N) (y : S1x256x1024.Idx) :
    (outsAt0 m c t).1 y = group 0 (by decide) (fun _ => silu) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay3_apply _ _ _ _ y).trans ?_
  exact congrArg silu (dot_blk m c t _ 0 1024 _ (y 1) (y 2))

theorem arr5 (c : Dev nD) : (dats m 0 c).arrAt 5 cfg0.N = group 0 (by decide) (fun _ => silu) (m ((c : Thread nD τ).loc main_arg0)) (m ((c : Thread nD τ).loc main_arg1)) (m ((c : Thread nD τ).loc main_arg2)) (m ((c : Thread nD τ).loc main_arg4)) := by
  refine (dats m 0 c).arrAt_eq_of_covers 5 _ (by decide +kernel) fun t hf y => ?_
  blk_simp
  rw [after0_5]
  refine (out5 m c t y).trans (congrArg (group 0 (by decide) (fun _ => silu) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_5.index t 0 * 1 + 1 * (y 0).val; rw [index5]; simp
  | ⟨1, _⟩ => show t.val % 32 * 256 + (y 1).val = win0_5.index t 1 * 256 + 1 * (y 1).val; rw [index5]; simp
  | ⟨2, _⟩ => show (y 2).val = win0_5.index t 2 * 1024 + 1 * (y 2).val; rw [index5]; simp

theorem out6 (c : Dev nD) (t : Fin cfg0.N) (y : S1x256x1024.Idx) :
    (outsAt0 m c t).2.1 y = group 1024 (by decide) (fun _ z => z) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay1_apply _ _ y).trans ?_
  exact dot_blk m c t _ 1024 1024 _ (y 1) (y 2)

theorem arr6 (c : Dev nD) : (dats m 0 c).arrAt 6 cfg0.N = group 1024 (by decide) (fun _ z => z) (m ((c : Thread nD τ).loc main_arg0)) (m ((c : Thread nD τ).loc main_arg1)) (m ((c : Thread nD τ).loc main_arg2)) (m ((c : Thread nD τ).loc main_arg4)) := by
  refine (dats m 0 c).arrAt_eq_of_covers 6 _ (by decide +kernel) fun t hf y => ?_
  blk_simp
  rw [after0_6]
  refine (out6 m c t y).trans (congrArg (group 1024 (by decide) (fun _ z => z) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_6.index t 0 * 1 + 1 * (y 0).val; rw [index6]; simp
  | ⟨1, _⟩ => show t.val % 32 * 256 + (y 1).val = win0_6.index t 1 * 256 + 1 * (y 1).val; rw [index6]; simp
  | ⟨2, _⟩ => show (y 2).val = win0_6.index t 2 * 1024 + 1 * (y 2).val; rw [index6]; simp

theorem out7 (c : Dev nD) (t : Fin cfg0.N) (y : S1x256x1024.Idx) :
    (outsAt0 m c t).2.2.1 y = group 2048 (by decide) (keepOf (m ((c : Thread nD τ).loc main_arg3)) 0) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay6_apply _ _ _ _ y).trans ?_
  exact congrArg₂ (fun b z => 1 - forget b z) (bound_blk0 m c t _ _ (y 2)) (dot_blk m c t _ 2048 1024 _ (y 1) (y 2))

theorem arr7 (c : Dev nD) : (dats m 0 c).arrAt 7 cfg0.N = group 2048 (by decide) (keepOf (m ((c : Thread nD τ).loc main_arg3)) 0) (m ((c : Thread nD τ).loc main_arg0)) (m ((c : Thread nD τ).loc main_arg1)) (m ((c : Thread nD τ).loc main_arg2)) (m ((c : Thread nD τ).loc main_arg4)) := by
  refine (dats m 0 c).arrAt_eq_of_covers 7 _ (by decide +kernel) fun t hf y => ?_
  blk_simp
  rw [after0_7]
  refine (out7 m c t y).trans (congrArg (group 2048 (by decide) (keepOf (m ((c : Thread nD τ).loc main_arg3)) 0) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_7.index t 0 * 1 + 1 * (y 0).val; rw [index7]; simp
  | ⟨1, _⟩ => show t.val % 32 * 256 + (y 1).val = win0_7.index t 1 * 256 + 1 * (y 1).val; rw [index7]; simp
  | ⟨2, _⟩ => show (y 2).val = win0_7.index t 2 * 1024 + 1 * (y 2).val; rw [index7]; simp

theorem out8 (c : Dev nD) (t : Fin cfg0.N) (y : S1x256x1024.Idx) :
    (outsAt0 m c t).2.2.2.1 y = group 2048 (by decide) (decayOf (m ((c : Thread nD τ).loc main_arg3)) 0) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay8_apply _ _ _ _ y).trans ?_
  exact congrArg₂ (fun b z => Ideal.log (forget b z)) (bound_blk0 m c t _ _ (y 2)) (dot_blk m c t _ 2048 1024 _ (y 1) (y 2))

theorem arr8 (c : Dev nD) : (dats m 0 c).arrAt 8 cfg0.N = group 2048 (by decide) (decayOf (m ((c : Thread nD τ).loc main_arg3)) 0) (m ((c : Thread nD τ).loc main_arg0)) (m ((c : Thread nD τ).loc main_arg1)) (m ((c : Thread nD τ).loc main_arg2)) (m ((c : Thread nD τ).loc main_arg4)) := by
  refine (dats m 0 c).arrAt_eq_of_covers 8 _ (by decide +kernel) fun t hf y => ?_
  blk_simp
  rw [after0_8]
  refine (out8 m c t y).trans (congrArg (group 2048 (by decide) (decayOf (m ((c : Thread nD τ).loc main_arg3)) 0) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_8.index t 0 * 1 + 1 * (y 0).val; rw [index8]; simp
  | ⟨1, _⟩ => show t.val % 32 * 256 + (y 1).val = win0_8.index t 1 * 256 + 1 * (y 1).val; rw [index8]; simp
  | ⟨2, _⟩ => show (y 2).val = win0_8.index t 2 * 1024 + 1 * (y 2).val; rw [index8]; simp

theorem out9 (c : Dev nD) (t : Fin cfg0.N) (y : S1x256x1024.Idx) :
    (outsAt0 m c t).2.2.2.2.1 y = group 3072 (by decide) (keepOf (m ((c : Thread nD τ).loc main_arg3)) 1) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay19_apply _ _ _ _ y).trans ?_
  exact congrArg₂ (fun b z => 1 - forget b z) (bound_blk1 m c t _ _ (y 2)) (dot_blk m c t _ 3072 1024 _ (y 1) (y 2))

theorem arr9 (c : Dev nD) : (dats m 0 c).arrAt 9 cfg0.N = group 3072 (by decide) (keepOf (m ((c : Thread nD τ).loc main_arg3)) 1) (m ((c : Thread nD τ).loc main_arg0)) (m ((c : Thread nD τ).loc main_arg1)) (m ((c : Thread nD τ).loc main_arg2)) (m ((c : Thread nD τ).loc main_arg4)) := by
  refine (dats m 0 c).arrAt_eq_of_covers 9 _ (by decide +kernel) fun t hf y => ?_
  blk_simp
  rw [after0_9]
  refine (out9 m c t y).trans (congrArg (group 3072 (by decide) (keepOf (m ((c : Thread nD τ).loc main_arg3)) 1) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_9.index t 0 * 1 + 1 * (y 0).val; rw [index9]; simp
  | ⟨1, _⟩ => show t.val % 32 * 256 + (y 1).val = win0_9.index t 1 * 256 + 1 * (y 1).val; rw [index9]; simp
  | ⟨2, _⟩ => show (y 2).val = win0_9.index t 2 * 1024 + 1 * (y 2).val; rw [index9]; simp

theorem out10 (c : Dev nD) (t : Fin cfg0.N) (y : S1x256x1024.Idx) :
    (outsAt0 m c t).2.2.2.2.2.1 y = group 3072 (by decide) (decayOf (m ((c : Thread nD τ).loc main_arg3)) 1) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay21_apply _ _ _ _ y).trans ?_
  exact congrArg₂ (fun b z => Ideal.log (forget b z)) (bound_blk1 m c t _ _ (y 2)) (dot_blk m c t _ 3072 1024 _ (y 1) (y 2))

theorem arr10 (c : Dev nD) : (dats m 0 c).arrAt 10 cfg0.N = group 3072 (by decide) (decayOf (m ((c : Thread nD τ).loc main_arg3)) 1) (m ((c : Thread nD τ).loc main_arg0)) (m ((c : Thread nD τ).loc main_arg1)) (m ((c : Thread nD τ).loc main_arg2)) (m ((c : Thread nD τ).loc main_arg4)) := by
  refine (dats m 0 c).arrAt_eq_of_covers 10 _ (by decide +kernel) fun t hf y => ?_
  blk_simp
  rw [after0_10]
  refine (out10 m c t y).trans (congrArg (group 3072 (by decide) (decayOf (m ((c : Thread nD τ).loc main_arg3)) 1) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_10.index t 0 * 1 + 1 * (y 0).val; rw [index10]; simp
  | ⟨1, _⟩ => show t.val % 32 * 256 + (y 1).val = win0_10.index t 1 * 256 + 1 * (y 1).val; rw [index10]; simp
  | ⟨2, _⟩ => show (y 2).val = win0_10.index t 2 * 1024 + 1 * (y 2).val; rw [index10]; simp

theorem out11 (c : Dev nD) (t : Fin cfg0.N) (y : S1x256x1024.Idx) :
    (outsAt0 m c t).2.2.2.2.2.2.1 y = group 4096 (by decide) (fun _ => silu) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay25_apply _ _ y).trans ?_
  exact congrArg silu (dot_blk m c t _ 4096 1024 _ (y 1) (y 2))

theorem arr11 (c : Dev nD) : (dats m 0 c).arrAt 11 cfg0.N = group 4096 (by decide) (fun _ => silu) (m ((c : Thread nD τ).loc main_arg0)) (m ((c : Thread nD τ).loc main_arg1)) (m ((c : Thread nD τ).loc main_arg2)) (m ((c : Thread nD τ).loc main_arg4)) := by
  refine (dats m 0 c).arrAt_eq_of_covers 11 _ (by decide +kernel) fun t hf y => ?_
  blk_simp
  rw [after0_11]
  refine (out11 m c t y).trans (congrArg (group 4096 (by decide) (fun _ => silu) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_11.index t 0 * 1 + 1 * (y 0).val; rw [index11]; simp
  | ⟨1, _⟩ => show t.val % 32 * 256 + (y 1).val = win0_11.index t 1 * 256 + 1 * (y 1).val; rw [index11]; simp
  | ⟨2, _⟩ => show (y 2).val = win0_11.index t 2 * 1024 + 1 * (y 2).val; rw [index11]; simp

theorem out12 (c : Dev nD) (t : Fin cfg0.N) (y : S1x256x512.Idx) :
    (outsAt0 m c t).2.2.2.2.2.2.2.1 y = poolGroup (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay28_apply _ _ y).trans ?_
  exact dot_blk m c t _ 5120 512 _ (y 1) (y 2)

theorem arr12 (c : Dev nD) : (dats m 0 c).arrAt 12 cfg0.N = poolGroup (m ((c : Thread nD τ).loc main_arg0)) (m ((c : Thread nD τ).loc main_arg1)) (m ((c : Thread nD τ).loc main_arg2)) (m ((c : Thread nD τ).loc main_arg4)) := by
  refine (dats m 0 c).arrAt_eq_of_covers 12 _ (by decide +kernel) fun t hf y => ?_
  blk_simp
  rw [after0_12]
  refine (out12 m c t y).trans (congrArg (poolGroup (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_12.index t 0 * 1 + 1 * (y 0).val; rw [index12]; simp
  | ⟨1, _⟩ => show t.val % 32 * 256 + (y 1).val = win0_12.index t 1 * 256 + 1 * (y 1).val; rw [index12]; simp
  | ⟨2, _⟩ => show (y 2).val = win0_12.index t 2 * 512 + 1 * (y 2).val; rw [index12]; simp

theorem out13 (c : Dev nD) (t : Fin cfg0.N) (y : S1x256x1024.Idx) :
    (outsAt0 m c t).2.2.2.2.2.2.2.2.1 y = group 5632 (by decide) (fun _ => Ideal.logistic) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay26_apply _ _ y).trans ?_
  exact congrArg Ideal.logistic (dot_blk m c t _ 5632 1024 _ (y 1) (y 2))

theorem arr13 (c : Dev nD) : (dats m 0 c).arrAt 13 cfg0.N = group 5632 (by decide) (fun _ => Ideal.logistic) (m ((c : Thread nD τ).loc main_arg0)) (m ((c : Thread nD τ).loc main_arg1)) (m ((c : Thread nD τ).loc main_arg2)) (m ((c : Thread nD τ).loc main_arg4)) := by
  refine (dats m 0 c).arrAt_eq_of_covers 13 _ (by decide +kernel) fun t hf y => ?_
  blk_simp
  rw [after0_13]
  refine (out13 m c t y).trans (congrArg (group 5632 (by decide) (fun _ => Ideal.logistic) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_13.index t 0 * 1 + 1 * (y 0).val; rw [index13]; simp
  | ⟨1, _⟩ => show t.val % 32 * 256 + (y 1).val = win0_13.index t 1 * 256 + 1 * (y 1).val; rw [index13]; simp
  | ⟨2, _⟩ => show (y 2).val = win0_13.index t 2 * 1024 + 1 * (y 2).val; rw [index13]; simp

theorem out14 (c : Dev nD) (t : Fin cfg0.N) (y : S1x256x1024.Idx) :
    (outsAt0 m c t).2.2.2.2.2.2.2.2.2.1 y = group 6656 (by decide) (fun _ => Ideal.logistic) (m ((c : Thread nD τ).loc main_arg0)) (m ((c : Thread nD τ).loc main_arg1)) (m ((c : Thread nD τ).loc main_arg2)) (m ((c : Thread nD τ).loc main_arg4)) (ix3 (sam t) (tok t (y 1)) (y 2)) := by
  unfold outsAt0
  frame_out
  refine (pay27_apply _ _ y).trans ?_
  exact congrArg Ideal.logistic (dot_blk m c t _ 6656 1024 _ (y 1) (y 2))

theorem arr14 (c : Dev nD) : (dats m 0 c).arrAt 14 cfg0.N = group 6656 (by decide) (fun _ => Ideal.logistic) (m ((c : Thread nD τ).loc main_arg0)) (m ((c : Thread nD τ).loc main_arg1)) (m ((c : Thread nD τ).loc main_arg2)) (m ((c : Thread nD τ).loc main_arg4)) := by
  refine (dats m 0 c).arrAt_eq_of_covers 14 _ (by decide +kernel) fun t hf y => ?_
  blk_simp
  rw [after0_14]
  refine (out14 m c t y).trans (congrArg (group 6656 (by decide) (fun _ => Ideal.logistic) (m ((c : Thread nD τ).loc main_arg0)) (m ((c : Thread nD τ).loc main_arg1)) (m ((c : Thread nD τ).loc main_arg2)) (m ((c : Thread nD τ).loc main_arg4))) (funext fun a => Fin.ext ?_))
  match a with
  | ⟨0, _⟩ => show t.val / 32 = win0_14.index t 0 * 1 + 1 * (y 0).val; rw [index14]; simp
  | ⟨1, _⟩ => show t.val % 32 * 256 + (y 1).val = win0_14.index t 1 * 256 + 1 * (y 1).val; rw [index14]; simp
  | ⟨2, _⟩ => show (y 2).val = win0_14.index t 2 * 1024 + 1 * (y 2).val; rw [index14]; simp

end Cert.Proof.InProj

end
-- ==== Proof.InProjRef.lean ====
/-
  The reference of the input projection, read at an index: the same functions of the arguments.
-/
module

public import proofs.«01_k».proof.Proof.InProjValue
public import proofs.«01_k».proof.Proof.Gen.ReferenceIdeal.Read

@[expose] public section

noncomputable section

namespace Cert.Proof.InProj

open Idealize.ShloMosaic Idealize.ShloMosaic.TcCoe Idealize.SL.Sem
open Cert.ReferenceIdeal Cert.ReferenceIdeal.Gen Cert.ReferenceIdeal.Read
open scoped BigOperators

theorem fold_two {N : Nat} (hN : N = 2) (f : EReal → Fin N → EReal) (v : EReal) :
    (List.finRange N).foldl f v = f (f v ⟨0, by omega⟩) ⟨1, by omega⟩ := by subst hN; rfl

/-- The running sum's first entry is the array's (the window's other place lies in the padding). -/
theorem window_first (x : S2x2x1024.Idx → EReal) (z : S_.Idx → EReal) (hz : ∀ i, z i = 0)
    (h : S2x2x1024.ReduceWindows ![1, 2, 1] ![1, 1, 1] ![0, 1, 0] ![0, 0, 0] S2x2x1024) (hu : 0 < S_.numel) (d : Fin 2) (j : Fin 1024) :
    Host.reduceWindowAdd (F := Ideal) (φ := .f32) ![1, 2, 1] ![1, 1, 1] ![0, 1, 0] ![0, 0, 0] x z h hu (ix3 d 0 j) = x (ix3 d 0 j) := by
  show Ideal.hostReduceWindowAdd _ _ _ _ h x (z (Shape.Idx.first hu)) (ix3 d 0 j) = _
  unfold Ideal.hostReduceWindowAdd Host.reduceWindow
  dsimp only
  rw [fold_two (by decide), hz]
  have r00 : ((⟨3, ![1, 2, 1]⟩ : Shape).rowMajor.symm ⟨0, by decide⟩ 1).val = 0 := by decide +kernel
  have r10 : ((⟨3, ![1, 2, 1]⟩ : Shape).rowMajor.symm ⟨1, by decide⟩ 0).val = 0 := by decide +kernel
  have r11 : ((⟨3, ![1, 2, 1]⟩ : Shape).rowMajor.symm ⟨1, by decide⟩ 1).val = 1 := by decide +kernel
  have r12 : ((⟨3, ![1, 2, 1]⟩ : Shape).rowMajor.symm ⟨1, by decide⟩ 2).val = 0 := by decide +kernel
  rw [dif_neg, dif_pos]
  · rw [zero_add, zero_add]
    refine congrArg x (funext fun a => Fin.ext ?_)
    match a with
    | ⟨0, _⟩ => refine (congrArg (fun n => d.val * 1 + n - 0) r10).trans ?_; show d.val * 1 + 0 - 0 = d.val; omega
    | ⟨1, _⟩ => exact (congrArg (fun n => 0 * 1 + n - 1) r11)
    | ⟨2, _⟩ => refine (congrArg (fun n => j.val * 1 + n - 0) r12).trans ?_; show j.val * 1 + 0 - 0 = j.val; omega
  · intro a
    have hd := d.isLt
    have hj := j.isLt
    match a with
    | ⟨0, _⟩ =>
      show 0 ≤ d.val * 1 + ((⟨3, ![1, 2, 1]⟩ : Shape).rowMajor.symm ⟨1, by decide⟩ 0).val ∧ d.val * 1 + ((⟨3, ![1, 2, 1]⟩ : Shape).rowMajor.symm ⟨1, by decide⟩ 0).val - 0 < 2
      rw [r10]; omega
    | ⟨1, _⟩ =>
      show 1 ≤ 0 * 1 + ((⟨3, ![1, 2, 1]⟩ : Shape).rowMajor.symm ⟨1, by decide⟩ 1).val ∧ 0 * 1 + ((⟨3, ![1, 2, 1]⟩ : Shape).rowMajor.symm ⟨1, by decide⟩ 1).val - 1 < 2
      rw [r11]; omega
    | ⟨2, _⟩ =>
      show 0 ≤ j.val * 1 + ((⟨3, ![1, 2, 1]⟩ : Shape).rowMajor.symm ⟨1, by decide⟩ 2).val ∧ j.val * 1 + ((⟨3, ![1, 2, 1]⟩ : Shape).rowMajor.symm ⟨1, by decide⟩ 2).val - 0 < 1024
      rw [r12]; omega
  · intro hc
    have h1 : 1 ≤ 0 * 1 + ((⟨3, ![1, 2, 1]⟩ : Shape).rowMajor.symm ⟨0, by decide⟩ 1).val := (hc 1).1
    rw [r00] at h1
    omega

theorem ref10 (a : S2x2x1024.Idx → EReal) (d : Fin 2) (j : Fin 1024) : val_main_v10 (F := Ideal) a (ix3 d 0 j) = bound a d j := by
  unfold val_main_v10 val_main_v9 val_main_v8 val_main_v7 val_main_cst_1 val_main_v6 val_main_v5 val_main_v4 val_main_v3 val_main_v2 val_main_v1 val_main_cst_0 val_main_v0 val_main_cst
  pointwise
  rw [show (Finset.univ : Finset (Fin 2)) = {0, 1} from rfl, Finset.fold_insert (by decide), Finset.fold_singleton, Finset.sum_insert (by decide), Finset.sum_singleton]
  have hb : Ideal.ofBits FTy.f32 0xFF800000#32 = ⊥ := by simp [Ideal.ofBits, Ideal.ieee]
  rw [hb, max_eq_right bot_le, max_eq_left (bot_le : ⊥ ≤ a (ix3 d 1 j))]
  rfl

theorem ref11 (a : S2x2x1024.Idx → EReal) (d : Fin 2) (j : Fin 1024) : val_main_v11 (F := Ideal) a (ix3 d 0 j) = bound a d j := by
  unfold val_main_v11
  refine (window_first _ _ (fun i => ?_) _ _ d j).trans (ref10 a d j)
  unfold val_main_call0_call0_v0 val_main_call0_call0_cst
  pointwise

theorem ref38 (x : S8x8192x1024.Idx → EReal) (g : S1024.Idx → EReal) (md : S16x6144.Idx → EReal) (i : S8x8192x1024.Idx) :
    val_main_v38 (F := Ideal) x g md i = hid x g md (i 0) (i 1) (i 2) := by
  unfold val_main_v38 val_main_v36 val_main_v32 val_main_v29 val_main_v28 val_main_v27 val_main_v26 val_main_v25 val_main_v24 val_main_v23 val_main_v22 val_main_v21 val_main_v20 val_main_v31 val_main_v30 val_main_v35 val_main_v34 val_main_v33 val_main_v37 val_main_v15 val_main_v14 val_main_v13 val_main_v12 val_main_cst_2 val_main_cst_3 val_main_cst_4 val_main_cst_5 hid normed
  pointwise

theorem ref39 (x : S8x8192x1024.Idx → EReal) (g : S1024.Idx → EReal) (md : S16x6144.Idx → EReal) (w : S1024x7680.Idx → EReal) (i : S8x8192x7680.Idx) :
    val_main_v39 (F := Ideal) x g md w i = zed x g md w (i 0) (i 1) (i 2) := by
  unfold zed
  refine Eq.trans ?_ (Finset.sum_congr rfl fun k _ => congrArg (· * w (ix2 k (i 2))) (ref38 x g md (ix3 (i 0) (i 1) k)))
  unfold val_main_v39
  generalize val_main_v38 (F := Ideal) x g md = u
  pointwise

theorem ref100 (x : S8x8192x1024.Idx → EReal) (g : S1024.Idx → EReal) (md : S16x6144.Idx → EReal) (w : S1024x7680.Idx → EReal) :
    val_main_v100 (F := Ideal) x g md w = group 0 (by decide) (fun _ => silu) x g md w := by
  funext i
  refine Eq.trans ?_ (congrArg ((fun _ => silu : Fin 1024 → EReal → EReal) (i 2)) (ref39 x g md w (ix3 (i 0) (i 1) ⟨0 + (i 2).val, by have h : (i 2).val < 1024 := (i 2).isLt; omega⟩)))
  unfold val_main_v100 val_main_v41 val_main_call1_v5 val_main_call1_v4 val_main_call1_cst_0 val_main_call1_v3 val_main_call1_v2 val_main_call1_cst val_main_call1_v1 val_main_call1_v0 val_main_v40
  generalize val_main_v39 (F := Ideal) x g md w = u
  show _ = silu (u _)
  unfold silu
  pointwise
  rfl

theorem ref101 (x : S8x8192x1024.Idx → EReal) (g : S1024.Idx → EReal) (md : S16x6144.Idx → EReal) (w : S1024x7680.Idx → EReal) :
    val_main_v101 (F := Ideal) x g md w = group 1024 (by decide) (fun _ z => z) x g md w := by
  funext i
  refine Eq.trans ?_ (congrArg ((fun _ z => z : Fin 1024 → EReal → EReal) (i 2)) (ref39 x g md w (ix3 (i 0) (i 1) ⟨1024 + (i 2).val, by have h : (i 2).val < 1024 := (i 2).isLt; omega⟩)))
  unfold val_main_v101 val_main_v42
  generalize val_main_v39 (F := Ideal) x g md w = u
  pointwise

theorem ref102 (x : S8x8192x1024.Idx → EReal) (g : S1024.Idx → EReal) (md : S16x6144.Idx → EReal) (w : S1024x7680.Idx → EReal) (a : S2x2x1024.Idx → EReal) :
    val_main_v102 (F := Ideal) x g md a w = group 2048 (by decide) (keepOf a 0) x g md w := by
  funext i
  refine Eq.trans ?_ (congrArg ((keepOf a 0 : Fin 1024 → EReal → EReal) (i 2)) (ref39 x g md w (ix3 (i 0) (i 1) ⟨2048 + (i 2).val, by have h : (i 2).val < 1024 := (i 2).isLt; omega⟩)))
  refine Eq.trans ?_ (congrArg (fun b => (fun z => 1 - forget b z) _) (ref11 a 0 (i 2)))
  unfold val_main_v102 val_main_v61 val_main_v60 val_main_cst_9 val_main_v59 val_main_v58 val_main_v57 val_main_v56 val_main_v55 val_main_v54 val_main_v47 val_main_v46 val_main_cst_6 val_main_v45 val_main_v44 val_main_v53 val_main_v52 val_main_cst_8 val_main_v51 val_main_v50 val_main_cst_7 val_main_v49 val_main_v48 val_main_v43 forget
  generalize val_main_v39 (F := Ideal) x g md w = u
  generalize val_main_v11 (F := Ideal) a = v
  pointwise
  rfl

theorem ref62 (x : S8x8192x1024.Idx → EReal) (g : S1024.Idx → EReal) (md : S16x6144.Idx → EReal) (w : S1024x7680.Idx → EReal) (a : S2x2x1024.Idx → EReal) :
    val_main_v62 (F := Ideal) x g md a w = group 2048 (by decide) (decayOf a 0) x g md w := by
  funext i
  refine Eq.trans ?_ (congrArg ((decayOf a 0 : Fin 1024 → EReal → EReal) (i 2)) (ref39 x g md w (ix3 (i 0) (i 1) ⟨2048 + (i 2).val, by have h : (i 2).val < 1024 := (i 2).isLt; omega⟩)))
  refine Eq.trans ?_ (congrArg (fun b => (fun z => Ideal.log (forget b z)) _) (ref11 a 0 (i 2)))
  unfold val_main_v62 val_main_v59 val_main_v58 val_main_v57 val_main_v56 val_main_v55 val_main_v54 val_main_v47 val_main_v46 val_main_cst_6 val_main_v45 val_main_v44 val_main_v53 val_main_v52 val_main_cst_8 val_main_v51 val_main_v50 val_main_cst_7 val_main_v49 val_main_v48 val_main_v43 forget
  generalize val_main_v39 (F := Ideal) x g md w = u
  generalize val_main_v11 (F := Ideal) a = v
  pointwise
  rfl

theorem ref103 (x : S8x8192x1024.Idx → EReal) (g : S1024.Idx → EReal) (md : S16x6144.Idx → EReal) (w : S1024x7680.Idx → EReal) (a : S2x2x1024.Idx → EReal) :
    val_main_v103 (F := Ideal) x g md a w = group 3072 (by decide) (keepOf a 1) x g md w := by
  funext i
  refine Eq.trans ?_ (congrArg ((keepOf a 1 : Fin 1024 → EReal → EReal) (i 2)) (ref39 x g md w (ix3 (i 0) (i 1) ⟨3072 + (i 2).val, by have h : (i 2).val < 1024 := (i 2).isLt; omega⟩)))
  refine Eq.trans ?_ (congrArg (fun b => (fun z => 1 - forget b z) _) (ref11 a 1 (i 2)))
  unfold val_main_v103 val_main_v81 val_main_v80 val_main_cst_13 val_main_v79 val_main_v78 val_main_v77 val_main_v76 val_main_v75 val_main_v74 val_main_v67 val_main_v66 val_main_cst_10 val_main_v65 val_main_v64 val_main_v73 val_main_v72 val_main_cst_12 val_main_v71 val_main_v70 val_main_cst_11 val_main_v69 val_main_v68 val_main_v63 forget
  generalize val_main_v39 (F := Ideal) x g md w = u
  generalize val_main_v11 (F := Ideal) a = v
  pointwise
  rfl

theorem ref82 (x : S8x8192x1024.Idx → EReal) (g : S1024.Idx → EReal) (md : S16x6144.Idx → EReal) (w : S1024x7680.Idx → EReal) (a : S2x2x1024.Idx → EReal) :
    val_main_v82 (F := Ideal) x g md a w = group 3072 (by decide) (decayOf a 1) x g md w := by
  funext i
  refine Eq.trans ?_ (congrArg ((decayOf a 1 : Fin 1024 → EReal → EReal) (i 2)) (ref39 x g md w (ix3 (i 0) (i 1) ⟨3072 + (i 2).val, by have h : (i 2).val < 1024 := (i 2).isLt; omega⟩)))
  refine Eq.trans ?_ (congrArg (fun b => (fun z => Ideal.log (forget b z)) _) (ref11 a 1 (i 2)))
  unfold val_main_v82 val_main_v79 val_main_v78 val_main_v77 val_main_v76 val_main_v75 val_main_v74 val_main_v67 val_main_v66 val_main_cst_10 val_main_v65 val_main_v64 val_main_v73 val_main_v72 val_main_cst_12 val_main_v71 val_main_v70 val_main_cst_11 val_main_v69 val_main_v68 val_main_v63 forget
  generalize val_main_v39 (F := Ideal) x g md w = u
  generalize val_main_v11 (F := Ideal) a = v
  pointwise
  rfl

theorem ref104 (x : S8x8192x1024.Idx → EReal) (g : S1024.Idx → EReal) (md : S16x6144.Idx → EReal) (w : S1024x7680.Idx → EReal) :
    val_main_v104 (F := Ideal) x g md w = group 4096 (by decide) (fun _ => silu) x g md w := by
  funext i
  refine Eq.trans ?_ (congrArg ((fun _ => silu : Fin 1024 → EReal → EReal) (i 2)) (ref39 x g md w (ix3 (i 0) (i 1) ⟨4096 + (i 2).val, by have h : (i 2).val < 1024 := (i 2).isLt; omega⟩)))
  unfold val_main_v104 val_main_v84 val_main_call2_v5 val_main_call2_v4 val_main_call2_cst_0 val_main_call2_v3 val_main_call2_v2 val_main_call2_cst val_main_call2_v1 val_main_call2_v0 val_main_v83
  generalize val_main_v39 (F := Ideal) x g md w = u
  show _ = silu (u _)
  unfold silu
  pointwise
  rfl

theorem ref105 (x : S8x8192x1024.Idx → EReal) (g : S1024.Idx → EReal) (md : S16x6144.Idx → EReal) (w : S1024x7680.Idx → EReal) :
    val_main_v105 (F := Ideal) x g md w = group 5632 (by decide) (fun _ => Ideal.logistic) x g md w := by
  funext i
  refine Eq.trans ?_ (congrArg ((fun _ => Ideal.logistic : Fin 1024 → EReal → EReal) (i 2)) (ref39 x g md w (ix3 (i 0) (i 1) ⟨5632 + (i 2).val, by have h : (i 2).val < 1024 := (i 2).isLt; omega⟩)))
  unfold val_main_v105 val_main_v92 val_main_v91 val_main_cst_15 val_main_v90 val_main_v89 val_main_cst_14 val_main_v88 val_main_v87 val_main_v86
  generalize val_main_v39 (F := Ideal) x g md w = u
  pointwise
  rfl

theorem ref106 (x : S8x8192x1024.Idx → EReal) (g : S1024.Idx → EReal) (md : S16x6144.Idx → EReal) (w : S1024x7680.Idx → EReal) :
    val_main_v106 (F := Ideal) x g md w = group 6656 (by decide) (fun _ => Ideal.logistic) x g md w := by
  funext i
  refine Eq.trans ?_ (congrArg ((fun _ => Ideal.logistic : Fin 1024 → EReal → EReal) (i 2)) (ref39 x g md w (ix3 (i 0) (i 1) ⟨6656 + (i 2).val, by have h : (i 2).val < 1024 := (i 2).isLt; omega⟩)))
  unfold val_main_v106 val_main_v99 val_main_v98 val_main_cst_17 val_main_v97 val_main_v96 val_main_cst_16 val_main_v95 val_main_v94 val_main_v93
  generalize val_main_v39 (F := Ideal) x g md w = u
  pointwise
  rfl

theorem ref85 (x : S8x8192x1024.Idx → EReal) (g : S1024.Idx → EReal) (md : S16x6144.Idx → EReal) (w : S1024x7680.Idx → EReal) : val_main_v85 (F := Ideal) x g md w = poolGroup x g md w := by
  funext i
  refine Eq.trans ?_ (ref39 x g md w (ix3 (i 0) (i 1) ⟨5120 + (i 2).val, by have h : (i 2).val < 512 := (i 2).isLt; omega⟩))
  unfold val_main_v85
  generalize val_main_v39 (F := Ideal) x g md w = u
  pointwise

end Cert.Proof.InProj

end
-- ==== Proof.InProjClaim.lean ====
module

public import proofs.«01_k».proof.Defs
public import proofs.«01_k».proof.Proof.Gen.KernelIdeal
public import proofs.«01_k».proof.Proof.Gen.ReferenceIdeal
public import proofs.«01_k».proof.Proof.InProjValue
public import proofs.«01_k».proof.Proof.InProjRef

@[expose] public section

noncomputable section

namespace Cert.Proof.InProj

open Idealize.ShloMosaic Idealize.SL.Sem

set_option maxHeartbeats 4000000 in
/-- The projection kernel and its reference, at the extended reals: from memories agreeing on the arguments both
    end with the same ten arrays and their arguments unchanged. -/
theorem agree : Cert.algebraic_KernelIdeal_ReferenceIdeal (hKernelIdeal := Cert.KernelIdeal.Gen.facts) (hReferenceIdeal := Cert.ReferenceIdeal.Gen.facts) := by
  intro m g m' g' _ hargs
  refine ⟨fun c => (Cert.KernelIdeal.Gen.dats m 0 c).arrAt 5 Cert.KernelIdeal.cfg0.N, fun c => (Cert.KernelIdeal.Gen.dats m 0 c).arrAt 6 Cert.KernelIdeal.cfg0.N, fun c => (Cert.KernelIdeal.Gen.dats m 0 c).arrAt 7 Cert.KernelIdeal.cfg0.N, fun c => (Cert.KernelIdeal.Gen.dats m 0 c).arrAt 8 Cert.KernelIdeal.cfg0.N, fun c => (Cert.KernelIdeal.Gen.dats m 0 c).arrAt 9 Cert.KernelIdeal.cfg0.N, fun c => (Cert.KernelIdeal.Gen.dats m 0 c).arrAt 10 Cert.KernelIdeal.cfg0.N, fun c => (Cert.KernelIdeal.Gen.dats m 0 c).arrAt 11 Cert.KernelIdeal.cfg0.N, fun c => (Cert.KernelIdeal.Gen.dats m 0 c).arrAt 12 Cert.KernelIdeal.cfg0.N, fun c => (Cert.KernelIdeal.Gen.dats m 0 c).arrAt 13 Cert.KernelIdeal.cfg0.N, fun c => (Cert.KernelIdeal.Gen.dats m 0 c).arrAt 14 Cert.KernelIdeal.cfg0.N, ?_, ?_⟩
  · refine (θ_run _ _ _).mono (fun r h c => ?_) (Cert.KernelIdeal.Value.run_blocks (F := Ideal) m g)
    obtain ⟨h0, h1, h2, h3, h4, h5, h6, h7, h8, h9, h10, hk⟩ := h c
    exact ⟨h0, h1, h2, h3, h4, h5, h6, h7, h8, h9, hk⟩
  · refine (θ_run _ _ _).mono (fun r h c => ?_) (Cert.ReferenceIdeal.Value.run (F := Ideal) m' g')
    obtain ⟨h0, h1, h2, h3, h4, h5, h6, h7, h8, h9, hk⟩ := h c
    obtain ⟨e0, e1, e2, e3, e4⟩ := hargs c
    refine ⟨?_, ?_, ?_, ?_, ?_, ?_, ?_, ?_, ?_, ?_, hk⟩
    · refine h0.trans (((Cert.ReferenceIdeal.Read.val_main_v100_eq _ _ _ _).trans (ref100 _ _ _ _)).trans ?_)
      rw [e0, e1, e2, e4]
      exact (arr5 m c).symm
    · refine h1.trans (((Cert.ReferenceIdeal.Read.val_main_v101_eq _ _ _ _).trans (ref101 _ _ _ _)).trans ?_)
      rw [e0, e1, e2, e4]
      exact (arr6 m c).symm
    · refine h2.trans (((Cert.ReferenceIdeal.Read.val_main_v102_eq m' c).trans (ref102 _ _ _ _ _)).trans ?_)
      rw [e0, e1, e2, e3, e4]
      exact (arr7 m c).symm
    · refine h3.trans (((Cert.ReferenceIdeal.Read.val_main_v62_eq m' c).trans (ref62 _ _ _ _ _)).trans ?_)
      rw [e0, e1, e2, e3, e4]
      exact (arr8 m c).symm
    · refine h4.trans (((Cert.ReferenceIdeal.Read.val_main_v103_eq m' c).trans (ref103 _ _ _ _ _)).trans ?_)
      rw [e0, e1, e2, e3, e4]
      exact (arr9 m c).symm
    · refine h5.trans (((Cert.ReferenceIdeal.Read.val_main_v82_eq m' c).trans (ref82 _ _ _ _ _)).trans ?_)
      rw [e0, e1, e2, e3, e4]
      exact (arr10 m c).symm
    · refine h6.trans (((Cert.ReferenceIdeal.Read.val_main_v104_eq _ _ _ _).trans (ref104 _ _ _ _)).trans ?_)
      rw [e0, e1, e2, e4]
      exact (arr11 m c).symm
    · refine h7.trans (((Cert.ReferenceIdeal.Read.val_main_v85_eq _ _ _ _).trans (ref85 _ _ _ _)).trans ?_)
      rw [e0, e1, e2, e4]
      exact (arr12 m c).symm
    · refine h8.trans (((Cert.ReferenceIdeal.Read.val_main_v105_eq _ _ _ _).trans (ref105 _ _ _ _)).trans ?_)
      rw [e0, e1, e2, e4]
      exact (arr13 m c).symm
    · refine h9.trans (((Cert.ReferenceIdeal.Read.val_main_v106_eq _ _ _ _).trans (ref106 _ _ _ _)).trans ?_)
      rw [e0, e1, e2, e4]
      exact (arr14 m c).symm

end Cert.Proof.InProj

end
-- ==== Proof.MoeBlock.lean ====
/-
  The expert layer's kernel, one block at a time, at the ideal values: what the body leaves in its output block is the gated
  feed-forward row function `ffn` of the rows of the token block and of the three weight matrices it holds.
-/
module

public import proofs.«01_k».proof.Defs
public import proofs.«01_k».proof.Proof.Gen.Kernel2Ideal.Frame
public import Idealize.ShloMosaic.Lib.Pipeline.Value
public import Idealize.ShloMosaic.Lib.MatmulPlain
public import Idealize.ShloMosaic.Lib.ValueIdx
public import Idealize.ShloMosaic.Lib.Tactic

@[expose] public section

noncomputable section

namespace Cert.Proof.Moe

open Idealize.ShloMosaic Idealize.ShloMosaic.TcCoe Idealize.SL.Sem Idealize.ShloMosaic.ValueIdx
open Cert.Kernel2Ideal Cert.Kernel2Ideal.Gen
open scoped BigOperators

/-- The gated feed-forward of one row `x` through the expert's three matrices, at output column `d`. -/
def ffn (x : Fin 1024 → EReal) (wg wu wd : Fin 1024 → Fin 1024 → EReal) (d : Fin 1024) : EReal :=
  ∑ f, ((∑ k, x k * wg k f) * Ideal.logistic (∑ k, x k * wg k f) * ∑ k, x k * wu k f) * wd f d

/-- A product into the zero accumulator, read at a row and a column. -/
theorem mm_apply {φ₁ φ₂ : FTy} (a : FVec Ideal S256x1024 φ₁) (b : FVec Ideal S1024x1024 φ₂) (r : Fin 256) (c : Fin 1024) :
    matmul dot_S256x1024_S1024x1024_S256x1024_1_0_0_1_n_n none a b (constant S256x1024 .f32 0x00000000#32) (ix2 r c)
      = ∑ k : Fin 1024, a (ix2 r k) * b (ix2 k c) := by
  have h := Ideal.matmul_plain_apply (M := 256) (K := 1024) (N := 1024) none a b (constant S256x1024 .f32 0x00000000#32) r c
  have h0 : (constant (F := Ideal) S256x1024 .f32 0x00000000#32) (ix2 r c) = 0 := Ideal.ofBits_zero_f32
  rw [h0, zero_add] at h
  exact h

/-- The body's computation on one slice of 256 rows. -/
def core (x : FVec Ideal S256x1024 .bf16) (wg wu wd : FVec Ideal S1024x1024 .bf16) : FVec Ideal S256x1024 .bf16 :=
  let g : FVec Ideal S256x1024 .f32 := matmul dot_S256x1024_S1024x1024_S256x1024_1_0_0_1_n_n none x wg (constant S256x1024 .f32 0x00000000#32)
  let u : FVec Ideal S256x1024 .f32 := matmul dot_S256x1024_S1024x1024_S256x1024_1_0_0_1_n_n none x wu (constant S256x1024 .f32 0x00000000#32)
  truncf .bf16 (matmul dot_S256x1024_S1024x1024_S256x1024_1_0_0_1_n_n none (truncf .bf16 (mulf (mulf g (logistic g)) u) bitsLt_bf16_f32) wd
    (constant S256x1024 .f32 0x00000000#32)) bitsLt_bf16_f32

theorem core_apply (x : FVec Ideal S256x1024 .bf16) (wg wu wd : FVec Ideal S1024x1024 .bf16) (r : Fin 256) (c : Fin 1024) :
    core x wg wu wd (ix2 r c) = ffn (fun k => x (ix2 r k)) (fun k f => wg (ix2 k f)) (fun k f => wu (ix2 k f)) (fun k f => wd (ix2 k f)) c := by
  unfold core ffn
  refine (mm_apply (φ₁ := .bf16) (φ₂ := .bf16) _ wd r c).trans (Finset.sum_congr rfl fun f _ => ?_)
  refine congrArg (· * wd (ix2 f c)) ?_
  show matmul dot_S256x1024_S1024x1024_S256x1024_1_0_0_1_n_n none x wg (constant S256x1024 .f32 0x00000000#32) (ix2 r f)
    * Ideal.logistic (matmul dot_S256x1024_S1024x1024_S256x1024_1_0_0_1_n_n none x wg (constant S256x1024 .f32 0x00000000#32) (ix2 r f))
    * matmul dot_S256x1024_S1024x1024_S256x1024_1_0_0_1_n_n none x wu (constant S256x1024 .f32 0x00000000#32) (ix2 r f) = _
  rw [mm_apply, mm_apply]

/-- The two unit axes in front of a slice of rows carry nothing: dropped … -/
theorem drop_apply {α : Type} (v : S1x1x256x1024.Idx → α) (h : S1x1x256x1024.ShapeCasts S256x1024) (r : Fin 256) (c : Fin 1024) :
    shapeCast S256x1024 v h (ix2 r c) = v (ix4 0 0 r c) :=
  shapeCast_apply v h (ix2 r c) (ix4 0 0 r c) (by rw [Shape.rowMajor_val_four, Shape.rowMajor_val_two]; simp)

/-- … and put back. -/
theorem add_apply {α : Type} (v : S256x1024.Idx → α) (h : S256x1024.ShapeCasts S1x1x256x1024) (j : S1x1x256x1024.Idx) :
    shapeCast S1x1x256x1024 v h j = v (ix2 (j 2) (j 3)) :=
  shapeCast_apply v h j (ix2 (j 2) (j 3)) (by
    rw [Shape.rowMajor_val_four, Shape.rowMajor_val_two]
    have h0 : (j 0).val < 1 := (j 0).isLt
    have h1 : (j 1).val < 1 := (j 1).isLt
    have h0' : (j 0).val = 0 := by omega
    have h1' : (j 1).val = 0 := by omega
    simp [h0', h1'])

/-- The value of an output block: row by row the feed-forward of the token block's row. -/
def blockVal (x : Vec Ideal S1x1x1024x1024 .bf16) (wg wu wd : Vec Ideal S1024x1024 .bf16) : Vec Ideal S1x1x1024x1024 .bf16 :=
  fun i => ffn (fun k => x (ix4 0 0 (i 2) k)) (fun k f => wg (ix2 k f)) (fun k f => wu (ix2 k f)) (fun k f => wd (ix2 k f)) (i 3)

/-- One stored slice of 256 rows from row `o` is that slice of the block's value. -/
theorem slice_apply (x : Vec Ideal S1x1x1024x1024 .bf16) (wg wu wd : Vec Ideal S1024x1024 .bf16) (o : Nat)
    (inb : ∀ a, (![0, 0, o, 0] : Fin 4 → Nat) a + S1x1x256x1024.size a ≤ S1x1x1024x1024.size a) (j : S1x1x256x1024.Idx) :
    shapeCast S1x1x256x1024 (core (shapeCast S256x1024 (View.ld x (Rect.unit (s := S1x1x1024x1024) ![0, 0, o, 0] S1x1x256x1024.size inb)) shapeCasts_S1x1x256x1024_S256x1024) wg wu wd) shapeCasts_S256x1024_S1x1x256x1024 j
      = blockVal x wg wu wd ((Rect.unit (s := S1x1x1024x1024) ![0, 0, o, 0] S1x1x256x1024.size inb).emb j) := by
  refine (add_apply _ _ j).trans ((core_apply _ wg wu wd (j 2) (j 3)).trans ?_)
  unfold blockVal
  have e3 : ((Rect.unit (s := S1x1x1024x1024) ![0, 0, o, 0] S1x1x256x1024.size inb).emb j) 3 = j 3 :=
    Fin.ext (by show 0 + 1 * (j 3).val = (j 3).val; omega)
  rw [e3]
  refine congrArg (fun z => ffn z _ _ _ _) (funext fun k => ?_)
  refine (drop_apply _ _ (j 2) k).trans ?_
  refine congrArg x (funext fun a => Fin.ext ?_)
  match a with
  | ⟨0, _⟩ => rfl
  | ⟨1, _⟩ => rfl
  | ⟨2, _⟩ => rfl
  | ⟨3, _⟩ => show 0 + 1 * k.val = k.val; omega

theorem hz2 : (![0, 0] : Fin 2 → Nat) = fun _ => 0 := funext fun a => by fin_cases a <;> rfl
theorem hz3 : (![0, 0, 0] : Fin 3 → Nat) = fun _ => 0 := funext fun a => by fin_cases a <;> rfl

section Cases

variable (c : Dev nD) (i : grid0.Coords) (a2 : Memref sig .tc .vmem S1x1x1024x1024 .bf16) (h2 : a2.IsWhole)
  (a3 : Memref sig .tc .vmem S1x1024x1024 .f32) (h3 : a3.IsWhole) (a4 : Memref sig .tc .vmem S1x1024x1024 .f32) (h4 : a4.IsWhole)
  (a5 : Memref sig .tc .vmem S1x1024x1024 .f32) (h5 : a5.IsWhole) (a6 : Memref sig .tc .vmem S1x1x1024x1024 .bf16) (h6 : a6.IsWhole)
  (a7 : Memref sig .tc .vmem S1024x1024 .bf16) (h7 : a7.IsWhole) (a8 : Memref sig .tc .vmem S1024x1024 .bf16) (h8 : a8.IsWhole)
  (a9 : Memref sig .tc .vmem S1024x1024 .bf16) (h9 : a9.IsWhole)

/-- A point that keeps the matrices leaves the block's value at the matrices held. -/
theorem out_B (hc : ¬cond0_0 i) (x : Vec Ideal S1x1x1024x1024 .bf16) (x1 x2 x3 : Vec Ideal S1x1024x1024 .f32) (wg wu wd : Vec Ideal S1024x1024 .bf16) :
    out0_B_4 c i a2 h2 a3 h3 a4 h4 a5 h5 a6 h6 a7 h7 a8 h8 a9 h9 hc x x1 x2 x3 wg wu wd = blockVal x wg wu wd := by
  unfold out0_B_4
  rw [View.read_writes_eq_canon _ _ _ (cover0_B_4 c i a2 h2 a3 h3 a4 h4 a5 h5 a6 h6 a7 h7 a8 h8 a9 h9 hc x x1 x2 x3 wg wu wd)]
  funext y
  refine View.canon_apply_of_pieces _ _ ?_ y (cover0_B_4 c i a2 h2 a3 h3 a4 h4 a5 h5 a6 h6 a7 h7 a8 h8 a9 h9 hc x x1 x2 x3 wg wu wd y)
  unfold kernelRun0_B
  dsimp only
  sl_unfold_words
  simp only [View.readAt_eq_ld, h2.read_unread, h7.read_unread, h8.read_unread, h9.read_unread, View.ld_unit_zero (S := S1024x1024) hz2]
  intro p hp
  simp only [List.mem_cons, List.not_mem_nil, or_false] at hp
  rcases hp with rfl | rfl | rfl | rfl
  · intro j; exact slice_apply x wg wu wd 768 _ j
  · intro j; exact slice_apply x wg wu wd 512 _ j
  · intro j; exact slice_apply x wg wu wd 256 _ j
  · intro j; exact slice_apply x wg wu wd 0 _ j

/-- What the first point of an expert keeps of a weight block: its one matrix. -/
def kept (w : Vec Ideal S1x1024x1024 .f32) : Vec Ideal S1024x1024 .bf16 := fun i => w (ix3 0 (i 0) (i 1))

theorem cast_eq_kept (w : Vec Ideal S1x1024x1024 .f32) (h : S1x1024x1024.ShapeCasts S1024x1024) (h' : S1024x1024.ShapeCasts S1024x1024) (hb) :
    shapeCast S1024x1024 (truncf (F := Ideal) .bf16 (shapeCast S1024x1024 w h : FVec Ideal S1024x1024 .f32) hb) h' = kept w := by
  rw [shapeCast_self]
  funext i
  exact shapeCast_apply w h i (ix3 0 (i 0) (i 1)) (by
    rw [Shape.rowMajor_val_three, Shape.rowMajor_val_two]; simp)

/-- The first point of an expert keeps the three matrices … -/
theorem sout_A0 (hc : cond0_0 i) (x : Vec Ideal S1x1x1024x1024 .bf16) (x1 x2 x3 : Vec Ideal S1x1024x1024 .f32) :
    sout0_A_0 c i a2 h2 a3 h3 a4 h4 a5 h5 a6 h6 a7 h7 a8 h8 a9 h9 hc x x1 x2 x3 = kept x1 := by
  unfold sout0_A_0
  rw [View.read_writes_eq_canon _ _ _ (scover0_A_0 c i a2 h2 a3 h3 a4 h4 a5 h5 a6 h6 a7 h7 a8 h8 a9 h9 hc x x1 x2 x3)]
  unfold kernelRun0_A
  dsimp only
  sl_unfold_words
  simp only [View.canon_unit_zero (S := S1024x1024) hz2, View.readAt_eq_ld, h3.read_unread, View.ld_unit_zero (S := S1x1024x1024) hz3]
  exact cast_eq_kept x1 _ _ _

theorem sout_A1 (hc : cond0_0 i) (x : Vec Ideal S1x1x1024x1024 .bf16) (x1 x2 x3 : Vec Ideal S1x1024x1024 .f32) :
    sout0_A_1 c i a2 h2 a3 h3 a4 h4 a5 h5 a6 h6 a7 h7 a8 h8 a9 h9 hc x x1 x2 x3 = kept x2 := by
  unfold sout0_A_1
  rw [View.read_writes_eq_canon _ _ _ (scover0_A_1 c i a2 h2 a3 h3 a4 h4 a5 h5 a6 h6 a7 h7 a8 h8 a9 h9 hc x x1 x2 x3)]
  unfold kernelRun0_A
  dsimp only
  sl_unfold_words
  simp only [View.canon_unit_zero (S := S1024x1024) hz2, View.readAt_eq_ld, h4.read_unread, View.ld_unit_zero (S := S1x1024x1024) hz3]
  exact cast_eq_kept x2 _ _ _

theorem sout_A2 (hc : cond0_0 i) (x : Vec Ideal S1x1x1024x1024 .bf16) (x1 x2 x3 : Vec Ideal S1x1024x1024 .f32) :
    sout0_A_2 c i a2 h2 a3 h3 a4 h4 a5 h5 a6 h6 a7 h7 a8 h8 a9 h9 hc x x1 x2 x3 = kept x3 := by
  unfold sout0_A_2
  rw [View.read_writes_eq_canon _ _ _ (scover0_A_2 c i a2 h2 a3 h3 a4 h4 a5 h5 a6 h6 a7 h7 a8 h8 a9 h9 hc x x1 x2 x3)]
  unfold kernelRun0_A
  dsimp only
  sl_unfold_words
  simp only [View.canon_unit_zero (S := S1024x1024) hz2, View.readAt_eq_ld, h5.read_unread, View.ld_unit_zero (S := S1x1024x1024) hz3]
  exact cast_eq_kept x3 _ _ _

/-- … and leaves the block's value at them. -/
theorem out_A (hc : cond0_0 i) (x : Vec Ideal S1x1x1024x1024 .bf16) (x1 x2 x3 : Vec Ideal S1x1024x1024 .f32) :
    out0_A_4 c i a2 h2 a3 h3 a4 h4 a5 h5 a6 h6 a7 h7 a8 h8 a9 h9 hc x x1 x2 x3 = blockVal x (kept x1) (kept x2) (kept x3) := by
  unfold out0_A_4
  rw [View.read_writes_eq_canon _ _ _ (cover0_A_4 c i a2 h2 a3 h3 a4 h4 a5 h5 a6 h6 a7 h7 a8 h8 a9 h9 hc x x1 x2 x3)]
  funext y
  refine View.canon_apply_of_pieces _ _ ?_ y (cover0_A_4 c i a2 h2 a3 h3 a4 h4 a5 h5 a6 h6 a7 h7 a8 h8 a9 h9 hc x x1 x2 x3 y)
  unfold kernelRun0_A
  dsimp only
  sl_unfold_words
  simp only [View.readAt_eq_ld, h2.read_unread, h3.read_unread, h4.read_unread, h5.read_unread, View.ld_unit_zero (S := S1024x1024) hz2,
    View.ld_unit_zero (S := S1x1024x1024) hz3, View.readCov_unit_zero (S := S1024x1024) _ hz2]
  have e1 : k0_pay2 x1 = kept x1 := cast_eq_kept x1 _ _ _
  have e2 : k0_pay3 x2 = kept x2 := cast_eq_kept x2 _ _ _
  have e3 : k0_pay4 x3 = kept x3 := cast_eq_kept x3 _ _ _
  rw [e1, e2, e3]
  intro p hp
  simp only [List.mem_cons, List.not_mem_nil, or_false] at hp
  rcases hp with rfl | rfl | rfl | rfl
  · intro j; exact slice_apply x (kept x1) (kept x2) (kept x3) 768 _ j
  · intro j; exact slice_apply x (kept x1) (kept x2) (kept x3) 512 _ j
  · intro j; exact slice_apply x (kept x1) (kept x2) (kept x3) 256 _ j
  · intro j; exact slice_apply x (kept x1) (kept x2) (kept x3) 0 _ j

end Cases

end Cert.Proof.Moe

end
-- ==== Proof.MoeValue.lean ====
/-
  The expert layer's kernel and its reference compute the same array at the ideal values: the kernel's grid of 16 experts by 8
  batches leaves, at every index, the feed-forward of the token row by the expert's matrices; the host's three products are the
  same sums with the factors in the other order.
-/
module

public import proofs.«01_k».proof.Proof.MoeBlock
public import Idealize.ShloMosaic.Lib.IdealHost
public import proofs.«01_k».proof.Proof.Gen.Kernel2Ideal.Value
public import proofs.«01_k».proof.Proof.Gen.Reference2Ideal.Read

@[expose] public section

noncomputable section

namespace Cert.Proof.Moe

open Idealize.ShloMosaic Idealize.ShloMosaic.TcCoe Idealize.SL.Sem Idealize.ShloMosaic.ValueIdx
open Cert.Kernel2Ideal Cert.Kernel2Ideal.Gen
open scoped BigOperators

variable (m : (ℓ : Loc nD τ sig) → Buf (Elt Ideal) ℓ)

/-- The block indices of the five windows, decided over the grid: expert `t / 8`, batch `t % 8`. -/
theorem index0 : ∀ t : Fin cfg0.N, win0_0.index t = ![t.val % 8, t.val / 8, 0, 0] := (by decide +kernel : ∀ t : Fin grid0.N, _)
theorem index1 : ∀ t : Fin cfg0.N, win0_1.index t = ![t.val / 8, 0, 0] := (by decide +kernel : ∀ t : Fin grid0.N, _)
theorem index2 : ∀ t : Fin cfg0.N, win0_2.index t = ![t.val / 8, 0, 0] := (by decide +kernel : ∀ t : Fin grid0.N, _)
theorem index3 : ∀ t : Fin cfg0.N, win0_3.index t = ![t.val / 8, 0, 0] := (by decide +kernel : ∀ t : Fin grid0.N, _)

theorem div_lt (t : Fin cfg0.N) : t.val / 8 < 16 := by
  have h := lt_of_lt_of_eq t.isLt (show cfg0.N = 128 from N_0)
  omega

/-- The expert of a point. -/
def ex (t : Fin cfg0.N) : Fin 16 := ⟨t.val / 8, div_lt t⟩
/-- The batch of a point. -/
def ba (t : Fin cfg0.N) : Fin 8 := ⟨t.val % 8, Nat.mod_lt _ (by decide)⟩

/-- The matrix a weight block keeps is the expert's own, in each of the three arrays. -/
theorem kept1 (c : Dev nD) (t : Fin cfg0.N) : kept (iblk m c 1 t) = fun i => m ((c : Thread nD τ).loc main_arg1) (ix3 (ex t) (i 0) (i 1)) := by
  funext i
  unfold kept iblk
  rw [View.read_apply]
  show V m c main_arg1 _ = _
  unfold V
  congr 1
  funext a
  apply Fin.ext
  match a with
  | ⟨0, _⟩ => show win0_1.index t 0 * 1 + 1 * 0 = t.val / 8; rw [index1]; simp
  | ⟨1, _⟩ => show win0_1.index t 1 * 1024 + 1 * (i 0).val = (i 0).val; rw [index1]; simp
  | ⟨2, _⟩ => show win0_1.index t 2 * 1024 + 1 * (i 1).val = (i 1).val; rw [index1]; simp

theorem kept2 (c : Dev nD) (t : Fin cfg0.N) : kept (iblk m c 2 t) = fun i => m ((c : Thread nD τ).loc main_arg2) (ix3 (ex t) (i 0) (i 1)) := by
  funext i
  unfold kept iblk
  rw [View.read_apply]
  show V m c main_arg2 _ = _
  unfold V
  congr 1
  funext a
  apply Fin.ext
  match a with
  | ⟨0, _⟩ => show win0_2.index t 0 * 1 + 1 * 0 = t.val / 8; rw [index2]; simp
  | ⟨1, _⟩ => show win0_2.index t 1 * 1024 + 1 * (i 0).val = (i 0).val; rw [index2]; simp
  | ⟨2, _⟩ => show win0_2.index t 2 * 1024 + 1 * (i 1).val = (i 1).val; rw [index2]; simp

theorem kept3 (c : Dev nD) (t : Fin cfg0.N) : kept (iblk m c 3 t) = fun i => m ((c : Thread nD τ).loc main_arg3) (ix3 (ex t) (i 0) (i 1)) := by
  funext i
  unfold kept iblk
  rw [View.read_apply]
  show V m c main_arg3 _ = _
  unfold V
  congr 1
  funext a
  apply Fin.ext
  match a with
  | ⟨0, _⟩ => show win0_3.index t 0 * 1 + 1 * 0 = t.val / 8; rw [index3]; simp
  | ⟨1, _⟩ => show win0_3.index t 1 * 1024 + 1 * (i 0).val = (i 0).val; rw [index3]; simp
  | ⟨2, _⟩ => show win0_3.index t 2 * 1024 + 1 * (i 1).val = (i 1).val; rw [index3]; simp

/-- The token block of a point is the first 1024 slots of its batch's and its expert's row of the dispatched tokens. -/
theorem tokens (c : Dev nD) (t : Fin cfg0.N) (r k : Fin 1024) :
    X0_0 m c t (ix4 0 0 r k : S1x1x1024x1024.Idx) = m ((c : Thread nD τ).loc main_arg0) (ix4 (ba t) (ex t) ⟨r.val, by omega⟩ k) := by
  unfold X0_0 Pipeline.Window.fill
  rw [dif_pos (moved0_0 t _)]
  unfold iblk
  rw [View.read_apply]
  show V m c main_arg0 _ = _
  unfold V
  congr 1
  funext a
  apply Fin.ext
  match a with
  | ⟨0, _⟩ => show win0_0.index t 0 * 1 + 1 * 0 = t.val % 8; rw [index0]; simp
  | ⟨1, _⟩ => show win0_0.index t 1 * 1 + 1 * 0 = t.val / 8; rw [index0]; simp
  | ⟨2, _⟩ => show win0_0.index t 2 * 1024 + 1 * r.val = r.val; rw [index0]; simp
  | ⟨3, _⟩ => show win0_0.index t 3 * 1024 + 1 * k.val = k.val; rw [index0]; simp

/-- The matrices held after every point are the point's expert's: kept at the expert's first point, untouched at the others. -/
theorem held (c : Dev nD) : ∀ (n : ℕ) (h : n < cfg0.N), (outsAt0 m c n h).2
    = (kept (iblk m c 1 ⟨n, h⟩), kept (iblk m c 2 ⟨n, h⟩), kept (iblk m c 3 ⟨n, h⟩)) := by
  intro n
  induction n with
  | zero =>
    intro h
    rw [outsAt0_A m c ⟨0, h⟩ (Nat.zero_mod _)]
    dsimp only
    rw [sout_A0, sout_A1, sout_A2]
  | succ n ih =>
    intro h
    by_cases h0 : (n + 1) % 8 = 0
    · rw [outsAt0_A m c ⟨n + 1, h⟩ h0]
      dsimp only
      rw [sout_A0, sout_A1, sout_A2]
    · rw [outsAt0_B m c ⟨n + 1, h⟩ h0]
      show ((outsAt0 m c n _).2.1, (outsAt0 m c n _).2.2.1, (outsAt0 m c n _).2.2.2) = _
      have e : ex (⟨n, Nat.lt_of_succ_lt h⟩ : Fin cfg0.N) = ex ⟨n + 1, h⟩ := Fin.ext (by show n / 8 = (n + 1) / 8; omega)
      rw [ih (Nat.lt_of_succ_lt h)]
      simp only [kept1, kept2, kept3, e]

/-- The output block after every point: the block's value at the point's tokens and its expert's matrices. -/
theorem outBlock (c : Dev nD) (t : Fin cfg0.N) : (outsAt0 m c t.val t.isLt).1
    = blockVal (X0_0 m c t) (kept (iblk m c 1 t)) (kept (iblk m c 2 t)) (kept (iblk m c 3 t)) := by
  by_cases h0 : t.val % 8 = 0
  · rw [outsAt0_A m c t h0]
    dsimp only
    rw [out_A]
  · rw [outsAt0_B m c t h0]
    dsimp only
    rw [out_B, held m c (t.val - 1)]
    have e : ex (⟨t.val - 1, Nat.lt_of_le_of_lt (Nat.sub_le _ _) t.isLt⟩ : Fin cfg0.N) = ex t :=
      Fin.ext (by show (t.val - 1) / 8 = t.val / 8; omega)
    simp only [kept1, kept2, kept3, e]

/-- The layer, as mathematics: slot `r` of expert `e` in batch `b`, column `d`. -/
def layer (x : S8x16x1088x1024.Idx → EReal) (wg wu wd : S16x1024x1024.Idx → EReal) : S8x16x1024x1024.Idx → EReal :=
  fun i => ffn (fun k => x (ix4 (i 0) (i 1) ⟨(i 2).val, by have h : (i 2).val < 1024 := (i 2).isLt; omega⟩ k))
    (fun k f => wg (ix3 (i 1) k f)) (fun k f => wu (ix3 (i 1) k f)) (fun k f => wd (ix3 (i 1) k f)) (i 3)

/-- The kernel's result array is the layer of its arguments. -/
theorem result_eq (c : Dev nD) : Cert.Kernel2Ideal.Value.G4 m c
    = layer (m ((c : Thread nD τ).loc main_arg0)) (m ((c : Thread nD τ).loc main_arg1)) (m ((c : Thread nD τ).loc main_arg2)) (m ((c : Thread nD τ).loc main_arg3)) := by
  funext i
  have h0 : (i 0).val < 8 := (i 0).isLt
  have h1 : (i 1).val < 16 := (i 1).isLt
  have h2 : (i 2).val < 1024 := (i 2).isLt
  have h3 : (i 3).val < 1024 := (i 3).isLt
  have hp : Cert.Kernel2Ideal.Value.pt4Of i = (i 0).val + 8 * (i 1).val := by
    show 1 * ((i 0).val / 1 - 0) + 8 * ((i 1).val / 1 - 0) + 128 * ((i 2).val / 1024 - 0) + 128 * ((i 3).val / 1024 - 0) = _
    omega
  have hlt : Cert.Kernel2Ideal.Value.pt4Of i < cfg0.N := by rw [hp, show cfg0.N = 128 from N_0]; omega
  unfold Cert.Kernel2Ideal.Value.G4
  rw [dif_pos hlt, ← Cert.Kernel2Ideal.Value.outsAt0_sweep m c _ hlt, outBlock m c ⟨_, hlt⟩]
  generalize ht : (⟨Cert.Kernel2Ideal.Value.pt4Of i, hlt⟩ : Fin cfg0.N) = t
  have htv : t.val = (i 0).val + 8 * (i 1).val := by rw [← ht]; exact hp
  have hb : ba t = i 0 := Fin.ext (by show t.val % 8 = (i 0).val; omega)
  have he : ex t = i 1 := Fin.ext (by show t.val / 8 = (i 1).val; omega)
  have l2 : Cert.Kernel2Ideal.Value.loc4Of i 2 = i 2 := Fin.ext (by show (i 2).val % 1024 = (i 2).val; omega)
  have l3 : Cert.Kernel2Ideal.Value.loc4Of i 3 = i 3 := Fin.ext (by show (i 3).val % 1024 = (i 3).val; omega)
  unfold blockVal layer
  rw [l2, l3, kept1, kept2, kept3, he]
  refine congrArg (fun z => ffn z _ _ _ _) (funext fun k => ?_)
  refine (tokens m c t (i 2) k).trans ?_
  rw [hb, he]

/-- The reference's result is the same layer. -/
theorem reference_eq (x : S8x16x1088x1024.Idx → EReal) (wg wu wd : S16x1024x1024.Idx → EReal) :
    Cert.Reference2Ideal.Read.val_main_v10 (F := Ideal) x wg wu wd = layer x wg wu wd := by
  funext i
  unfold layer ffn
  rw [Cert.Reference2Ideal.Read.val_main_v10_apply, Cert.Reference2Ideal.Read.val_main_v9_apply, Cert.Reference2Ideal.Read.val_main_v8_apply]
  show (∑ f : Fin 1024, _) = _
  refine Finset.sum_congr rfl fun f _ => ?_
  rw [mul_comm]
  refine congrArg₂ (· * ·) ?_ ?_
  · rw [Cert.Reference2Ideal.Read.val_main_v7_apply, Cert.Reference2Ideal.Read.val_main_v4_apply, Cert.Reference2Ideal.Read.val_main_call0_v5_apply,
      Cert.Reference2Ideal.Read.val_main_call0_v3_apply, Cert.Reference2Ideal.Read.val_main_call0_v1_apply, Cert.Reference2Ideal.Read.val_main_call0_v0_apply,
      Cert.Reference2Ideal.Read.val_main_v6_apply, Cert.Reference2Ideal.Read.val_main_v3_apply, Cert.Reference2Ideal.Read.val_main_v2_apply,
      Cert.Reference2Ideal.Read.val_main_v5_apply]
    have hg : (∑ k : Fin 1024, wg (Cert.Reference2Ideal.Read.lidx_main_v2 (Cert.Reference2Ideal.Read.idx_main_v3 (Cert.Reference2Ideal.Read.ridx_main_v8 (Cert.Reference2Ideal.Read.idx_main_v9 i) f)) k)
        * Cert.Reference2Ideal.Read.val_main_v1 (F := Ideal) x (Cert.Reference2Ideal.Read.ridx_main_v2 (Cert.Reference2Ideal.Read.idx_main_v3 (Cert.Reference2Ideal.Read.ridx_main_v8 (Cert.Reference2Ideal.Read.idx_main_v9 i) f)) k))
        = ∑ k : Fin 1024, x (ix4 (i 0) (i 1) ⟨(i 2).val, by have h : (i 2).val < 1024 := (i 2).isLt; omega⟩ k) * wg (ix3 (i 1) k f) := by
      refine Finset.sum_congr rfl fun k _ => ?_
      rw [mul_comm, Cert.Reference2Ideal.Read.val_main_v1_apply, Cert.Reference2Ideal.Read.val_main_v0_apply]
      refine congrArg₂ (· * ·) ?_ ?_
      · refine congrArg x (funext fun a => Fin.ext ?_)
        match a with
        | ⟨0, _⟩ => rfl
        | ⟨1, _⟩ => rfl
        | ⟨2, _⟩ => rfl
        | ⟨3, _⟩ => rfl
      · refine congrArg wg (funext fun a => Fin.ext ?_)
        match a with
        | ⟨0, _⟩ => rfl
        | ⟨1, _⟩ => rfl
        | ⟨2, _⟩ => rfl
    have hu : (∑ k : Fin 1024, wu (Cert.Reference2Ideal.Read.lidx_main_v5 (Cert.Reference2Ideal.Read.idx_main_v6 (Cert.Reference2Ideal.Read.ridx_main_v8 (Cert.Reference2Ideal.Read.idx_main_v9 i) f)) k)
        * Cert.Reference2Ideal.Read.val_main_v1 (F := Ideal) x (Cert.Reference2Ideal.Read.ridx_main_v5 (Cert.Reference2Ideal.Read.idx_main_v6 (Cert.Reference2Ideal.Read.ridx_main_v8 (Cert.Reference2Ideal.Read.idx_main_v9 i) f)) k))
        = ∑ k : Fin 1024, x (ix4 (i 0) (i 1) ⟨(i 2).val, by have h : (i 2).val < 1024 := (i 2).isLt; omega⟩ k) * wu (ix3 (i 1) k f) := by
      refine Finset.sum_congr rfl fun k _ => ?_
      rw [mul_comm, Cert.Reference2Ideal.Read.val_main_v1_apply, Cert.Reference2Ideal.Read.val_main_v0_apply]
      refine congrArg₂ (· * ·) ?_ ?_
      · refine congrArg x (funext fun a => Fin.ext ?_)
        match a with
        | ⟨0, _⟩ => rfl
        | ⟨1, _⟩ => rfl
        | ⟨2, _⟩ => rfl
        | ⟨3, _⟩ => rfl
      · refine congrArg wu (funext fun a => Fin.ext ?_)
        match a with
        | ⟨0, _⟩ => rfl
        | ⟨1, _⟩ => rfl
        | ⟨2, _⟩ => rfl
    rw [hg, hu, Cert.Reference2Ideal.Read.val_main_call0_v4_apply, Cert.Reference2Ideal.Read.val_main_call0_v2_apply,
      Cert.Reference2Ideal.Read.val_main_call0_cst_0_apply, Cert.Reference2Ideal.Read.val_main_call0_cst_apply]
    have one : Ideal.ofBits .f32 0x3F800000#32 = 1 := Ideal.ofBits_one_f32
    generalize (∑ k : Fin 1024, x (ix4 (i 0) (i 1) ⟨(i 2).val, _⟩ k) * wg (ix3 (i 1) k f)) = G
    generalize (∑ k : Fin 1024, x (ix4 (i 0) (i 1) ⟨(i 2).val, _⟩ k) * wu (ix3 (i 1) k f)) = U
    show G * Ideal.div (Ideal.ofBits .f32 0x3F800000#32) (Ideal.ofBits .f32 0x3F800000#32 + Ideal.exp (-G)) * U = _
    rw [one]
    rfl
  · refine congrArg wd (funext fun a => Fin.ext ?_)
    match a with
    | ⟨0, _⟩ => rfl
    | ⟨1, _⟩ => rfl
    | ⟨2, _⟩ => rfl

end Cert.Proof.Moe

end
-- ==== Proof.MoeClaim.lean ====
module

public import proofs.«01_k».proof.Defs
public import proofs.«01_k».proof.Proof.Gen.Kernel2Ideal
public import proofs.«01_k».proof.Proof.Gen.Reference2Ideal
public import proofs.«01_k».proof.Proof.MoeValue
public import proofs.«01_k».proof.Proof.Gen.Reference2Ideal.Run
public import proofs.«01_k».proof.Proof.Gen.Reference2Ideal.Read

@[expose] public section

noncomputable section

namespace Cert.Proof.Moe

open Idealize.ShloMosaic Idealize.SL.Sem

/-- The expert kernel and its reference, at the extended reals: from memories agreeing on the arguments both end
    with the same array and their arguments unchanged. -/
theorem agree : Cert.algebraic_Kernel2Ideal_Reference2Ideal (hKernel2Ideal := Cert.Kernel2Ideal.Gen.facts) (hReference2Ideal := Cert.Reference2Ideal.Gen.facts) := by
  intro m g m' g' _ hargs
  refine ⟨fun c => Cert.Kernel2Ideal.Value.G4 m c, Cert.Kernel2Ideal.Value.run (F := Ideal) m g, ?_⟩
  refine (θ_run _ _ _).mono (fun r h c => ?_) (Cert.Reference2Ideal.Value.run (F := Ideal) m' g')
  obtain ⟨h0, hk⟩ := h c
  obtain ⟨e0, e1, e2, e3⟩ := hargs c
  refine ⟨h0.trans ((Cert.Reference2Ideal.Read.val_main_v10_eq _ _ _ _).trans ((reference_eq _ _ _ _).trans ?_)), hk⟩
  rw [e0, e1, e2, e3]
  exact (result_eq m c).symm

end Cert.Proof.Moe

end
-- ==== Proof.MergeBlock.lean ====
/-
  The merge kernel, one block of 512 tokens at a time, at the ideal values.
-/
module

public import proofs.«01_k».proof.Defs
public import proofs.«01_k».proof.Proof.InProjBlock
public import proofs.«01_k».proof.Proof.Gen.Kernel3Ideal.Value
public import Idealize.ShloMosaic.Lib.Pipeline.ValueKit
public import Idealize.ShloMosaic.Lib.MatmulPlain
public import Idealize.ShloMosaic.Lib.ValueIdx
public import Idealize.ShloMosaic.Lib.Tactic
public import Idealize.ShloMosaic.Lib.ValueLayout

@[expose] public section

noncomputable section

namespace Cert.Proof.Merge

open Idealize.ShloMosaic Idealize.ShloMosaic.TcCoe Idealize.SL.Sem
open Cert.Kernel3Ideal Cert.Kernel3Ideal.Gen
open Cert.Proof.InProj (normed)
open scoped BigOperators

/-- One head of one token: the two directions' sum, normalised by its root mean square, weighted by `g` and gated by `c`. -/
def headed (a b c g : Fin 128 → EReal) (k : Fin 128) : EReal :=
  (a k + b k) * Ideal.rsqrt (Ideal.div (∑ j, (a j + b j) * (a j + b j)) (Ideal.ofBits .f32 0x43000000#32) + Ideal.ofBits .f32 0x358637BD#32) * g k * c k

/-- `headed` of a block's row. -/
def headBlk (g : Vec Ideal S1x128 .f32) (a b c : Vec Ideal S1x512x128 .bf16) (i : S512x128.Idx) : EReal :=
  headed (fun k => a (ix3 0 (i 0) k)) (fun k => b (ix3 0 (i 0) k)) (fun k => c (ix3 0 (i 0) k)) (fun k => g (ix2 0 k)) (i 1)

theorem pay8_apply (g : Vec Ideal S1x128 .f32) (a b c : Vec Ideal S1x512x128 .bf16) : k0_pay8 g a b c = headBlk g a b c := by
  funext i
  unfold k0_pay8 k0_pay7 headBlk headed
  dsimp only
  pointwise

theorem pay11_apply (g : Vec Ideal S1x128 .f32) (a b c : Vec Ideal S1x512x128 .bf16) : k0_pay11 (k0_pay7 g) (k0_pay9 a) (k0_pay10 b) c = headBlk g a b c := by
  funext i
  unfold k0_pay11 k0_pay10 k0_pay9 k0_pay7 headBlk headed
  dsimp only
  pointwise

theorem pay12_apply (g : Vec Ideal S1x128 .f32) (a b c : Vec Ideal S1x512x128 .bf16) : k0_pay12 (k0_pay7 g) a b c = headBlk g a b c := by
  funext i
  unfold k0_pay12 k0_pay7 headBlk headed
  dsimp only
  pointwise

theorem pay13_apply (g : Vec Ideal S1x128 .f32) (a b c : Vec Ideal S1x512x128 .bf16) : k0_pay13 (k0_pay7 g) a b c = headBlk g a b c := by
  funext i
  unfold k0_pay13 k0_pay7 headBlk headed
  dsimp only
  pointwise

theorem pay16_apply (g : Vec Ideal S1x128 .f32) (a b c : Vec Ideal S1x512x128 .bf16) : k0_pay16 (k0_pay7 g) (k0_pay14 a b) (k0_pay15 a b) c = headBlk g a b c := by
  funext i
  unfold k0_pay16 k0_pay15 k0_pay14 k0_pay7 headBlk headed
  dsimp only
  pointwise

theorem pay17_apply (g : Vec Ideal S1x128 .f32) (a b c : Vec Ideal S1x512x128 .bf16) : k0_pay17 (k0_pay7 g) a b c = headBlk g a b c := by
  funext i
  unfold k0_pay17 k0_pay7 headBlk headed
  dsimp only
  pointwise

theorem pay20_apply (g : Vec Ideal S1x128 .f32) (a b c : Vec Ideal S1x512x128 .bf16) : k0_pay20 (k0_pay7 g) (k0_pay18 a) (k0_pay19 b) c = headBlk g a b c := by
  funext i
  unfold k0_pay20 k0_pay19 k0_pay18 k0_pay7 headBlk headed
  dsimp only
  pointwise

theorem pay21_apply (g : Vec Ideal S1x128 .f32) (a b c : Vec Ideal S1x512x128 .bf16) : k0_pay21 (k0_pay7 g) a b c = headBlk g a b c := by
  funext i
  unfold k0_pay21 k0_pay7 headBlk headed
  dsimp only
  pointwise

/-- The eight heads side by side. -/
def side (f : Fin 8 → FVec Ideal S512x128 .bf16) (i : S512x1024.Idx) : EReal :=
  f ⟨(i 1).val / 128, by have h : (i 1).val < 1024 := (i 1).isLt; omega⟩ (ix2 (i 0) ⟨(i 1).val % 128, by omega⟩)

theorem side_eq (f : Fin 8 → FVec Ideal S512x128 .bf16) :
    concatenate S512x1024 1 [⟨S512x128, f 0⟩, ⟨S512x128, f 1⟩, ⟨S512x128, f 2⟩, ⟨S512x128, f 3⟩, ⟨S512x128, f 4⟩, ⟨S512x128, f 5⟩, ⟨S512x128, f 6⟩, ⟨S512x128, f 7⟩] concatenates_S512x128_S512x128_S512x128_S512x128_S512x128_S512x128_S512x128_S512x128_S512x1024_d1
      = side f := by
  funext i
  refine concatenate_ofFn_apply (t := S512x1024) (s₁ := S512x128) (1 : Fin 2) (N := 8) f concatenates_S512x128_S512x128_S512x128_S512x128_S512x128_S512x128_S512x128_S512x128_S512x1024_d1 rfl 128 rfl i
    ⟨(i 1).val / 128, by have h : (i 1).val < 1024 := (i 1).isLt; omega⟩ rfl (ix2 (i 0) ⟨(i 1).val % 128, by omega⟩) rfl (fun b hb => ?_)
  match b with
  | ⟨0, _⟩ => rfl
  | ⟨1, _⟩ => exact absurd rfl hb

/-- A token's residual plus its gated merge of the two mixers through the output product. -/
def merged (x ya ga gb g1 : Fin 1024 → EReal) (po : Fin 512 → EReal) (wa : Fin 1024 → Fin 1024 → EReal) (wb : Fin 512 → Fin 1024 → EReal)
    (wo : Fin 1024 → Fin 1024 → EReal) (k : Fin 1024) : EReal :=
  x k + g1 k * ∑ q, (ga q * (∑ r, ya r * wa r q) + gb q * (∑ r, po r * wb r q)) * wo q k

theorem pay22_apply (g1 : FVec Ideal S1x1024 .f32) (f : Fin 8 → FVec Ideal S512x128 .bf16) (wa : Vec Ideal S1024x1024 .bf16) (po : Vec Ideal S1x512x512 .bf16)
    (wb : Vec Ideal S512x1024 .bf16) (ga gb : Vec Ideal S1x512x1024 .bf16) (x : Vec Ideal S1x512x1024 .f32) (wo : Vec Ideal S1024x1024 .bf16) (i : S512x1024.Idx) :
    k0_pay22 g1 (f 0) (f 1) (f 2) (f 3) (f 4) (f 5) (f 6) (f 7) wa po wb ga gb x wo i
      = merged (fun k => x (ix3 0 (i 0) k)) (fun k => side f (ix2 (i 0) k)) (fun k => ga (ix3 0 (i 0) k)) (fun k => gb (ix3 0 (i 0) k)) (fun k => g1 (ix2 0 k))
          (fun k => po (ix3 0 (i 0) k)) (fun j k => wa (ix2 j k)) (fun j k => wb (ix2 j k)) (fun j k => wo (ix2 j k)) (i 1) := by
  unfold merged
  unfold k0_pay22
  rw [side_eq f]
  generalize side f = v
  pointwise

/-- The stored copy of the new residual is that value. -/
theorem pay23_apply (g1 : FVec Ideal S1x1024 .f32) (f0 f1 f2 f3 f4 f5 f6 f7 : FVec Ideal S512x128 .bf16) (wa : Vec Ideal S1024x1024 .bf16) (po : Vec Ideal S1x512x512 .bf16)
    (wb : Vec Ideal S512x1024 .bf16) (ga gb : Vec Ideal S1x512x1024 .bf16) (x : Vec Ideal S1x512x1024 .f32) (wo : Vec Ideal S1024x1024 .bf16) (i : S1x512x1024.Idx) :
    k0_pay23 g1 f0 f1 f2 f3 f4 f5 f6 f7 wa po wb ga gb x wo i = k0_pay22 g1 f0 f1 f2 f3 f4 f5 f6 f7 wa po wb ga gb x wo (ix2 (i 1) (i 2)) := by
  unfold k0_pay23
  generalize k0_pay22 g1 f0 f1 f2 f3 f4 f5 f6 f7 wa po wb ga gb x wo = v
  pointwise

theorem pay25_eq (g1 : FVec Ideal S1x1024 .f32) (f0 f1 f2 f3 f4 f5 f6 f7 : FVec Ideal S512x128 .bf16) (wa : Vec Ideal S1024x1024 .bf16) (po : Vec Ideal S1x512x512 .bf16)
    (wb : Vec Ideal S512x1024 .bf16) (ga gb : Vec Ideal S1x512x1024 .bf16) (x : Vec Ideal S1x512x1024 .f32) (wo : Vec Ideal S1024x1024 .bf16) :
    k0_pay25 g1 f0 f1 f2 f3 f4 f5 f6 f7 wa po wb ga gb x wo
      = mulf (k0_pay22 g1 f0 f1 f2 f3 f4 f5 f6 f7 wa po wb ga gb x wo) (k0_pay22 g1 f0 f1 f2 f3 f4 f5 f6 f7 wa po wb ga gb x wo) := rfl

theorem pay2_apply (sh sc : FVec Ideal S1x1024 .f32) (v : FVec Ideal S512x1024 .f32) (g : FVec Ideal S1x1024 .f32) (s : FVec Ideal S512x1024 .f32) (i : S1x512x1024.Idx) :
    k0_pay2 sh sc v g s i = k0_pay1 sh sc v g s (ix2 (i 1) (i 2)) := by
  unfold k0_pay2
  generalize k0_pay1 sh sc v g s = u
  pointwise

theorem pay1_apply (sh sc : FVec Ideal S1x1024 .f32) (v : FVec Ideal S512x1024 .f32) (g : Vec Ideal S1x1024 .f32) (i : S512x1024.Idx) :
    k0_pay1 sh sc v (k0_pay24 g) (mulf v v) i = normed (fun j => v (ix2 (i 0) j)) (fun j => g (ix2 0 j)) (fun j => sh (ix2 0 j)) (fun j => sc (ix2 0 j)) (i 1) := by
  unfold k0_pay1 k0_pay24 normed
  dsimp only
  pointwise

/-- The softmax of sixteen scores. -/
def soft (s : Fin 16 → EReal) (e : Fin 16) : EReal :=
  Ideal.div (Ideal.exp (s e - Finset.univ.fold max ⊥ s)) (∑ j, Ideal.exp (s j - Finset.univ.fold max ⊥ s))

theorem pay3_apply (sh sc : FVec Ideal S1x1024 .f32) (v : FVec Ideal S512x1024 .f32) (g : FVec Ideal S1x1024 .f32) (s : FVec Ideal S512x1024 .f32) (w : Vec Ideal S16x1024 .bf16) (i : S1x16x512.Idx) :
    k0_pay3 sh sc v g s w i = soft (fun e => ∑ k : Fin 1024, w (ix2 e k) * k0_pay1 sh sc v g s (ix2 (i 2) k)) (i 1) := by
  unfold k0_pay3 soft
  generalize k0_pay1 sh sc v g s = u
  pointwise
  rw [show Ideal.ofBits .f32 0xFF800000#32 = ⊥ from by simp [Ideal.ofBits, Ideal.ieee]]

end Cert.Proof.Merge

end
-- ==== Proof.MergeValue.lean ====
/-
  The merge kernel over its whole grid: every array it leaves is the layer's function of the arguments.
-/
module

public import proofs.«01_k».proof.Proof.MergeBlock

@[expose] public section

noncomputable section

namespace Cert.Proof.Merge

open Idealize.ShloMosaic Idealize.ShloMosaic.TcCoe Idealize.SL.Sem
open Cert.Kernel3Ideal Cert.Kernel3Ideal.Gen
open Cert.Proof.InProj (normed)
open scoped BigOperators

/-- The arguments: residual, the two directions' readings, output gate, pooled tokens, the two merge gates, modulation, the two norms' weights, the
    products' matrices of the two mixers and the output, the router's matrix. -/
structure Args where
  x : S8x8192x1024.Idx → EReal
  oF : S8x8192x1024.Idx → EReal
  oB : S8x8192x1024.Idx → EReal
  og : S8x8192x1024.Idx → EReal
  pooled : S8x8192x512.Idx → EReal
  ga : S8x8192x1024.Idx → EReal
  gb : S8x8192x1024.Idx → EReal
  md : S16x6144.Idx → EReal
  hg : S128.Idx → EReal
  ng : S1024.Idx → EReal
  wa : S1024x1024.Idx → EReal
  wb : S512x1024.Idx → EReal
  wo : S1024x1024.Idx → EReal
  wr : S1024x16.Idx → EReal

/-- Lane `k` of head `h`. -/
def lane (h : Fin 8) (k : Fin 128) : Fin 1024 := ⟨h.val * 128 + k.val, by omega⟩

/-- The gated recurrence reading of a token: column `j` is lane `j % 128` of head `j / 128`. -/
def reading (a : Args) (b : Fin 8) (l : Fin 8192) (j : Fin 1024) : EReal :=
  headed (fun k => a.oF (ix3 b l (lane ⟨j.val / 128, by omega⟩ k))) (fun k => a.oB (ix3 b l (lane ⟨j.val / 128, by omega⟩ k)))
    (fun k => a.og (ix3 b l (lane ⟨j.val / 128, by omega⟩ k))) (fun k => a.hg (ix1 k)) ⟨j.val % 128, by omega⟩

/-- A token's modulation: 1024 columns from column `o` of its sample's row. -/
def modAt (a : Args) (b : Fin 8) (o : Nat) (ho : o + 1024 ≤ 6144) (k : Fin 1024) : EReal := a.md (ix2 ⟨b.val, by omega⟩ ⟨o + k.val, by omega⟩)

/-- The new residual of a token. -/
def resid (a : Args) (b : Fin 8) (l : Fin 8192) : Fin 1024 → EReal :=
  merged (fun k => a.x (ix3 b l k)) (reading a b l) (fun k => a.ga (ix3 b l k)) (fun k => a.gb (ix3 b l k)) (modAt a b 2048 (by omega))
    (fun k => a.pooled (ix3 b l k)) (fun j k => a.wa (ix2 j k)) (fun j k => a.wb (ix2 j k)) (fun j k => a.wo (ix2 j k))

/-- Its second modulated norm. -/
def second (a : Args) (b : Fin 8) (l : Fin 8192) : Fin 1024 → EReal :=
  normed (resid a b l) (fun k => a.ng (ix1 k)) (modAt a b 3072 (by omega)) (modAt a b 4096 (by omega))

/-- Its sixteen experts' weights. -/
def scores (a : Args) (b : Fin 8) (l : Fin 8192) : Fin 16 → EReal :=
  soft (fun e => ∑ k : Fin 1024, a.wr (ix2 k e) * second a b l k)

/-- The three results. -/
def residArr (a : Args) : S8x8192x1024.Idx → EReal := fun i => resid a (i 0) (i 1) (i 2)
def secondArr (a : Args) : S8x8192x1024.Idx → EReal := fun i => second a (i 0) (i 1) (i 2)
def scoresArr (a : Args) : S8x16x8192.Idx → EReal := fun i => scores a (i 0) (i 2) (i 1)

variable (m : (ℓ : Loc nD τ sig) → Buf (Elt Ideal) ℓ)

/-- The arguments in a memory. -/
def argsAt (c : Dev nD) : Args where
  x := m ((c : Thread nD τ).loc main_arg0)
  oF := m ((c : Thread nD τ).loc main_arg1)
  oB := m ((c : Thread nD τ).loc main_arg2)
  og := m ((c : Thread nD τ).loc main_arg3)
  pooled := m ((c : Thread nD τ).loc main_arg4)
  ga := m ((c : Thread nD τ).loc main_arg5)
  gb := m ((c : Thread nD τ).loc main_arg6)
  md := m ((c : Thread nD τ).loc main_arg7)
  hg := m ((c : Thread nD τ).loc main_arg8)
  ng := m ((c : Thread nD τ).loc main_arg9)
  wa := m ((c : Thread nD τ).loc main_arg10)
  wb := m ((c : Thread nD τ).loc main_arg11)
  wo := m ((c : Thread nD τ).loc main_arg12)
  wr := m ((c : Thread nD τ).loc main_arg13)

theorem index0 : ∀ t : Fin cfg0.N, win0_0.index t = ![t.val / 16, t.val % 16, 0] := (by decide +kernel : ∀ t : Fin grid0.N, _)
theorem index1 : ∀ t : Fin cfg0.N, win0_1.index t = ![t.val / 16, t.val % 16, 0] := (by decide +kernel : ∀ t : Fin grid0.N, _)
theorem index2 : ∀ t : Fin cfg0.N, win0_2.index t = ![t.val / 16, t.val % 16, 0] := (by decide +kernel : ∀ t : Fin grid0.N, _)
theorem index3 : ∀ t : Fin cfg0.N, win0_3.index t = ![t.val / 16, t.val % 16, 0] := (by decide +kernel : ∀ t : Fin grid0.N, _)
theorem index4 : ∀ t : Fin cfg0.N, win0_4.index t = ![t.val / 16, t.val % 16, 0] := (by decide +kernel : ∀ t : Fin grid0.N, _)
theorem index5 : ∀ t : Fin cfg0.N, win0_5.index t = ![t.val / 16, t.val % 16, 0] := (by decide +kernel : ∀ t : Fin grid0.N, _)
theorem index6 : ∀ t : Fin cfg0.N, win0_6.index t = ![t.val / 16, t.val % 16, 0] := (by decide +kernel : ∀ t : Fin grid0.N, _)
theorem index7 : ∀ t : Fin cfg0.N, win0_7.index t = ![0, 0] := (by decide +kernel : ∀ t : Fin grid0.N, _)
theorem index8 : ∀ t : Fin cfg0.N, win0_8.index t = ![0, 0] := (by decide +kernel : ∀ t : Fin grid0.N, _)
theorem index9 : ∀ t : Fin cfg0.N, win0_9.index t = ![0, 0] := (by decide +kernel : ∀ t : Fin grid0.N, _)
theorem index10 : ∀ t : Fin cfg0.N, win0_10.index t = ![0, 0] := (by decide +kernel : ∀ t : Fin grid0.N, _)
theorem index11 : ∀ t : Fin cfg0.N, win0_11.index t = ![0, 0] := (by decide +kernel : ∀ t : Fin grid0.N, _)
theorem index12 : ∀ t : Fin cfg0.N, win0_12.index t = ![0, 0] := (by decide +kernel : ∀ t : Fin grid0.N, _)
theorem index13 : ∀ t : Fin cfg0.N, win0_13.index t = ![0, 0] := (by decide +kernel : ∀ t : Fin grid0.N, _)
theorem index14 : ∀ t : Fin cfg0.N, win0_14.index t = ![t.val / 16, t.val % 16, 0] := (by decide +kernel : ∀ t : Fin grid0.N, _)
theorem index15 : ∀ t : Fin cfg0.N, win0_15.index t = ![t.val / 16, t.val % 16, 0] := (by decide +kernel : ∀ t : Fin grid0.N, _)
theorem index16 : ∀ t : Fin cfg0.N, win0_16.index t = ![t.val / 16, 0, t.val % 16] := (by decide +kernel : ∀ t : Fin grid0.N, _)

theorem off1 : ∀ t : Fin cfg0.N, k0_off1 (grid0.coords t) = ![t.val / 16, 0] := (by decide +kernel : ∀ t : Fin grid0.N, _)

theorem div_lt (t : Fin cfg0.N) : t.val / 16 < 8 := by
  have h := lt_of_lt_of_eq t.isLt (show cfg0.N = 128 from N_0)
  omega

/-- The sample of a point, and the token of one of its rows. -/
def sam (t : Fin cfg0.N) : Fin 8 := ⟨t.val / 16, div_lt t⟩
def tok (t : Fin cfg0.N) (r : Fin 512) : Fin 8192 := ⟨t.val % 16 * 512 + r.val, by omega⟩

theorem blk0 (c : Dev nD) (t : Fin cfg0.N) (r : Fin 512) (k : Fin 1024) : iblk m c 0 t (ix3 0 r k) = (argsAt m c).x (ix3 (sam t) (tok t r) k) := by
  unfold argsAt
  blk_ext! [iblk, V, index0 t]
  · rfl
  · rfl
theorem blk4 (c : Dev nD) (t : Fin cfg0.N) (r : Fin 512) (k : Fin 512) : iblk m c 4 t (ix3 0 r k) = (argsAt m c).pooled (ix3 (sam t) (tok t r) k) := by
  unfold argsAt
  blk_ext! [iblk, V, index4 t]
  · rfl
  · rfl
theorem blk5 (c : Dev nD) (t : Fin cfg0.N) (r : Fin 512) (k : Fin 1024) : iblk m c 5 t (ix3 0 r k) = (argsAt m c).ga (ix3 (sam t) (tok t r) k) := by
  unfold argsAt
  blk_ext! [iblk, V, index5 t]
  · rfl
  · rfl
theorem blk6 (c : Dev nD) (t : Fin cfg0.N) (r : Fin 512) (k : Fin 1024) : iblk m c 6 t (ix3 0 r k) = (argsAt m c).gb (ix3 (sam t) (tok t r) k) := by
  unfold argsAt
  blk_ext! [iblk, V, index6 t]
  · rfl
  · rfl
theorem blk8 (c : Dev nD) (t : Fin cfg0.N) (k : Fin 128) : iblk m c 8 t (ix2 0 k) = (argsAt m c).hg (ix1 k) := by
  unfold argsAt
  blk_ext! [iblk, V, index8 t]
theorem blk9 (c : Dev nD) (t : Fin cfg0.N) (k : Fin 1024) : iblk m c 9 t (ix2 0 k) = (argsAt m c).ng (ix1 k) := by
  unfold argsAt
  blk_ext! [iblk, V, index9 t]
theorem blk10 (c : Dev nD) (t : Fin cfg0.N) (j k : Fin 1024) : iblk m c 10 t (ix2 j k) = (argsAt m c).wa (ix2 j k) := by
  unfold argsAt
  blk_ext! [iblk, V, index10 t]
theorem blk11 (c : Dev nD) (t : Fin cfg0.N) (j : Fin 512) (k : Fin 1024) : iblk m c 11 t (ix2 j k) = (argsAt m c).wb (ix2 j k) := by
  unfold argsAt
  blk_ext! [iblk, V, index11 t]
theorem blk12 (c : Dev nD) (t : Fin cfg0.N) (j k : Fin 1024) : iblk m c 12 t (ix2 j k) = (argsAt m c).wo (ix2 j k) := by
  unfold argsAt
  blk_ext! [iblk, V, index12 t]
theorem blk13 (c : Dev nD) (t : Fin cfg0.N) (e : Fin 16) (k : Fin 1024) : iblk m c 13 t (ix2 e k) = (argsAt m c).wr (ix2 k e) := by
  unfold argsAt
  blk_ext! [iblk, V, index13 t]

/-- A head's columns of a block of tokens. -/
abbrev cols (v : Vec Ideal S1x512x1024 .bf16) (h : Fin 8) : Vec Ideal S1x512x128 .bf16 :=
  View.ld v (Rect.unit (s := S1x512x1024) ![0, 0, 128 * h.val] ![1, 512, 128] (by
    intro a
    match a with
    | ⟨0, _⟩ => show 0 + 1 ≤ 1; omega
    | ⟨1, _⟩ => show 0 + 512 ≤ 512; omega
    | ⟨2, _⟩ => show 128 * h.val + 128 ≤ 1024; omega))

theorem cols1 (c : Dev nD) (t : Fin cfg0.N) (h : Fin 8) (r : Fin 512) (k : Fin 128) : cols (iblk m c 1 t) h (ix3 0 r k) = (argsAt m c).oF (ix3 (sam t) (tok t r) (lane h k)) := by
  unfold argsAt cols
  rw [View.ld_apply]
  blk_ext! [iblk, V, index1 t]
  · rfl
  · show t.val % 16 * 512 + (0 + 1 * r.val) = t.val % 16 * 512 + r.val; omega
  · show 128 * h.val + 1 * k.val = h.val * 128 + k.val; omega

theorem cols2 (c : Dev nD) (t : Fin cfg0.N) (h : Fin 8) (r : Fin 512) (k : Fin 128) : cols (iblk m c 2 t) h (ix3 0 r k) = (argsAt m c).oB (ix3 (sam t) (tok t r) (lane h k)) := by
  unfold argsAt cols
  rw [View.ld_apply]
  blk_ext! [iblk, V, index2 t]
  · rfl
  · show t.val % 16 * 512 + (0 + 1 * r.val) = t.val % 16 * 512 + r.val; omega
  · show 128 * h.val + 1 * k.val = h.val * 128 + k.val; omega

theorem cols3 (c : Dev nD) (t : Fin cfg0.N) (h : Fin 8) (r : Fin 512) (k : Fin 128) : cols (iblk m c 3 t) h (ix3 0 r k) = (argsAt m c).og (ix3 (sam t) (tok t r) (lane h k)) := by
  unfold argsAt cols
  rw [View.ld_apply]
  blk_ext! [iblk, V, index3 t]
  · rfl
  · show t.val % 16 * 512 + (0 + 1 * r.val) = t.val % 16 * 512 + r.val; omega
  · show 128 * h.val + 1 * k.val = h.val * 128 + k.val; omega

/-- The row of the modulation that a point reads. -/
theorem md_blk (c : Dev nD) (t : Fin cfg0.N) (h : ∀ a, k0_off1 (grid0.coords t) a + (![1, 6144] : Fin 2 → Nat) a ≤ S16x6144.size a) (k : Fin 6144) :
    View.ld (iblk m c 7 t) (Rect.unit (s := S16x6144) (k0_off1 (grid0.coords t)) ![1, 6144] h) (ix2 0 k) = (argsAt m c).md (ix2 ⟨(sam t).val, by omega⟩ k) := by
  unfold argsAt
  rw [View.ld_apply]
  blk_ext! [iblk, V, index7 t, off1 t]
  · show k0_off1 (grid0.coords t) 0 + 1 * 0 = t.val / 16; rw [off1]; simp
  · show k0_off1 (grid0.coords t) 1 + 1 * k.val = k.val; rw [off1]; simp

/-- Its three groups of columns. -/
theorem pay4_blk (c : Dev nD) (t : Fin cfg0.N) (h : ∀ a, k0_off1 (grid0.coords t) a + (![1, 6144] : Fin 2 → Nat) a ≤ S16x6144.size a) (k : Fin 1024) :
    k0_pay4 (View.ld (iblk m c 7 t) (Rect.unit (s := S16x6144) (k0_off1 (grid0.coords t)) ![1, 6144] h)) (ix2 0 k) = modAt (argsAt m c) (sam t) 2048 (by omega) k := by
  refine Eq.trans ?_ (md_blk m c t h ⟨2048 + k.val, by omega⟩)
  unfold k0_pay4
  pointwise
theorem pay5_blk (c : Dev nD) (t : Fin cfg0.N) (h : ∀ a, k0_off1 (grid0.coords t) a + (![1, 6144] : Fin 2 → Nat) a ≤ S16x6144.size a) (k : Fin 1024) :
    k0_pay5 (View.ld (iblk m c 7 t) (Rect.unit (s := S16x6144) (k0_off1 (grid0.coords t)) ![1, 6144] h)) (ix2 0 k) = modAt (argsAt m c) (sam t) 3072 (by omega) k := by
  refine Eq.trans ?_ (md_blk m c t h ⟨3072 + k.val, by omega⟩)
  unfold k0_pay5
  pointwise
theorem pay6_blk (c : Dev nD) (t : Fin cfg0.N) (h : ∀ a, k0_off1 (grid0.coords t) a + (![1, 6144] : Fin 2 → Nat) a ≤ S16x6144.size a) (k : Fin 1024) :
    k0_pay6 (View.ld (iblk m c 7 t) (Rect.unit (s := S16x6144) (k0_off1 (grid0.coords t)) ![1, 6144] h)) (ix2 0 k) = modAt (argsAt m c) (sam t) 4096 (by omega) k := by
  refine Eq.trans ?_ (md_blk m c t h ⟨4096 + k.val, by omega⟩)
  unfold k0_pay6
  pointwise

/-- The eight heads of a point's tokens. -/
def fam (c : Dev nD) (t : Fin cfg0.N) (h : Fin 8) : FVec Ideal S512x128 .bf16 :=
  headBlk (iblk m c 8 t) (cols (iblk m c 1 t) h) (cols (iblk m c 2 t) h) (cols (iblk m c 3 t) h)

theorem side_blk (c : Dev nD) (t : Fin cfg0.N) (r : Fin 512) (k : Fin 1024) : side (fam m c t) (ix2 r k) = reading (argsAt m c) (sam t) (tok t r) k := by
  unfold side fam headBlk reading
  have e (a a' b b' d d' g g' : Fin 128 → EReal) (n : Fin 128) (ha : a = a') (hb : b = b') (hd : d = d') (hg : g = g') : headed a b d g n = headed a' b' d' g' n := by
    rw [ha, hb, hd, hg]
  exact e _ _ _ _ _ _ _ _ _ (funext fun q => cols1 m c t _ r q) (funext fun q => cols2 m c t _ r q) (funext fun q => cols3 m c t _ r q) (funext fun q => blk8 m c t q)

/-- The new residuals that a point's body computes. -/
theorem resid_blk (c : Dev nD) (t : Fin cfg0.N) (h : ∀ a, k0_off1 (grid0.coords t) a + (![1, 6144] : Fin 2 → Nat) a ≤ S16x6144.size a) (i : S512x1024.Idx) :
    k0_pay22 (k0_pay4 (View.ld (iblk m c 7 t) (Rect.unit (s := S16x6144) (k0_off1 (grid0.coords t)) ![1, 6144] h)))
        (fam m c t 0) (fam m c t 1) (fam m c t 2) (fam m c t 3) (fam m c t 4) (fam m c t 5) (fam m c t 6) (fam m c t 7)
        (iblk m c 10 t) (iblk m c 4 t) (iblk m c 11 t) (iblk m c 5 t) (iblk m c 6 t) (iblk m c 0 t) (iblk m c 12 t) i
      = resid (argsAt m c) (sam t) (tok t (i 0)) (i 1) := by
  refine (pay22_apply _ (fam m c t) _ _ _ _ _ _ _ i).trans ?_
  unfold resid
  congr 1
  · exact funext fun k => blk0 m c t (i 0) k
  · exact funext fun k => side_blk m c t (i 0) k
  · exact funext fun k => blk5 m c t (i 0) k
  · exact funext fun k => blk6 m c t (i 0) k
  · exact funext fun k => pay4_blk m c t h k
  · exact funext fun k => blk4 m c t (i 0) k
  · exact funext fun j => funext fun k => blk10 m c t j k
  · exact funext fun j => funext fun k => blk11 m c t j k
  · exact funext fun j => funext fun k => blk12 m c t j k

/-- What a point leaves in its three blocks. -/
theorem out14 (c : Dev nD) (t : Fin cfg0.N) (y : S1x512x1024.Idx) : (outsAt0 m c t).1 y = residArr (argsAt m c) (ix3 (sam t) (tok t (y 1)) (y 2)) := by
  unfold outsAt0
  frame_out
  rw [pay8_apply, pay11_apply, pay12_apply, pay13_apply, pay16_apply, pay17_apply, pay20_apply, pay21_apply]
  refine (pay23_apply ..).trans ?_
  exact resid_blk m c t _ (ix2 (y 1) (y 2))

theorem second_blk (c : Dev nD) (t : Fin cfg0.N) (h : ∀ a, k0_off1 (grid0.coords t) a + (![1, 6144] : Fin 2 → Nat) a ≤ S16x6144.size a) (v : FVec Ideal S512x1024 .f32)
    (hv : ∀ i, v i = resid (argsAt m c) (sam t) (tok t (i 0)) (i 1)) (i : S512x1024.Idx) :
    k0_pay1 (k0_pay5 (View.ld (iblk m c 7 t) (Rect.unit (s := S16x6144) (k0_off1 (grid0.coords t)) ![1, 6144] h)))
        (k0_pay6 (View.ld (iblk m c 7 t) (Rect.unit (s := S16x6144) (k0_off1 (grid0.coords t)) ![1, 6144] h))) v (k0_pay24 (iblk m c 9 t)) (mulf v v) i
      = second (argsAt m c) (sam t) (tok t (i 0)) (i 1) := by
  refine (pay1_apply _ _ v _ i).trans ?_
  unfold second
  congr 1
  · exact funext fun k => hv (ix2 (i 0) k)
  · exact funext fun k => blk9 m c t k
  · exact funext fun k => pay5_blk m c t h k
  · exact funext fun k => pay6_blk m c t h k

theorem out15 (c : Dev nD) (t : Fin cfg0.N) (y : S1x512x1024.Idx) : (outsAt0 m c t).2.1 y = secondArr (argsAt m c) (ix3 (sam t) (tok t (y 1)) (y 2)) := by
  unfold outsAt0
  frame_out
  rw [pay8_apply, pay11_apply, pay12_apply, pay13_apply, pay16_apply, pay17_apply, pay20_apply, pay21_apply]
  refine (pay2_apply ..).trans ?_
  rw [pay25_eq]
  exact second_blk m c t _ _ (fun i => resid_blk m c t _ i) (ix2 (y 1) (y 2))

theorem out16 (c : Dev nD) (t : Fin cfg0.N) (y : S1x16x512.Idx) : (outsAt0 m c t).2.2 y = scoresArr (argsAt m c) (ix3 (sam t) (y 1) (tok t (y 2))) := by
  unfold outsAt0
  frame_out
  rw [pay8_apply, pay11_apply, pay12_apply, pay13_apply, pay16_apply, pay17_apply, pay20_apply, pay21_apply]
  refine (pay3_apply ..).trans ?_
  rw [pay25_eq]
  show _ = soft (fun e => ∑ k : Fin 1024, (argsAt m c).wr (ix2 k e) * second (argsAt m c) (sam t) (tok t (y 2)) k) (y 1)
  refine congrArg (fun s => soft s (y 1)) (funext fun e => Finset.sum_congr rfl fun k _ => congrArg₂ (· * ·) (blk13 m c t e k) ?_)
  exact second_blk m c t _ _ (fun i => resid_blk m c t _ i) (ix2 (y 2) k)

/-- The three arrays. -/
theorem arr14 (c : Dev nD) : (dats m 0 c).arrAt 14 cfg0.N = residArr (argsAt m c) := by
  refine (dats m 0 c).arrAt_eq_of_covers 14 _ (by decide +kernel) fun t hf y => ?_
  blk_simp
  rw [after0_14]
  refine (out14 m c t y).trans (congrArg (residArr (argsAt m c)) (funext fun a => Fin.ext ?_))
  match a with
  | ⟨0, _⟩ => show t.val / 16 = win0_14.index t 0 * 1 + 1 * (y 0).val; rw [index14]; simp
  | ⟨1, _⟩ => show t.val % 16 * 512 + (y 1).val = win0_14.index t 1 * 512 + 1 * (y 1).val; rw [index14]; simp
  | ⟨2, _⟩ => show (y 2).val = win0_14.index t 2 * 1024 + 1 * (y 2).val; rw [index14]; simp

theorem arr15 (c : Dev nD) : (dats m 0 c).arrAt 15 cfg0.N = secondArr (argsAt m c) := by
  refine (dats m 0 c).arrAt_eq_of_covers 15 _ (by decide +kernel) fun t hf y => ?_
  blk_simp
  rw [after0_15]
  refine (out15 m c t y).trans (congrArg (secondArr (argsAt m c)) (funext fun a => Fin.ext ?_))
  match a with
  | ⟨0, _⟩ => show t.val / 16 = win0_15.index t 0 * 1 + 1 * (y 0).val; rw [index15]; simp
  | ⟨1, _⟩ => show t.val % 16 * 512 + (y 1).val = win0_15.index t 1 * 512 + 1 * (y 1).val; rw [index15]; simp
  | ⟨2, _⟩ => show (y 2).val = win0_15.index t 2 * 1024 + 1 * (y 2).val; rw [index15]; simp

theorem arr16 (c : Dev nD) : (dats m 0 c).arrAt 16 cfg0.N = scoresArr (argsAt m c) := by
  refine (dats m 0 c).arrAt_eq_of_covers 16 _ (by decide +kernel) fun t hf y => ?_
  blk_simp
  rw [after0_16]
  refine (out16 m c t y).trans (congrArg (scoresArr (argsAt m c)) (funext fun a => Fin.ext ?_))
  match a with
  | ⟨0, _⟩ => show t.val / 16 = win0_16.index t 0 * 1 + 1 * (y 0).val; rw [index16]; simp
  | ⟨1, _⟩ => show (y 1).val = win0_16.index t 1 * 16 + 1 * (y 1).val; rw [index16]; simp
  | ⟨2, _⟩ => show t.val % 16 * 512 + (y 2).val = win0_16.index t 2 * 512 + 1 * (y 2).val; rw [index16]; simp

end Cert.Proof.Merge

end
-- ==== Proof.MergeRef.lean ====
/-
  The merge's reference is the same function of the arguments.
-/
module

public import proofs.«01_k».proof.Proof.MergeValue
public import proofs.«01_k».proof.Proof.Gen.Reference3Ideal.Read

@[expose] public section

noncomputable section

namespace Cert.Proof.Merge

open Idealize.ShloMosaic Idealize.ShloMosaic.TcCoe Idealize.SL.Sem
open Cert.Reference3Ideal Cert.Reference3Ideal.Read
open Cert.Proof.InProj (normed)
open scoped BigOperators

variable (a : Args)

/-- The gated recurrence reading. -/
theorem ref27 (i : S8x8192x1024.Idx) : val_main_v27 (F := Ideal) a.oF a.oB a.og a.hg i = reading a (i 0) (i 1) (i 2) := by
  unfold val_main_v27 val_main_v26 val_main_v25 val_main_v24 val_main_v23 val_main_v22 val_main_v21 val_main_v20 val_main_v19 val_main_v18 val_main_v17 val_main_v16 val_main_v15 val_main_v14 val_main_v13 val_main_v12 val_main_v11 val_main_v10 val_main_v9 val_main_v8 val_main_cst val_main_cst_0 val_main_cst_1 reading headed
  pointwise
  have e : ix3 (i 0) (i 1) (lane ⟨(i 2).val / 128, by have h : (i 2).val < 1024 := (i 2).isLt; omega⟩ ⟨(i 2).val % 128, by omega⟩) = i := funext fun a => Fin.ext (by
    match a with
    | ⟨0, _⟩ => rfl
    | ⟨1, _⟩ => rfl
    | ⟨2, _⟩ => show (i 2).val / 128 * 128 + (i 2).val % 128 = (i 2).val; omega)
  exact congrArg₂ (· * ·) (congrArg₂ (· * ·) (congrArg₂ (· * ·) (congrArg₂ (· + ·) (congrArg a.oF e.symm) (congrArg a.oB e.symm)) rfl) rfl) (congrArg a.og e.symm)

/-- The new residual. -/
theorem ref39 : val_main_v39 (F := Ideal) a.x a.oF a.oB a.og a.pooled a.ga a.gb a.md a.hg a.wa a.wb a.wo = residArr a := by
  funext i
  unfold val_main_v39 val_main_v38 val_main_v37 val_main_v36 val_main_v35 val_main_v34 val_main_v33 val_main_v32 val_main_v31 val_main_v30 val_main_v29 val_main_v28 val_main_v4 val_main_v1 val_main_v0 residArr resid merged modAt
  rw [show val_main_v27 (F := Ideal) a.oF a.oB a.og a.hg = fun i => reading a (i 0) (i 1) (i 2) from funext (ref27 a)]
  generalize reading a = w
  pointwise

/-- The second modulated norm. -/
theorem ref58 (i : S8x8192x1024.Idx) : val_main_v58 (F := Ideal) a.x a.oF a.oB a.og a.pooled a.ga a.gb a.md a.hg a.ng a.wa a.wb a.wo i = second a (i 0) (i 1) (i 2) := by
  unfold val_main_v58 val_main_v57 val_main_v56 val_main_v55 val_main_v54 val_main_v53 val_main_v52 val_main_v51 val_main_v50 val_main_v49 val_main_v48 val_main_v47 val_main_v46 val_main_v45 val_main_v44 val_main_v43 val_main_v42 val_main_v41 val_main_v40 val_main_v6 val_main_v5 val_main_v1 val_main_v0 val_main_cst_2 val_main_cst_3 val_main_cst_4 val_main_cst_5 second modAt normed
  rw [ref39]
  unfold residArr
  generalize resid a = w
  pointwise

theorem ref71 : val_main_v71 (F := Ideal) a.x a.oF a.oB a.og a.pooled a.ga a.gb a.md a.hg a.ng a.wa a.wb a.wo = secondArr a := by
  funext i
  unfold val_main_v71
  refine Eq.trans ?_ (ref58 a i)
  generalize val_main_v58 (F := Ideal) a.x a.oF a.oB a.og a.pooled a.ga a.gb a.md a.hg a.ng a.wa a.wb a.wo = w
  pointwise

/-- The experts' weights. -/
theorem ref72 : val_main_v72 (F := Ideal) a.x a.oF a.oB a.og a.pooled a.ga a.gb a.md a.hg a.ng a.wa a.wb a.wo a.wr = scoresArr a := by
  funext i
  unfold val_main_v72 val_main_v70 val_main_v69 val_main_v68 val_main_v67 val_main_v66 val_main_v65 val_main_v64 val_main_v63 val_main_v62 val_main_v61 val_main_v60 val_main_v59 val_main_cst_6 val_main_cst_7 val_main_cst_8 scoresArr scores soft
  rw [show val_main_v58 (F := Ideal) a.x a.oF a.oB a.og a.pooled a.ga a.gb a.md a.hg a.ng a.wa a.wb a.wo = fun i => second a (i 0) (i 1) (i 2) from funext (ref58 a)]
  generalize second a = w
  pointwise
  have hc : ∀ x : Fin 16, (∑ k : Fin 1024, w (i 0) (i 2) k * a.wr (ix2 k x)) = ∑ k : Fin 1024, a.wr (ix2 k x) * w (i 0) (i 2) k :=
    fun x => Finset.sum_congr rfl fun k _ => mul_comm _ _
  have hb : Ideal.ofBits .f32 0xFF800000#32 = ⊥ := by simp [Ideal.ofBits, Ideal.ieee]
  simp only [hb, max_bot_left, hc]
  exact congrArg₂ Ideal.div (congrArg Ideal.exp (congrArg₂ (· - ·) (hc (i 1)) rfl)) rfl

end Cert.Proof.Merge

end
-- ==== Proof.MergeClaim.lean ====
module

public import proofs.«01_k».proof.Defs
public import proofs.«01_k».proof.Proof.Gen.Kernel3Ideal
public import proofs.«01_k».proof.Proof.Gen.Reference3Ideal
public import proofs.«01_k».proof.Proof.MergeRef

@[expose] public section

noncomputable section

namespace Cert.Proof.Merge

open Idealize.ShloMosaic Idealize.SL.Sem

set_option maxHeartbeats 4000000 in
/-- The merge kernel and its reference, at the extended reals: from memories agreeing on the arguments both end with the
    same three arrays and their arguments unchanged. -/
theorem agree : Cert.algebraic_Kernel3Ideal_Reference3Ideal (hKernel3Ideal := Cert.Kernel3Ideal.Gen.facts) (hReference3Ideal := Cert.Reference3Ideal.Gen.facts) := by
  intro m g m' g' _ hargs
  refine ⟨fun c => (Cert.Kernel3Ideal.Gen.dats m 0 c).arrAt 14 Cert.Kernel3Ideal.cfg0.N, fun c => (Cert.Kernel3Ideal.Gen.dats m 0 c).arrAt 15 Cert.Kernel3Ideal.cfg0.N, fun c => (Cert.Kernel3Ideal.Gen.dats m 0 c).arrAt 16 Cert.Kernel3Ideal.cfg0.N, ?_, ?_⟩
  · exact Cert.Kernel3Ideal.Value.run_blocks (F := Ideal) m g
  · refine (θ_run _ _ _).mono (fun r h c => ?_) (Cert.Reference3Ideal.Value.run (F := Ideal) m' g')
    obtain ⟨h0, h1, h2, hk⟩ := h c
    obtain ⟨e0, e1, e2, e3, e4, e5, e6, e7, e8, e9, e10, e11, e12, e13⟩ := hargs c
    refine ⟨?_, ?_, ?_, hk⟩
    · refine h0.trans ((Cert.Reference3Ideal.Read.val_main_v39_eq _ _ _ _ _ _ _ _ _ _ _ _).trans ?_)
      rw [e0, e1, e2, e3, e4, e5, e6, e7, e8, e10, e11, e12]
      exact (ref39 (argsAt m c)).trans (arr14 m c).symm
    · refine h1.trans ((Cert.Reference3Ideal.Read.val_main_v71_eq m' c).trans ?_)
      rw [e0, e1, e2, e3, e4, e5, e6, e7, e8, e9, e10, e11, e12]
      exact (ref71 (argsAt m c)).trans (arr15 m c).symm
    · refine h2.trans ((Cert.Reference3Ideal.Read.val_main_v72_eq m' c).trans ?_)
      rw [e0, e1, e2, e3, e4, e5, e6, e7, e8, e9, e10, e11, e12, e13]
      exact (ref72 (argsAt m c)).trans (arr16 m c).symm

end Cert.Proof.Merge

end
-- ==== Proof.AdalnClaim.lean ====
/-
  The modulation: the kernel's array and the reference's are the same function of the arguments.
-/
module

public import proofs.«01_k».proof.Defs
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Read
public import Idealize.ShloMosaic.Lib.Pipeline.ValueKit
public import Idealize.ShloMosaic.Lib.MatmulPlain
public import Idealize.ShloMosaic.Lib.ValueIdx
public import Idealize.ShloMosaic.Lib.Tactic
public import Idealize.ShloMosaic.Lib.ValueLayout

@[expose] public section

noncomputable section

namespace Cert.Proof.Adaln

open Idealize.ShloMosaic Idealize.ShloMosaic.TcCoe Idealize.SL.Sem
open scoped BigOperators

/-- One entry of the modulation: a row through the activation, times a column of the matrix, plus the column's bias. -/
def entry (x w : Fin 1024 → EReal) (b : EReal) : EReal := ∑ k, x k * Ideal.logistic (x k) * w k + b

/-- The whole modulation. -/
def modulation (x : Cert.Kernel4Ideal.S16x1024.Idx → EReal) (w : Cert.Kernel4Ideal.S1024x6144.Idx → EReal) (b : Cert.Kernel4Ideal.S6144.Idx → EReal) :
    Cert.Kernel4Ideal.S16x6144.Idx → EReal :=
  fun i => entry (fun k => x (ix2 (i 0) k)) (fun k => w (ix2 k (i 1))) (b (ix1 (i 1)))

namespace Kernel
open Cert.Kernel4Ideal Cert.Kernel4Ideal.Gen

theorem pay1_apply (x : Vec Ideal S16x1024 .f32) (w : Vec Ideal S1024x768 .f32) (b : Vec Ideal S1x768 .f32) (j : S16x768.Idx) :
    k0_pay1 x w b j = entry (fun k => x (ix2 (j 0) k)) (fun k => w (ix2 k (j 1))) (b (ix2 0 (j 1))) := by
  unfold k0_pay1 entry
  dsimp only
  pointwise

variable (m : (ℓ : Loc nD τ sig) → Buf (Elt Ideal) ℓ)

theorem index0 : ∀ t : Fin cfg0.N, win0_0.index t = ![0, 0] := (by decide +kernel : ∀ t : Fin grid0.N, _)
theorem index1 : ∀ t : Fin cfg0.N, win0_1.index t = ![0, t.val] := (by decide +kernel : ∀ t : Fin grid0.N, _)
theorem index2 : ∀ t : Fin cfg0.N, win0_2.index t = ![0, t.val] := (by decide +kernel : ∀ t : Fin grid0.N, _)
theorem index3 : ∀ t : Fin cfg0.N, win0_3.index t = ![0, t.val] := (by decide +kernel : ∀ t : Fin grid0.N, _)

theorem lt_points (t : Fin cfg0.N) : t.val < 8 := lt_of_lt_of_eq t.isLt (show cfg0.N = 8 from N_0)

/-- The column of the matrix that a point's column is. -/
def col (t : Fin cfg0.N) (r : Fin 768) : Fin 6144 := ⟨t.val * 768 + r.val, by have := lt_points t; omega⟩

theorem out3 (c : Dev nD) (t : Fin cfg0.N) (y : S16x768.Idx) :
    out0_3 (iblk m c 0 t) (iblk m c 1 t) (iblk m c 2 t) y
      = modulation (m ((c : Thread nD τ).loc main_arg0)) (m ((c : Thread nD τ).loc main_arg1)) (m ((c : Thread nD τ).loc main_arg2)) (ix2 (y 0) (col t (y 1))) := by
  unfold out0_3
  frame_out
  refine (pay1_apply _ _ _ y).trans ?_
  unfold modulation
  congr 1
  · funext k
    blk_ext! [iblk, V, index0 t]
  · funext k
    blk_ext! [iblk, V, index1 t]
    rfl
  · blk_ext! [iblk, V, index2 t]
    rfl

theorem arr3 (c : Dev nD) : (dats m 0 c).arrAt 3 cfg0.N
    = modulation (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3]
  refine (out3 m c t y).trans (congrArg (modulation (m ((c : Thread nD τ).loc main_arg0)) (m ((c : Thread nD τ).loc main_arg1)) (m ((c : Thread nD τ).loc main_arg2))) (funext fun a => Fin.ext ?_))
  match a with
  | ⟨0, _⟩ => show (y 0).val = win0_3.index t 0 * 16 + 1 * (y 0).val; rw [index3]; simp
  | ⟨1, _⟩ => show t.val * 768 + (y 1).val = win0_3.index t 1 * 768 + 1 * (y 1).val; rw [index3]; simp

end Kernel

open Cert.Reference4Ideal Cert.Reference4Ideal.Gen Cert.Reference4Ideal.Read in
theorem reference_eq (x : S16x1024.Idx → EReal) (w : S1024x6144.Idx → EReal) (b : S6144.Idx → EReal) : val_main_v4 (F := Ideal) x w b = modulation x w b := by
  funext i
  unfold val_main_v4 val_main_v3 val_main_v2 val_main_v1 val_main_v0 val_main_call0_v5 val_main_call0_v4 val_main_call0_cst_0 val_main_call0_v3 val_main_call0_v2 val_main_call0_cst val_main_call0_v1 val_main_call0_v0 modulation entry
  pointwise
  rfl

/-- The modulation kernel and its reference, at the extended reals: from memories agreeing on the arguments both end
    with the same array and their arguments unchanged. -/
theorem agree : Cert.algebraic_Kernel4Ideal_Reference4Ideal (hKernel4Ideal := Cert.Kernel4Ideal.Gen.facts) (hReference4Ideal := Cert.Reference4Ideal.Gen.facts) := by
  intro m g m' g' _ hargs
  refine ⟨fun c => (Cert.Kernel4Ideal.Gen.dats m 0 c).arrAt 3 Cert.Kernel4Ideal.cfg0.N, Cert.Kernel4Ideal.Value.run_blocks (F := Ideal) m g, ?_⟩
  refine (θ_run _ _ _).mono (fun r h c => ?_) (Cert.Reference4Ideal.Value.run (F := Ideal) m' g')
  obtain ⟨h0, hk⟩ := h c
  obtain ⟨e0, e1, e2⟩ := hargs c
  refine ⟨h0.trans ((Cert.Reference4Ideal.Read.val_main_v4_eq _ _ _).trans ((reference_eq _ _ _).trans ?_)), hk⟩
  rw [e0, e1, e2]
  exact (Kernel.arr3 m c).symm

end Cert.Proof.Adaln

end
-- ==== Proof.Safe.lean ====
module

public import Idealize.ShloMosaic.Lib.Pipeline.Frame
public import Idealize.ShloMosaic.Lib.Scf

/-! # Programs that only read and write buffers they hold

A frame says nothing of the values a program computes: only that it runs, and that it touches nothing it does not
hold. So for a program of loads, stores, branches and counted loops one invariant is enough, "every buffer is held,
at some contents", and the same invariant stands between any two of its statements. `Keeps I m` says that `I` lends
the buffer of `m` in full and takes it back at any contents; `Reads I m` that it lends a share and takes it back
unchanged; `Safe I p` that `p` runs from `I` to `I`. The rules below are one per way of building such a program. -/

@[expose] public section

namespace Cert.Proof.Safe

open Idealize.ShloMosaic
open Idealize.SL Idealize.SL.RA Idealize.SL.Sem Idealize.SL.ProofMode
open Idealize.SL.BI (sProp)
open scoped Idealize.SL.BI
open Idealize.SL.BI.BIBase Idealize.SL.BI.Laws

variable {nD : Nat} {τ : Topo} {sig : RefSig} {Val : EltTy → Type} {Λ : Labels}

/-- `I` lends the buffer of `m`, whole elements of the view at least, in full, and takes it back at any contents. -/
def Keeps (c : Thread nD τ) (I : sProp (MT nD τ sig Unit Val ℕ (UR sig nD τ) ℕ)) {sp : Space} {s : Shape} {e : EltTy} (m : Memref sig c.2.kind sp s e) : Prop :=
  ∃ S : Finset (Idx (m.view.loc c)), m.view.set ⊆ S ∧
    (I ⊢ iprop(∃ f, (m.view.loc c ↦[S]{fullShare} f) ∗ (∀ f', (m.view.loc c ↦[S]{fullShare} f') -∗ I)))

/-- `I` lends some share of the buffer of `m` and takes it back unchanged. -/
def Reads (c : Thread nD τ) (I : sProp (MT nD τ sig Unit Val ℕ (UR sig nD τ) ℕ)) {sp : Space} {s : Shape} {e : EltTy} (m : Memref sig c.2.kind sp s e) : Prop :=
  ∃ (S : Finset (Idx (m.view.loc c))) (q : PosShare TreeShare), m.view.set ⊆ S ∧
    (I ⊢ iprop(∃ f, (m.view.loc c ↦[S]{q} f) ∗ ((m.view.loc c ↦[S]{q} f) -∗ I)))

section Memrefs

variable {c : Thread nD τ} {I : sProp (MT nD τ sig Unit Val ℕ (UR sig nD τ) ℕ)} {sp : Space} {s : Shape} {e : EltTy} {m : Memref sig c.2.kind sp s e}

/-- A buffer lent in full may be read. -/
theorem Keeps.reads (h : Keeps c I m) : Reads c I m := by
  obtain ⟨S, hS, hI⟩ := h
  refine ⟨S, fullShare, hS, Entails.trans hI ?_⟩
  iintro ⟨%f, H, K⟩
  iexists f
  isplitl [H]
  · iexact H
  iintro H
  iapply K $$ %f
  iexact H

/-- A part of a lent buffer is lent. -/
theorem Keeps.slice (h : Keeps c I m) (r : Rect s) (hr) : Keeps c I (m.slice r hr) :=
  let ⟨S, hS, hI⟩ := h
  ⟨S, (View.set_slice_subset (v := m.view) r).trans hS, hI⟩

/-- A lent buffer read at another shape is lent. -/
theorem Keeps.squeeze (h : Keeps c I m) (s' : Shape) (hs : s.Squeezes s') : Keeps c I (m.squeeze s' hs) :=
  let ⟨S, hS, hI⟩ := h
  ⟨S, (View.set_reshape (v := m.view) hs.numel_eq).subset.trans hS, hI⟩

end Memrefs

variable (defs : Defs nD τ sig Val Λ) (𝒱 : Variants) (c : Thread nD τ) (E : Set ℕ)

/-- The program `p` of core `c` runs from `I` to `I`, whatever it returns. -/
def Safe (I : sProp (MT nD τ sig Unit Val ℕ (UR sig nD τ) ℕ)) {α : Type} (p : Prog (TpuEff nD τ sig Val Λ c.2) α) : Prop :=
  I ⊢ wp frame (wpE defs 𝒱 c none) E p fun _ => I

variable {defs 𝒱 c E}
variable {I : sProp (MT nD τ sig Unit Val ℕ (UR sig nD τ) ℕ)} {α β : Type}

theorem Safe.ret (a : α) : Safe defs 𝒱 c E I (.ret a) := le_wp_ret _ _ E a fun _ => I

theorem Safe.pure (a : α) : Safe defs 𝒱 c E I (Pure.pure a : Prog (TpuEff nD τ sig Val Λ c.2) α) := Safe.ret a

theorem Safe.bind {p : Prog (TpuEff nD τ sig Val Λ c.2) α} {k : α → Prog (TpuEff nD τ sig Val Λ c.2) β}
    (hp : Safe defs 𝒱 c E I p) (hk : ∀ a, Safe defs 𝒱 c E I (k a)) : Safe defs 𝒱 c E I (p >>= k) := by
  unfold Safe
  rw [wp_bind]
  exact Entails.trans hp (wp_mono _ _ E fun a => hk a)

theorem Safe.load {cs : CoreSpace} {s : Shape} {e : EltTy} {m : Memref sig c.2.kind cs s e} (h : Reads c I m)
    (r : LoadRect s) (hl : m.view.LoadsAt r) :
    Safe defs 𝒱 c E I (Prog.lift (.load m r hl)) := by
  obtain ⟨S, q, hS, hI⟩ := h
  refine Entails.trans hI ?_
  iintro ⟨%f, H, K⟩
  iapply (wp_load 𝒱 c none E ((m.view.setOn_subset_set _).trans hS)) $$ H
  iintro H
  iapply (le_wp_ret _ _ E _ _)
  iapply K
  iexact H

theorem Safe.smemLoad {s : Shape} {e : EltTy} {m : Memref sig c.2.kind .smem s e} (h : Reads c I m)
    (r : Rect s) (h1 : r.shape.numel = 1) (hp : e.packing = 1) :
    Safe defs 𝒱 c E I (Idealize.ShloMosaic.smemLoad m r h1 hp) :=
  Safe.bind (Safe.load h r.toLoadRect _) fun f => Safe.ret (f _)

theorem Safe.store {cs : CoreSpace} {s : Shape} {e : EltTy} {m : Memref sig c.2.kind cs s e} (h : Keeps c I m)
    (r : Rect s) (w : r.shape.Idx → Val e) (Mk : Finset r.shape.Idx) (hx : (m.access r).Stores Mk)
    (hm : Mk = Finset.univ ∨ ∀ a, r.stride a = 1) :
    Safe defs 𝒱 c E I (Prog.lift (.store m r w Mk hx hm)) := by
  obtain ⟨S, hS, hI⟩ := h
  refine Entails.trans hI ?_
  iintro ⟨%f, H, K⟩
  iapply (wp_store 𝒱 c none E (((m.access r).setOn_subset_set _).trans
    ((View.set_slice_subset (v := m.view) r).trans hS))) $$ H
  iintro H
  iapply (le_wp_ret _ _ E _ _)
  iapply K
  iexact H

theorem Safe.ite {b : Prop} [Decidable b] {p q : Prog (TpuEff nD τ sig Val Λ c.2) α}
    (hp : Safe defs 𝒱 c E I p) (hq : Safe defs 𝒱 c E I q) : Safe defs 𝒱 c E I (if b then p else q) := by
  split <;> assumption

theorem Safe.dite {b : Prop} [Decidable b] {p : b → Prog (TpuEff nD τ sig Val Λ c.2) α}
    {q : ¬ b → Prog (TpuEff nD τ sig Val Λ c.2) α}
    (hp : ∀ h, Safe defs 𝒱 c E I (p h)) (hq : ∀ h, Safe defs 𝒱 c E I (q h)) :
    Safe defs 𝒱 c E I (if h : b then p h else q h) := by
  split
  · exact hp _
  · exact hq _

/-- A counted loop keeps what each of its trips keeps. -/
theorem Safe.loop {w : Nat} {σ : Type} (l : Scf.Loop w) (hok : l.OK) (init : σ)
    {body : Fin l.trips → σ → Prog (TpuEff nD τ sig Val Λ c.2) σ} (h : ∀ k a, Safe defs 𝒱 c E I (body k a)) :
    Safe defs 𝒱 c E I (Scf.Loop.for l hok init body) := by
  refine Entails.trans ?_ (Scf.wp_for _ _ E l.lb l.ub l.st hok init body (fun _ _ => I) h)
  iintro H
  isplitl [H]
  · iexact H
  iintro %a H
  iexact H

end Cert.Proof.Safe

end
-- ==== Proof.HgrnBody.lean ====
module

public import proofs.«01_k».proof.Defs
public import proofs.«01_k».proof.Proof.Gen.Kernel5Ideal.Skeleton
public import proofs.«01_k».proof.Proof.Safe

/-! # The recurrence kernel touches only what it holds

One lemma per piece the printed body is cut into: the piece is loads, stores and pure operations on the buffers the
kernel is handed, so it runs from any invariant that lends those buffers back to the same invariant. -/

@[expose] public section

namespace Cert.Proof.Hgrn

open Idealize.ShloMosaic Idealize.ShloMosaic.TcCoe
open Idealize.SL Idealize.SL.RA Idealize.SL.Sem
open Idealize.SL.BI (sProp)
open Cert.Kernel5Ideal Cert.Kernel5Ideal.Gen Cert.Proof.Safe

variable {F : FTy → Type} [FloatOps F]
variable {defs : Defs nD τ sig (Elt F) Λ₀} {𝒱 : Variants} {c : Dev nD} {E : Set ℕ}

/-- The invariant `I` lends the twelve windows' buffers and the seven scratch buffers in full, and the table of
flags for reading. -/
structure Held (c : Dev nD) (I : sProp (MT nD τ sig Unit (Elt F) ℕ (UR sig nD τ) ℕ))
    (arg2 : Memref sig .tc .smem S1024 .i32)
    (arg3 : Memref sig .tc .vmem S1x256x1024 .bf16)
    (arg4 : Memref sig .tc .vmem S1x256x1024 .bf16)
    (arg5 : Memref sig .tc .vmem S1x256x1024 .bf16)
    (arg6 : Memref sig .tc .vmem S1x256x1024 .f32)
    (arg7 : Memref sig .tc .vmem S1x256x1024 .bf16)
    (arg8 : Memref sig .tc .vmem S1x256x1024 .bf16)
    (arg9 : Memref sig .tc .vmem S1x256x1024 .bf16)
    (arg10 : Memref sig .tc .vmem S1x256x1024 .f32)
    (arg11 : Memref sig .tc .vmem S1x8x128x128 .f32)
    (arg12 : Memref sig .tc .vmem S1x8x128x128 .f32)
    (arg13 : Memref sig .tc .vmem S1x256x1024 .bf16)
    (arg14 : Memref sig .tc .vmem S1x256x1024 .bf16)
    (arg15 : Memref sig .tc .vmem S8x128x128 .f32)
    (arg16 : Memref sig .tc .vmem S8x128x128 .f32)
    (arg17 : Memref sig .tc .vmem S128x1024 .f32)
    (arg18 : Memref sig .tc .vmem S128x1024 .f32)
    (arg19 : Memref sig .tc .vmem S128x1024 .f32)
    (arg20 : Memref sig .tc .vmem S128x1024 .f32)
    (arg21 : Memref sig .tc .vmem S128x1024 .f32) : Prop where
  h2 : Reads c.tc I arg2
  h3 : Keeps c.tc I arg3
  h4 : Keeps c.tc I arg4
  h5 : Keeps c.tc I arg5
  h6 : Keeps c.tc I arg6
  h7 : Keeps c.tc I arg7
  h8 : Keeps c.tc I arg8
  h9 : Keeps c.tc I arg9
  h10 : Keeps c.tc I arg10
  h11 : Keeps c.tc I arg11
  h12 : Keeps c.tc I arg12
  h13 : Keeps c.tc I arg13
  h14 : Keeps c.tc I arg14
  h15 : Keeps c.tc I arg15
  h16 : Keeps c.tc I arg16
  h17 : Keeps c.tc I arg17
  h18 : Keeps c.tc I arg18
  h19 : Keeps c.tc I arg19
  h20 : Keeps c.tc I arg20
  h21 : Keeps c.tc I arg21

variable {I : sProp (MT nD τ sig Unit (Elt F) ℕ (UR sig nD τ) ℕ)} {i : grid0.Coords}
  {arg2 : Memref sig .tc .smem S1024 .i32} {harg2 : arg2.IsWhole}
  {arg3 : Memref sig .tc .vmem S1x256x1024 .bf16} {harg3 : arg3.IsWhole}
  {arg4 : Memref sig .tc .vmem S1x256x1024 .bf16} {harg4 : arg4.IsWhole}
  {arg5 : Memref sig .tc .vmem S1x256x1024 .bf16} {harg5 : arg5.IsWhole}
  {arg6 : Memref sig .tc .vmem S1x256x1024 .f32} {harg6 : arg6.IsWhole}
  {arg7 : Memref sig .tc .vmem S1x256x1024 .bf16} {harg7 : arg7.IsWhole}
  {arg8 : Memref sig .tc .vmem S1x256x1024 .bf16} {harg8 : arg8.IsWhole}
  {arg9 : Memref sig .tc .vmem S1x256x1024 .bf16} {harg9 : arg9.IsWhole}
  {arg10 : Memref sig .tc .vmem S1x256x1024 .f32} {harg10 : arg10.IsWhole}
  {arg11 : Memref sig .tc .vmem S1x8x128x128 .f32} {harg11 : arg11.IsWhole}
  {arg12 : Memref sig .tc .vmem S1x8x128x128 .f32} {harg12 : arg12.IsWhole}
  {arg13 : Memref sig .tc .vmem S1x256x1024 .bf16} {harg13 : arg13.IsWhole}
  {arg14 : Memref sig .tc .vmem S1x256x1024 .bf16} {harg14 : arg14.IsWhole}
  {arg15 : Memref sig .tc .vmem S8x128x128 .f32} {harg15 : arg15.IsWhole}
  {arg16 : Memref sig .tc .vmem S8x128x128 .f32} {harg16 : arg16.IsWhole}
  {arg17 : Memref sig .tc .vmem S128x1024 .f32} {harg17 : arg17.IsWhole}
  {arg18 : Memref sig .tc .vmem S128x1024 .f32} {harg18 : arg18.IsWhole}
  {arg19 : Memref sig .tc .vmem S128x1024 .f32} {harg19 : arg19.IsWhole}
  {arg20 : Memref sig .tc .vmem S128x1024 .f32} {harg20 : arg20.IsWhole}
  {arg21 : Memref sig .tc .vmem S128x1024 .f32} {harg21 : arg21.IsWhole}

theorem part1 (H : Held c I arg2 arg3 arg4 arg5 arg6 arg7 arg8 arg9 arg10 arg11 arg12 arg13 arg14 arg15 arg16 arg17 arg18 arg19 arg20 arg21) :
    ∀ k0_t1 v5 v8 c0_i32_13 c0_i32_14, Safe defs 𝒱 c.tc E I
      (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v5 v8 c0_i32_13 c0_i32_14) := by
  intros
  rw [k0_part1_eq_skeleton]
  exact
    .bind (.load H.h6.reads _ _) fun _ =>
    .bind (.load H.h17.reads _ _) fun _ =>
    .bind (.store H.h17 _ _ _ _ _) fun _ =>
    .bind (.load H.h10.reads _ _) fun _ =>
    .bind (.load H.h18.reads _ _) fun _ =>
    .bind (.store H.h18 _ _ _ _ _) fun _ =>
    .pure _

theorem part2 (H : Held c I arg2 arg3 arg4 arg5 arg6 arg7 arg8 arg9 arg10 arg11 arg12 arg13 arg14 arg15 arg16 arg17 arg18 arg19 arg20 arg21) :
    ∀ k0_t1 v73 v74, Safe defs 𝒱 c.tc E I
      (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v73 v74) := by
  intros
  rw [k0_part2_eq_skeleton]
  exact
    .bind (.load H.h17.reads _ _) fun _ =>
    .bind (.load H.h17.reads _ _) fun _ =>
    .bind (.load H.h17.reads _ _) fun _ =>
    .bind (.load H.h17.reads _ _) fun _ =>
    .bind (.load H.h17.reads _ _) fun _ =>
    .bind (.load ((H.h3.slice _ _).squeeze _ _).reads _ _) fun _ =>
    .bind (.load ((H.h5.slice _ _).squeeze _ _).reads _ _) fun _ =>
    .pure _

theorem part3 (H : Held c I arg2 arg3 arg4 arg5 arg6 arg7 arg8 arg9 arg10 arg11 arg12 arg13 arg14 arg15 arg16 arg17 arg18 arg19 arg20 arg21) :
    ∀ v76 v77 v78 v79 v106 v110 v114 v115, Safe defs 𝒱 c.tc E I
      (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 v77 v78 v79 v106 v110 v114 v115) := by
  intros
  rw [k0_part3_eq_skeleton]
  exact
    .pure _

theorem part4 (H : Held c I arg2 arg3 arg4 arg5 arg6 arg7 arg8 arg9 arg10 arg11 arg12 arg13 arg14 arg15 arg16 arg17 arg18 arg19 arg20 arg21) :
    ∀ v81 v83 v85 v87 v89 v91 v92 v105 v106 v114 v129 v136 v144 v151 v159 v166 v174 v175, Safe defs 𝒱 c.tc E I
      (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v81 v83 v85 v87 v89 v91 v92 v105 v106 v114 v129 v136 v144 v151 v159 v166 v174 v175) := by
  intros
  rw [k0_part4_eq_skeleton]
  exact
    .bind (.load H.h17.reads _ _) fun _ =>
    .pure _

theorem part5 (H : Held c I arg2 arg3 arg4 arg5 arg6 arg7 arg8 arg9 arg10 arg11 arg12 arg13 arg14 arg15 arg16 arg17 arg18 arg19 arg20 arg21) :
    ∀ k0_t1 v76 v77 v78 v230, Safe defs 𝒱 c.tc E I
      (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v78 v230) := by
  intros
  rw [k0_part5_eq_skeleton]
  exact
    .bind (.load ((H.h3.slice _ _).squeeze _ _).reads _ _) fun _ =>
    .bind (.load ((H.h5.slice _ _).squeeze _ _).reads _ _) fun _ =>
    .pure _

theorem part6 (H : Held c I arg2 arg3 arg4 arg5 arg6 arg7 arg8 arg9 arg10 arg11 arg12 arg13 arg14 arg15 arg16 arg17 arg18 arg19 arg20 arg21) :
    ∀ v79 v81 v83 v85 v87 v89 v91 v105 v230 v238 v245 v253 v260 v268 v275 v283 v284 v285, Safe defs 𝒱 c.tc E I
      (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v79 v81 v83 v85 v87 v89 v91 v105 v230 v238 v245 v253 v260 v268 v275 v283 v284 v285) := by
  intros
  rw [k0_part6_eq_skeleton]
  exact
    .pure _

theorem part7 (H : Held c I arg2 arg3 arg4 arg5 arg6 arg7 arg8 arg9 arg10 arg11 arg12 arg13 arg14 arg15 arg16 arg17 arg18 arg19 arg20 arg21) :
    ∀ k0_t1 v76 v77 v78 v92 v230 v238 v331 v332 v333 v334 v339 v344, Safe defs 𝒱 c.tc E I
      (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v78 v92 v230 v238 v331 v332 v333 v334 v339 v344) := by
  intros
  rw [k0_part7_eq_skeleton]
  exact
    .bind (.load H.h17.reads _ _) fun _ =>
    .bind (.load ((H.h3.slice _ _).squeeze _ _).reads _ _) fun _ =>
    .bind (.load ((H.h5.slice _ _).squeeze _ _).reads _ _) fun _ =>
    .pure _

theorem part8 (H : Held c I arg2 arg3 arg4 arg5 arg6 arg7 arg8 arg9 arg10 arg11 arg12 arg13 arg14 arg15 arg16 arg17 arg18 arg19 arg20 arg21) :
    ∀ v78 v79 v81 v83 v85 v87 v89 v91 v105 v354 v358 v362 v369 v377 v384 v393 v394 v395, Safe defs 𝒱 c.tc E I
      (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v78 v79 v81 v83 v85 v87 v89 v91 v105 v354 v358 v362 v369 v377 v384 v393 v394 v395) := by
  intros
  rw [k0_part8_eq_skeleton]
  exact
    .pure _

theorem part9 (H : Held c I arg2 arg3 arg4 arg5 arg6 arg7 arg8 arg9 arg10 arg11 arg12 arg13 arg14 arg15 arg16 arg17 arg18 arg19 arg20 arg21) :
    ∀ k0_t1 v76 v77 v92 v105 v354 v362 v392 v407 v422 v436 v446 v452 v454 v455, Safe defs 𝒱 c.tc E I
      (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v92 v105 v354 v362 v392 v407 v422 v436 v446 v452 v454 v455) := by
  intros
  rw [k0_part9_eq_skeleton]
  exact
    .bind (.load H.h17.reads _ _) fun _ =>
    .bind (.load ((H.h3.slice _ _).squeeze _ _).reads _ _) fun _ =>
    .bind (.load ((H.h5.slice _ _).squeeze _ _).reads _ _) fun _ =>
    .pure _

theorem part10 (H : Held c I arg2 arg3 arg4 arg5 arg6 arg7 arg8 arg9 arg10 arg11 arg12 arg13 arg14 arg15 arg16 arg17 arg18 arg19 arg20 arg21) :
    ∀ v77 v78 v79 v81 v83 v85 v87 v478 v482 v486 v493 v502 v503 v505, Safe defs 𝒱 c.tc E I
      (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v77 v78 v79 v81 v83 v85 v87 v478 v482 v486 v493 v502 v503 v505) := by
  intros
  rw [k0_part10_eq_skeleton]
  exact
    .pure _

theorem part11 (H : Held c I arg2 arg3 arg4 arg5 arg6 arg7 arg8 arg9 arg10 arg11 arg12 arg13 arg14 arg15 arg16 arg17 arg18 arg19 arg20 arg21) :
    ∀ k0_t1 v76 v89 v91 v92 v105 v478 v486 v501 v516 v523 v531 v538 v546 v560 v561 v565, Safe defs 𝒱 c.tc E I
      (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v89 v91 v92 v105 v478 v486 v501 v516 v523 v531 v538 v546 v560 v561 v565) := by
  intros
  rw [k0_part11_eq_skeleton]
  exact
    .bind (.load H.h17.reads _ _) fun _ =>
    .bind (.load ((H.h3.slice _ _).squeeze _ _).reads _ _) fun _ =>
    .bind (.load ((H.h5.slice _ _).squeeze _ _).reads _ _) fun _ =>
    .pure _

theorem part12 (H : Held c I arg2 arg3 arg4 arg5 arg6 arg7 arg8 arg9 arg10 arg11 arg12 arg13 arg14 arg15 arg16 arg17 arg18 arg19 arg20 arg21) :
    ∀ v76 v77 v78 v79 v81 v602 v606 v610 v611 v615, Safe defs 𝒱 c.tc E I
      (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v76 v77 v78 v79 v81 v602 v606 v610 v611 v615) := by
  intros
  rw [k0_part12_eq_skeleton]
  exact
    .pure _

theorem part13 (H : Held c I arg2 arg3 arg4 arg5 arg6 arg7 arg8 arg9 arg10 arg11 arg12 arg13 arg14 arg15 arg16 arg17 arg18 arg19 arg20 arg21) :
    ∀ k0_t1 v83 v85 v87 v89 v91 v92 v105 v602 v610 v625 v632 v640 v647 v655 v662 v670 v671 v675, Safe defs 𝒱 c.tc E I
      (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v83 v85 v87 v89 v91 v92 v105 v602 v610 v625 v632 v640 v647 v655 v662 v670 v671 v675) := by
  intros
  rw [k0_part13_eq_skeleton]
  exact
    .bind (.load H.h17.reads _ _) fun _ =>
    .pure _

theorem part14 (H : Held c I arg2 arg3 arg4 arg5 arg6 arg7 arg8 arg9 arg10 arg11 arg12 arg13 arg14 arg15 arg16 arg17 arg18 arg19 arg20 arg21) :
    ∀ k0_t1 v76 v77 v78 v79 v726, Safe defs 𝒱 c.tc E I
      (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v78 v79 v726) := by
  intros
  rw [k0_part14_eq_skeleton]
  exact
    .bind (.load ((H.h3.slice _ _).squeeze _ _).reads _ _) fun _ =>
    .bind (.load ((H.h5.slice _ _).squeeze _ _).reads _ _) fun _ =>
    .pure _

theorem part15 (H : Held c I arg2 arg3 arg4 arg5 arg6 arg7 arg8 arg9 arg10 arg11 arg12 arg13 arg14 arg15 arg16 arg17 arg18 arg19 arg20 arg21) :
    ∀ v79 v81 v83 v85 v87 v89 v91 v105 v726 v734 v741 v749 v756 v764 v771 v779 v780 v785, Safe defs 𝒱 c.tc E I
      (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v79 v81 v83 v85 v87 v89 v91 v105 v726 v734 v741 v749 v756 v764 v771 v779 v780 v785) := by
  intros
  rw [k0_part15_eq_skeleton]
  exact
    .pure _

theorem part16 (H : Held c I arg2 arg3 arg4 arg5 arg6 arg7 arg8 arg9 arg10 arg11 arg12 arg13 arg14 arg15 arg16 arg17 arg18 arg19 arg20 arg21) :
    ∀ k0_t1 v76 v77 v78 v92 v726 v734, Safe defs 𝒱 c.tc E I
      (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v78 v92 v726 v734) := by
  intros
  rw [k0_part16_eq_skeleton]
  exact
    .bind (.load H.h17.reads _ _) fun _ =>
    .bind (.load ((H.h3.slice _ _).squeeze _ _).reads _ _) fun _ =>
    .bind (.load ((H.h5.slice _ _).squeeze _ _).reads _ _) fun _ =>
    .pure _

theorem part17 (H : Held c I arg2 arg3 arg4 arg5 arg6 arg7 arg8 arg9 arg10 arg11 arg12 arg13 arg14 arg15 arg16 arg17 arg18 arg19 arg20 arg21) :
    ∀ v78 v79 v81 v83 v85 v87 v89 v91 v105 v850 v854 v858 v865 v873 v880 v888 v895, Safe defs 𝒱 c.tc E I
      (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v78 v79 v81 v83 v85 v87 v89 v91 v105 v850 v854 v858 v865 v873 v880 v888 v895) := by
  intros
  rw [k0_part17_eq_skeleton]
  exact
    .pure _

theorem part18 (H : Held c I arg2 arg3 arg4 arg5 arg6 arg7 arg8 arg9 arg10 arg11 arg12 arg13 arg14 arg15 arg16 arg17 arg18 arg19 arg20 arg21) :
    ∀ k0_t1 v76 v77 v92 v850 v858 v932 v942 v948 v950 v951 v952 v953 v954 v955, Safe defs 𝒱 c.tc E I
      (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v76 v77 v92 v850 v858 v932 v942 v948 v950 v951 v952 v953 v954 v955) := by
  intros
  rw [k0_part18_eq_skeleton]
  exact
    .bind (.load H.h17.reads _ _) fun _ =>
    .bind (.load ((H.h3.slice _ _).squeeze _ _).reads _ _) fun _ =>
    .bind (.load ((H.h5.slice _ _).squeeze _ _).reads _ _) fun _ =>
    .pure _

theorem part19 (H : Held c I arg2 arg3 arg4 arg5 arg6 arg7 arg8 arg9 arg10 arg11 arg12 arg13 arg14 arg15 arg16 arg17 arg18 arg19 arg20 arg21) :
    ∀ v77 v78 v79 v81 v83 v85 v87 v89 v974 v978 v982 v989 v1004 v1005, Safe defs 𝒱 c.tc E I
      (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v77 v78 v79 v81 v83 v85 v87 v89 v974 v978 v982 v989 v1004 v1005) := by
  intros
  rw [k0_part19_eq_skeleton]
  exact
    .pure _

theorem part20 (H : Held c I arg2 arg3 arg4 arg5 arg6 arg7 arg8 arg9 arg10 arg11 arg12 arg13 arg14 arg15 arg16 arg17 arg18 arg19 arg20 arg21) :
    ∀ v91 v92 v105 v974 v982 v997 v1012 v1019 v1027 v1034 v1042 v1056 v1057 v1061 v1065, Safe defs 𝒱 c.tc E I
      (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v91 v92 v105 v974 v982 v997 v1012 v1019 v1027 v1034 v1042 v1056 v1057 v1061 v1065) := by
  intros
  rw [k0_part20_eq_skeleton]
  exact
    .bind (.load H.h18.reads _ _) fun _ =>
    .bind (.load H.h18.reads _ _) fun _ =>
    .bind (.load H.h18.reads _ _) fun _ =>
    .pure _

theorem part21 (H : Held c I arg2 arg3 arg4 arg5 arg6 arg7 arg8 arg9 arg10 arg11 arg12 arg13 arg14 arg15 arg16 arg17 arg18 arg19 arg20 arg21) :
    ∀ k0_t1 v1102 v1103, Safe defs 𝒱 c.tc E I
      (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1103) := by
  intros
  rw [k0_part21_eq_skeleton]
  exact
    .bind (.load H.h18.reads _ _) fun _ =>
    .bind (.load H.h18.reads _ _) fun _ =>
    .bind (.load ((H.h7.slice _ _).squeeze _ _).reads _ _) fun _ =>
    .bind (.load ((H.h9.slice _ _).squeeze _ _).reads _ _) fun _ =>
    .pure _

theorem part22 (H : Held c I arg2 arg3 arg4 arg5 arg6 arg7 arg8 arg9 arg10 arg11 arg12 arg13 arg14 arg15 arg16 arg17 arg18 arg19 arg20 arg21) :
    ∀ v1101 v1104 v1106 v1108 v1110 v1112 v1114 v1130 v1131 v1135 v1139 v1146 v1161 v1162 v1163 v1164, Safe defs 𝒱 c.tc E I
      (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1104 v1106 v1108 v1110 v1112 v1114 v1130 v1131 v1135 v1139 v1146 v1161 v1162 v1163 v1164) := by
  intros
  rw [k0_part22_eq_skeleton]
  exact
    .pure _

theorem part23 (H : Held c I arg2 arg3 arg4 arg5 arg6 arg7 arg8 arg9 arg10 arg11 arg12 arg13 arg14 arg15 arg16 arg17 arg18 arg19 arg20 arg21) :
    ∀ k0_t1 v1102 v1116 v1117 v1130 v1131 v1139 v1154 v1169 v1176 v1184 v1191 v1199 v1201 v1207 v1217 v1221 v1224, Safe defs 𝒱 c.tc E I
      (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1116 v1117 v1130 v1131 v1139 v1154 v1169 v1176 v1184 v1191 v1199 v1201 v1207 v1217 v1221 v1224) := by
  intros
  rw [k0_part23_eq_skeleton]
  exact
    .bind (.load H.h18.reads _ _) fun _ =>
    .bind (.load ((H.h7.slice _ _).squeeze _ _).reads _ _) fun _ =>
    .bind (.load ((H.h9.slice _ _).squeeze _ _).reads _ _) fun _ =>
    .pure _

theorem part24 (H : Held c I arg2 arg3 arg4 arg5 arg6 arg7 arg8 arg9 arg10 arg11 arg12 arg13 arg14 arg15 arg16 arg17 arg18 arg19 arg20 arg21) :
    ∀ v1101 v1103 v1104 v1106 v1108 v1130 v1255 v1259 v1263 v1270 v1271 v1273 v1274, Safe defs 𝒱 c.tc E I
      (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1103 v1104 v1106 v1108 v1130 v1255 v1259 v1263 v1270 v1271 v1273 v1274) := by
  intros
  rw [k0_part24_eq_skeleton]
  exact
    .pure _

theorem part25 (H : Held c I arg2 arg3 arg4 arg5 arg6 arg7 arg8 arg9 arg10 arg11 arg12 arg13 arg14 arg15 arg16 arg17 arg18 arg19 arg20 arg21) :
    ∀ k0_t1 v1110 v1112 v1114 v1116 v1117 v1130 v1255 v1263 v1270 v1278 v1285 v1293 v1300 v1308 v1315 v1323 v1325 v1331 v1334, Safe defs 𝒱 c.tc E I
      (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1110 v1112 v1114 v1116 v1117 v1130 v1255 v1263 v1270 v1278 v1285 v1293 v1300 v1308 v1315 v1323 v1325 v1331 v1334) := by
  intros
  rw [k0_part25_eq_skeleton]
  exact
    .bind (.load H.h18.reads _ _) fun _ =>
    .bind (.load ((H.h7.slice _ _).squeeze _ _).reads _ _) fun _ =>
    .pure _

theorem part26 (H : Held c I arg2 arg3 arg4 arg5 arg6 arg7 arg8 arg9 arg10 arg11 arg12 arg13 arg14 arg15 arg16 arg17 arg18 arg19 arg20 arg21) :
    ∀ k0_t1 v1101 v1102 v1103 v1104 v1379 v1383, Safe defs 𝒱 c.tc E I
      (k0_part26 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1101 v1102 v1103 v1104 v1379 v1383) := by
  intros
  rw [k0_part26_eq_skeleton]
  exact
    .bind (.load ((H.h9.slice _ _).squeeze _ _).reads _ _) fun _ =>
    .pure _

theorem part27 (H : Held c I arg2 arg3 arg4 arg5 arg6 arg7 arg8 arg9 arg10 arg11 arg12 arg13 arg14 arg15 arg16 arg17 arg18 arg19 arg20 arg21) :
    ∀ v1106 v1108 v1110 v1112 v1114 v1116 v1117 v1130 v1379 v1387 v1394 v1402 v1409 v1417 v1424 v1432 v1439 v1440 v1444, Safe defs 𝒱 c.tc E I
      (k0_part27 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1106 v1108 v1110 v1112 v1114 v1116 v1117 v1130 v1379 v1387 v1394 v1402 v1409 v1417 v1424 v1432 v1439 v1440 v1444) := by
  intros
  rw [k0_part27_eq_skeleton]
  exact
    .pure _

theorem part28 (H : Held c I arg2 arg3 arg4 arg5 arg6 arg7 arg8 arg9 arg10 arg11 arg12 arg13 arg14 arg15 arg16 arg17 arg18 arg19 arg20 arg21) :
    ∀ k0_t1 v1102 v1103 v1104, Safe defs 𝒱 c.tc E I
      (k0_part28 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1103 v1104) := by
  intros
  rw [k0_part28_eq_skeleton]
  exact
    .bind (.load H.h18.reads _ _) fun _ =>
    .bind (.load ((H.h7.slice _ _).squeeze _ _).reads _ _) fun _ =>
    .bind (.load ((H.h9.slice _ _).squeeze _ _).reads _ _) fun _ =>
    .pure _

theorem part29 (H : Held c I arg2 arg3 arg4 arg5 arg6 arg7 arg8 arg9 arg10 arg11 arg12 arg13 arg14 arg15 arg16 arg17 arg18 arg19 arg20 arg21) :
    ∀ v1101 v1106 v1108 v1110 v1112 v1114 v1116 v1130 v1503 v1507 v1511 v1518 v1526 v1533 v1541 v1548 v1549 v1554, Safe defs 𝒱 c.tc E I
      (k0_part29 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1106 v1108 v1110 v1112 v1114 v1116 v1130 v1503 v1507 v1511 v1518 v1526 v1533 v1541 v1548 v1549 v1554) := by
  intros
  rw [k0_part29_eq_skeleton]
  exact
    .pure _

theorem part30 (H : Held c I arg2 arg3 arg4 arg5 arg6 arg7 arg8 arg9 arg10 arg11 arg12 arg13 arg14 arg15 arg16 arg17 arg18 arg19 arg20 arg21) :
    ∀ k0_t1 v1102 v1103 v1117 v1503 v1511 v1579 v1589 v1603 v1604 v1605 v1606 v1607 v1612 v1613, Safe defs 𝒱 c.tc E I
      (k0_part30 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1103 v1117 v1503 v1511 v1579 v1589 v1603 v1604 v1605 v1606 v1607 v1612 v1613) := by
  intros
  rw [k0_part30_eq_skeleton]
  exact
    .bind (.load H.h18.reads _ _) fun _ =>
    .bind (.load ((H.h7.slice _ _).squeeze _ _).reads _ _) fun _ =>
    .bind (.load ((H.h9.slice _ _).squeeze _ _).reads _ _) fun _ =>
    .pure _

theorem part31 (H : Held c I arg2 arg3 arg4 arg5 arg6 arg7 arg8 arg9 arg10 arg11 arg12 arg13 arg14 arg15 arg16 arg17 arg18 arg19 arg20 arg21) :
    ∀ v1101 v1104 v1106 v1108 v1110 v1112 v1114 v1116 v1130 v1627 v1631 v1635 v1642 v1657 v1664, Safe defs 𝒱 c.tc E I
      (k0_part31 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1104 v1106 v1108 v1110 v1112 v1114 v1116 v1130 v1627 v1631 v1635 v1642 v1657 v1664) := by
  intros
  rw [k0_part31_eq_skeleton]
  exact
    .pure _

theorem part32 (H : Held c I arg2 arg3 arg4 arg5 arg6 arg7 arg8 arg9 arg10 arg11 arg12 arg13 arg14 arg15 arg16 arg17 arg18 arg19 arg20 arg21) :
    ∀ k0_t1 v1102 v1117 v1130 v1627 v1635 v1650 v1665 v1680 v1687 v1695 v1697 v1703 v1713 v1717 v1721 v1724, Safe defs 𝒱 c.tc E I
      (k0_part32 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1117 v1130 v1627 v1635 v1650 v1665 v1680 v1687 v1695 v1697 v1703 v1713 v1717 v1721 v1724) := by
  intros
  rw [k0_part32_eq_skeleton]
  exact
    .bind (.load H.h18.reads _ _) fun _ =>
    .bind (.load ((H.h7.slice _ _).squeeze _ _).reads _ _) fun _ =>
    .bind (.load ((H.h9.slice _ _).squeeze _ _).reads _ _) fun _ =>
    .pure _

theorem part33 (H : Held c I arg2 arg3 arg4 arg5 arg6 arg7 arg8 arg9 arg10 arg11 arg12 arg13 arg14 arg15 arg16 arg17 arg18 arg19 arg20 arg21) :
    ∀ v1101 v1103 v1104 v1106 v1108 v1112 v1130 v1751 v1755 v1759 v1766, Safe defs 𝒱 c.tc E I
      (k0_part33 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1103 v1104 v1106 v1108 v1112 v1130 v1751 v1755 v1759 v1766) := by
  intros
  rw [k0_part33_eq_skeleton]
  exact
    .pure _

theorem part34 (H : Held c I arg2 arg3 arg4 arg5 arg6 arg7 arg8 arg9 arg10 arg11 arg12 arg13 arg14 arg15 arg16 arg17 arg18 arg19 arg20 arg21) :
    ∀ k0_t1 v1110 v1114 v1116 v1117 v1130 v1751 v1759 v1766 v1774 v1781 v1789 v1796 v1804 v1811 v1819 v1821 v1827 v1831 v1834, Safe defs 𝒱 c.tc E I
      (k0_part34 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1110 v1114 v1116 v1117 v1130 v1751 v1759 v1766 v1774 v1781 v1789 v1796 v1804 v1811 v1819 v1821 v1827 v1831 v1834) := by
  intros
  rw [k0_part34_eq_skeleton]
  exact
    .bind (.load H.h18.reads _ _) fun _ =>
    .bind (.load ((H.h7.slice _ _).squeeze _ _).reads _ _) fun _ =>
    .bind (.load ((H.h9.slice _ _).squeeze _ _).reads _ _) fun _ =>
    .pure _

theorem part35 (H : Held c I arg2 arg3 arg4 arg5 arg6 arg7 arg8 arg9 arg10 arg11 arg12 arg13 arg14 arg15 arg16 arg17 arg18 arg19 arg20 arg21) :
    ∀ v1101 v1102 v1103 v1104 v1875 v1879 v1883 v1884, Safe defs 𝒱 c.tc E I
      (k0_part35 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1102 v1103 v1104 v1875 v1879 v1883 v1884) := by
  intros
  rw [k0_part35_eq_skeleton]
  exact
    .pure _

theorem part36 (H : Held c I arg2 arg3 arg4 arg5 arg6 arg7 arg8 arg9 arg10 arg11 arg12 arg13 arg14 arg15 arg16 arg17 arg18 arg19 arg20 arg21) :
    ∀ v1106 v1108 v1110 v1112 v1114 v1116 v1117 v1130 v1875 v1883 v1890 v1898 v1905 v1913 v1920 v1928 v1935 v1943 v1944, Safe defs 𝒱 c.tc E I
      (k0_part36 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1106 v1108 v1110 v1112 v1114 v1116 v1117 v1130 v1875 v1883 v1890 v1898 v1905 v1913 v1920 v1928 v1935 v1943 v1944) := by
  intros
  rw [k0_part36_eq_skeleton]
  exact
    .bind (.load H.h18.reads _ _) fun _ =>
    .pure _

theorem part37 (H : Held c I arg2 arg3 arg4 arg5 arg6 arg7 arg8 arg9 arg10 arg11 arg12 arg13 arg14 arg15 arg16 arg17 arg18 arg19 arg20 arg21) :
    ∀ k0_t1 v1102 v1103 v1104 v1999, Safe defs 𝒱 c.tc E I
      (k0_part37 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1102 v1103 v1104 v1999) := by
  intros
  rw [k0_part37_eq_skeleton]
  exact
    .bind (.load ((H.h7.slice _ _).squeeze _ _).reads _ _) fun _ =>
    .bind (.load ((H.h9.slice _ _).squeeze _ _).reads _ _) fun _ =>
    .pure _

theorem part38 (H : Held c I arg2 arg3 arg4 arg5 arg6 arg7 arg8 arg9 arg10 arg11 arg12 arg13 arg14 arg15 arg16 arg17 arg18 arg19 arg20 arg21) :
    ∀ v1101 v1106 v1108 v1110 v1112 v1114 v1116 v1130 v1999 v2007 v2014 v2022 v2029 v2037 v2044 v2052 v2053 v2054, Safe defs 𝒱 c.tc E I
      (k0_part38 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v1101 v1106 v1108 v1110 v1112 v1114 v1116 v1130 v1999 v2007 v2014 v2022 v2029 v2037 v2044 v2052 v2053 v2054) := by
  intros
  rw [k0_part38_eq_skeleton]
  exact
    .pure _

theorem part39 (H : Held c I arg2 arg3 arg4 arg5 arg6 arg7 arg8 arg9 arg10 arg11 arg12 arg13 arg14 arg15 arg16 arg17 arg18 arg19 arg20 arg21) :
    ∀ k0_t1 v75 v188 v223 v312 v347 v1117 v1999 v2007 v2100 v2101 v2102 v2103 v2108 v2113, Safe defs 𝒱 c.tc E I
      (k0_part39 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v75 v188 v223 v312 v347 v1117 v1999 v2007 v2100 v2101 v2102 v2103 v2108 v2113) := by
  intros
  rw [k0_part39_eq_skeleton]
  exact
    .bind (.load ((H.h4.slice _ _).squeeze _ _).reads _ _) fun _ =>
    .bind (.load H.h15.reads _ _) fun _ =>
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .pure _

theorem part40 (H : Held c I arg2 arg3 arg4 arg5 arg6 arg7 arg8 arg9 arg10 arg11 arg12 arg13 arg14 arg15 arg16 arg17 arg18 arg19 arg20 arg21) :
    ∀ k0_t1 v75 v436 v471 v560 v595 v2151, Safe defs 𝒱 c.tc E I
      (k0_part40 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v75 v436 v471 v560 v595 v2151) := by
  intros
  rw [k0_part40_eq_skeleton]
  exact
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .pure _

theorem part41 (H : Held c I arg2 arg3 arg4 arg5 arg6 arg7 arg8 arg9 arg10 arg11 arg12 arg13 arg14 arg15 arg16 arg17 arg18 arg19 arg20 arg21) :
    ∀ k0_t1 v75 v684 v719 v808 v843 v2183, Safe defs 𝒱 c.tc E I
      (k0_part41 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v75 v684 v719 v808 v843 v2183) := by
  intros
  rw [k0_part41_eq_skeleton]
  exact
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .pure _

theorem part42 (H : Held c I arg2 arg3 arg4 arg5 arg6 arg7 arg8 arg9 arg10 arg11 arg12 arg13 arg14 arg15 arg16 arg17 arg18 arg19 arg20 arg21) :
    ∀ k0_t1 v75 v932 v967 v1056 v1091 v2215, Safe defs 𝒱 c.tc E I
      (k0_part42 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v75 v932 v967 v1056 v1091 v2215) := by
  intros
  rw [k0_part42_eq_skeleton]
  exact
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .bind (.load ((H.h13.slice _ _).squeeze _ _).reads _ _) fun _ =>
    .bind (.store H.h13 _ _ _ _ _) fun _ =>
    .bind (.load ((H.h4.slice _ _).squeeze _ _).reads _ _) fun _ =>
    .bind (.load H.h15.reads _ _) fun _ =>
    .bind (.load ((H.h13.slice _ _).squeeze _ _).reads _ _) fun _ =>
    .pure _

theorem part43 (H : Held c I arg2 arg3 arg4 arg5 arg6 arg7 arg8 arg9 arg10 arg11 arg12 arg13 arg14 arg15 arg16 arg17 arg18 arg19 arg20 arg21) :
    ∀ k0_t1 v1100 v1231 v1248 v1355 v1372 v2247, Safe defs 𝒱 c.tc E I
      (k0_part43 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1100 v1231 v1248 v1355 v1372 v2247) := by
  intros
  rw [k0_part43_eq_skeleton]
  exact
    .bind (.store H.h13 _ _ _ _ _) fun _ =>
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .pure _

theorem part44 (H : Held c I arg2 arg3 arg4 arg5 arg6 arg7 arg8 arg9 arg10 arg11 arg12 arg13 arg14 arg15 arg16 arg17 arg18 arg19 arg20 arg21) :
    ∀ k0_t1 v1100 v1479 v1496 v1603 v1620, Safe defs 𝒱 c.tc E I
      (k0_part44 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1100 v1479 v1496 v1603 v1620) := by
  intros
  rw [k0_part44_eq_skeleton]
  exact
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .pure _

theorem part45 (H : Held c I arg2 arg3 arg4 arg5 arg6 arg7 arg8 arg9 arg10 arg11 arg12 arg13 arg14 arg15 arg16 arg17 arg18 arg19 arg20 arg21) :
    ∀ k0_t1 v1100 v1727 v1744 v1851 v1868 v1992 v2315, Safe defs 𝒱 c.tc E I
      (k0_part45 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1100 v1727 v1744 v1851 v1868 v1992 v2315) := by
  intros
  rw [k0_part45_eq_skeleton]
  exact
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .pure _

theorem part46 (H : Held c I arg2 arg3 arg4 arg5 arg6 arg7 arg8 arg9 arg10 arg11 arg12 arg13 arg14 arg15 arg16 arg17 arg18 arg19 arg20 arg21) :
    ∀ k0_t1 v104 v1100 v1975 v2099 v2116 v2349, Safe defs 𝒱 c.tc E I
      (k0_part46 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v104 v1100 v1975 v2099 v2116 v2349) := by
  intros
  rw [k0_part46_eq_skeleton]
  exact
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .bind (.load ((H.h8.slice _ _).squeeze _ _).reads _ _) fun _ =>
    .bind (.load H.h16.reads _ _) fun _ =>
    .bind (.load ((H.h14.slice _ _).squeeze _ _).reads _ _) fun _ =>
    .bind (.store H.h14 _ _ _ _ _) fun _ =>
    .bind (.load H.h15.reads _ _) fun _ =>
    .pure _

theorem part47 (H : Held c I arg2 arg3 arg4 arg5 arg6 arg7 arg8 arg9 arg10 arg11 arg12 arg13 arg14 arg15 arg16 arg17 arg18 arg19 arg20 arg21) :
    ∀ k0_t1 v104 v229 v353 v477 v2380 v2381, Safe defs 𝒱 c.tc E I
      (k0_part47 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v104 v229 v353 v477 v2380 v2381) := by
  intros
  rw [k0_part47_eq_skeleton]
  exact
    .bind (.load ((H.h4.slice _ _).squeeze _ _).reads _ _) fun _ =>
    .bind (.load H.h15.reads _ _) fun _ =>
    .bind (.store H.h15 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h15.reads _ _) fun _ =>
    .bind (.load ((H.h4.slice _ _).squeeze _ _).reads _ _) fun _ =>
    .pure _

theorem part48 (H : Held c I arg2 arg3 arg4 arg5 arg6 arg7 arg8 arg9 arg10 arg11 arg12 arg13 arg14 arg15 arg16 arg17 arg18 arg19 arg20 arg21) :
    ∀ k0_t1 v104 v601 v725 v2414, Safe defs 𝒱 c.tc E I
      (k0_part48 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v104 v601 v725 v2414) := by
  intros
  rw [k0_part48_eq_skeleton]
  exact
    .bind (.load H.h15.reads _ _) fun _ =>
    .bind (.store H.h15 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h15.reads _ _) fun _ =>
    .pure _

theorem part49 (H : Held c I arg2 arg3 arg4 arg5 arg6 arg7 arg8 arg9 arg10 arg11 arg12 arg13 arg14 arg15 arg16 arg17 arg18 arg19 arg20 arg21) :
    ∀ k0_t1 v104 v849 v973 v1097 v2445 v2446, Safe defs 𝒱 c.tc E I
      (k0_part49 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v104 v849 v973 v1097 v2445 v2446) := by
  intros
  rw [k0_part49_eq_skeleton]
  exact
    .bind (.load ((H.h4.slice _ _).squeeze _ _).reads _ _) fun _ =>
    .bind (.load H.h15.reads _ _) fun _ =>
    .bind (.store H.h15 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h15.reads _ _) fun _ =>
    .bind (.load ((H.h4.slice _ _).squeeze _ _).reads _ _) fun _ =>
    .pure _

theorem part50 (H : Held c I arg2 arg3 arg4 arg5 arg6 arg7 arg8 arg9 arg10 arg11 arg12 arg13 arg14 arg15 arg16 arg17 arg18 arg19 arg20 arg21) :
    ∀ k0_t1 v1129 v1254 v1378 v2479, Safe defs 𝒱 c.tc E I
      (k0_part50 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1129 v1254 v1378 v2479) := by
  intros
  rw [k0_part50_eq_skeleton]
  exact
    .bind (.load H.h15.reads _ _) fun _ =>
    .bind (.store H.h15 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h16.reads _ _) fun _ =>
    .pure _

theorem part51 (H : Held c I arg2 arg3 arg4 arg5 arg6 arg7 arg8 arg9 arg10 arg11 arg12 arg13 arg14 arg15 arg16 arg17 arg18 arg19 arg20 arg21) :
    ∀ k0_t1 v1129 v1502 v1626 v1750 v2510 v2511, Safe defs 𝒱 c.tc E I
      (k0_part51 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1129 v1502 v1626 v1750 v2510 v2511) := by
  intros
  rw [k0_part51_eq_skeleton]
  exact
    .bind (.load ((H.h8.slice _ _).squeeze _ _).reads _ _) fun _ =>
    .bind (.load H.h16.reads _ _) fun _ =>
    .bind (.store H.h16 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h16.reads _ _) fun _ =>
    .bind (.load ((H.h8.slice _ _).squeeze _ _).reads _ _) fun _ =>
    .pure _

theorem part52 (H : Held c I arg2 arg3 arg4 arg5 arg6 arg7 arg8 arg9 arg10 arg11 arg12 arg13 arg14 arg15 arg16 arg17 arg18 arg19 arg20 arg21) :
    ∀ k0_t1 v1129 v1874 v1998 v2544, Safe defs 𝒱 c.tc E I
      (k0_part52 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v1129 v1874 v1998 v2544) := by
  intros
  rw [k0_part52_eq_skeleton]
  exact
    .bind (.load H.h16.reads _ _) fun _ =>
    .bind (.store H.h16 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h16.reads _ _) fun _ =>
    .pure _

theorem part53 (H : Held c I arg2 arg3 arg4 arg5 arg6 arg7 arg8 arg9 arg10 arg11 arg12 arg13 arg14 arg15 arg16 arg17 arg18 arg19 arg20 arg21) :
    ∀ k0_t1 v5 v8 c0_i32_13 c0_i32_14, Safe defs 𝒱 c.tc E I
      (k0_part53 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v5 v8 c0_i32_13 c0_i32_14) := by
  intros
  rw [k0_part53_eq_skeleton]
  exact
    .bind (part1 H _ _ _ _ _) fun _ =>
    .bind (part2 H _ _ _) fun _ =>
    .bind (part3 H _ _ _ _ _ _ _ _) fun _ =>
    .bind (part4 H _ _ _ _ _ _ _ _ _ _ _ _ _ _ _ _ _ _) fun _ =>
    .bind (part5 H _ _ _ _ _) fun _ =>
    .bind (part6 H _ _ _ _ _ _ _ _ _ _ _ _ _ _ _ _ _ _) fun _ =>
    .bind (part7 H _ _ _ _ _ _ _ _ _ _ _ _ _) fun _ =>
    .bind (part8 H _ _ _ _ _ _ _ _ _ _ _ _ _ _ _ _ _ _) fun _ =>
    .bind (part9 H _ _ _ _ _ _ _ _ _ _ _ _ _ _ _) fun _ =>
    .bind (part10 H _ _ _ _ _ _ _ _ _ _ _ _ _ _) fun _ =>
    .bind (part11 H _ _ _ _ _ _ _ _ _ _ _ _ _ _ _ _ _) fun _ =>
    .bind (part12 H _ _ _ _ _ _ _ _ _ _) fun _ =>
    .bind (part13 H _ _ _ _ _ _ _ _ _ _ _ _ _ _ _ _ _ _ _) fun _ =>
    .bind (part14 H _ _ _ _ _ _) fun _ =>
    .bind (part15 H _ _ _ _ _ _ _ _ _ _ _ _ _ _ _ _ _ _) fun _ =>
    .bind (part16 H _ _ _ _ _ _ _) fun _ =>
    .bind (part17 H _ _ _ _ _ _ _ _ _ _ _ _ _ _ _ _ _) fun _ =>
    .bind (part18 H _ _ _ _ _ _ _ _ _ _ _ _ _ _ _) fun _ =>
    .bind (part19 H _ _ _ _ _ _ _ _ _ _ _ _ _ _) fun _ =>
    .bind (part20 H _ _ _ _ _ _ _ _ _ _ _ _ _ _ _) fun _ =>
    .bind (part21 H _ _ _) fun _ =>
    .bind (part22 H _ _ _ _ _ _ _ _ _ _ _ _ _ _ _ _) fun _ =>
    .bind (part23 H _ _ _ _ _ _ _ _ _ _ _ _ _ _ _ _ _ _) fun _ =>
    .bind (part24 H _ _ _ _ _ _ _ _ _ _ _ _ _) fun _ =>
    .bind (part25 H _ _ _ _ _ _ _ _ _ _ _ _ _ _ _ _ _ _ _ _) fun _ =>
    .bind (part26 H _ _ _ _ _ _ _) fun _ =>
    .bind (part27 H _ _ _ _ _ _ _ _ _ _ _ _ _ _ _ _ _ _ _) fun _ =>
    .bind (part28 H _ _ _ _) fun _ =>
    .bind (part29 H _ _ _ _ _ _ _ _ _ _ _ _ _ _ _ _ _ _) fun _ =>
    .bind (part30 H _ _ _ _ _ _ _ _ _ _ _ _ _ _ _) fun _ =>
    .bind (part31 H _ _ _ _ _ _ _ _ _ _ _ _ _ _ _) fun _ =>
    .bind (part32 H _ _ _ _ _ _ _ _ _ _ _ _ _ _ _ _ _) fun _ =>
    .bind (part33 H _ _ _ _ _ _ _ _ _ _ _) fun _ =>
    .bind (part34 H _ _ _ _ _ _ _ _ _ _ _ _ _ _ _ _ _ _ _ _) fun _ =>
    .bind (part35 H _ _ _ _ _ _ _ _) fun _ =>
    .bind (part36 H _ _ _ _ _ _ _ _ _ _ _ _ _ _ _ _ _ _ _) fun _ =>
    .bind (part37 H _ _ _ _ _) fun _ =>
    .bind (part38 H _ _ _ _ _ _ _ _ _ _ _ _ _ _ _ _ _ _) fun _ =>
    .bind (part39 H _ _ _ _ _ _ _ _ _ _ _ _ _ _ _) fun _ =>
    .bind (part40 H _ _ _ _ _ _ _) fun _ =>
    .bind (part41 H _ _ _ _ _ _ _) fun _ =>
    .bind (part42 H _ _ _ _ _ _ _) fun _ =>
    .bind (part43 H _ _ _ _ _ _ _) fun _ =>
    .bind (part44 H _ _ _ _ _ _) fun _ =>
    .bind (part45 H _ _ _ _ _ _ _ _) fun _ =>
    .bind (part46 H _ _ _ _ _ _ _) fun _ =>
    .bind (part47 H _ _ _ _ _ _ _) fun _ =>
    .bind (part48 H _ _ _ _ _) fun _ =>
    .bind (part49 H _ _ _ _ _ _ _) fun _ =>
    .bind (part50 H _ _ _ _ _) fun _ =>
    .bind (part51 H _ _ _ _ _ _ _) fun _ =>
    .bind (part52 H _ _ _ _ _) fun _ =>
    .bind (.load ((H.h8.slice _ _).squeeze _ _).reads _ _) fun _ =>
    .pure _

theorem part54 (H : Held c I arg2 arg3 arg4 arg5 arg6 arg7 arg8 arg9 arg10 arg11 arg12 arg13 arg14 arg15 arg16 arg17 arg18 arg19 arg20 arg21) :
    ∀ v77 v78 v99 c0_i32_59 c1_i32_61 k0_t2, Safe defs 𝒱 c.tc E I
      (k0_part54 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v77 v78 v99 c0_i32_59 c1_i32_61 k0_t2) := by
  intros
  rw [k0_part54_eq_skeleton]
  exact
    .bind (.load H.h17.reads _ _) fun _ =>
    .bind (.load H.h20.reads _ _) fun _ =>
    .bind (.load H.h21.reads _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .pure _

theorem part55 (H : Held c I arg2 arg3 arg4 arg5 arg6 arg7 arg8 arg9 arg10 arg11 arg12 arg13 arg14 arg15 arg16 arg17 arg18 arg19 arg20 arg21) :
    ∀ v588 v590, Safe defs 𝒱 c.tc E I
      (k0_part55 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v588 v590) := by
  intros
  rw [k0_part55_eq_skeleton]
  exact
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .pure _

theorem part56 (H : Held c I arg2 arg3 arg4 arg5 arg6 arg7 arg8 arg9 arg10 arg11 arg12 arg13 arg14 arg15 arg16 arg17 arg18 arg19 arg20 arg21) :
    ∀ v327 v328 v349 c0_i32_217 c1_i32_219 k0_t3, Safe defs 𝒱 c.tc E I
      (k0_part56 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v327 v328 v349 c0_i32_217 c1_i32_219 k0_t3) := by
  intros
  rw [k0_part56_eq_skeleton]
  exact
    .bind (.load H.h18.reads _ _) fun _ =>
    .bind (.load H.h20.reads _ _) fun _ =>
    .bind (.load H.h21.reads _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .pure _

theorem part57 (H : Held c I arg2 arg3 arg4 arg5 arg6 arg7 arg8 arg9 arg10 arg11 arg12 arg13 arg14 arg15 arg16 arg17 arg18 arg19 arg20 arg21) :
    ∀ v588 v590, Safe defs 𝒱 c.tc E I
      (k0_part57 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v588 v590) := by
  intros
  rw [k0_part57_eq_skeleton]
  exact
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .pure _

theorem part58 (H : Held c I arg2 arg3 arg4 arg5 arg6 arg7 arg8 arg9 arg10 arg11 arg12 arg13 arg14 arg15 arg16 arg17 arg18 arg19 arg20 arg21) :
    ∀ k0_t1 v5 v8 c0_i32_24 c0_i32_25 c0_i32_26, Safe defs 𝒱 c.tc E I
      (k0_part58 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v5 v8 c0_i32_24 c0_i32_25 c0_i32_26) := by
  intros
  rw [k0_part58_eq_skeleton]
  exact
    .bind (.load H.h6.reads _ _) fun _ =>
    .bind (.load H.h17.reads _ _) fun _ =>
    .bind (.store H.h17 _ _ _ _ _) fun _ =>
    .bind (.load H.h10.reads _ _) fun _ =>
    .bind (.load H.h18.reads _ _) fun _ =>
    .bind (.store H.h18 _ _ _ _ _) fun _ =>
    .pure _

theorem t2_body (H : Held c I arg2 arg3 arg4 arg5 arg6 arg7 arg8 arg9 arg10 arg11 arg12 arg13 arg14 arg15 arg16 arg17 arg18 arg19 arg20 arg21) :
    ∀ k0_t1 v5 c0_i32_27 c0_i32_28 v75 v78 v99 k0_t2 u, Safe defs 𝒱 c.tc E I
      (k0_t2_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v5 c0_i32_27 c0_i32_28 v75 v78 v99 k0_t2 u) := by
  intros
  exact
    .bind (part54 H _ _ _ _ _ _) fun _ =>
    .bind (part55 H _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .pure _

theorem part59 (H : Held c I arg2 arg3 arg4 arg5 arg6 arg7 arg8 arg9 arg10 arg11 arg12 arg13 arg14 arg15 arg16 arg17 arg18 arg19 arg20 arg21) :
    ∀ k0_t1 v5 c0_i32_27 c0_i32_28, Safe defs 𝒱 c.tc E I
      (k0_part59 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v5 c0_i32_27 c0_i32_28) := by
  intros
  rw [k0_part59_eq_skeleton]
  exact
    .bind (.load H.h3.reads _ _) fun _ =>
    .bind (.load H.h17.reads _ _) fun _ =>
    .bind (.load H.h5.reads _ _) fun _ =>
    .bind (.load H.h20.reads _ _) fun _ =>
    .bind (.store H.h20 _ _ _ _ _) fun _ =>
    .bind (.load H.h4.reads _ _) fun _ =>
    .bind (.load H.h21.reads _ _) fun _ =>
    .bind (.store H.h21 _ _ _ _ _) fun _ =>
    .bind (.load H.h19.reads _ _) fun _ =>
    .bind (.store H.h19 _ _ _ _ _) fun _ =>
    .bind (.loop _ _ _ (t2_body H _ _ _ _ _ _ _)) fun _ =>
    .bind (.load H.h17.reads _ _) fun _ =>
    .pure _

theorem part60 (H : Held c I arg2 arg3 arg4 arg5 arg6 arg7 arg8 arg9 arg10 arg11 arg12 arg13 arg14 arg15 arg16 arg17 arg18 arg19 arg20 arg21) :
    ∀ k0_t1 v77 v78 v101 v103 v104 v105 v106 v107 v108 v109 v110 v111, Safe defs 𝒱 c.tc E I
      (k0_part60 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v77 v78 v101 v103 v104 v105 v106 v107 v108 v109 v110 v111) := by
  intros
  rw [k0_part60_eq_skeleton]
  exact
    .bind (.load H.h20.reads _ _) fun _ =>
    .bind (.load H.h19.reads _ _) fun _ =>
    .bind (.load H.h15.reads _ _) fun _ =>
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .pure _

theorem part61 (H : Held c I arg2 arg3 arg4 arg5 arg6 arg7 arg8 arg9 arg10 arg11 arg12 arg13 arg14 arg15 arg16 arg17 arg18 arg19 arg20 arg21) :
    ∀ k0_t1 v113 v116 v122, Safe defs 𝒱 c.tc E I
      (k0_part61 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v113 v116 v122) := by
  intros
  rw [k0_part61_eq_skeleton]
  exact
    .bind (.load H.h19.reads _ _) fun _ =>
    .bind (.load H.h15.reads _ _) fun _ =>
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h19.reads _ _) fun _ =>
    .bind (.load H.h15.reads _ _) fun _ =>
    .pure _

theorem part62 (H : Held c I arg2 arg3 arg4 arg5 arg6 arg7 arg8 arg9 arg10 arg11 arg12 arg13 arg14 arg15 arg16 arg17 arg18 arg19 arg20 arg21) :
    ∀ k0_t1 v113 v116 v122 v179, Safe defs 𝒱 c.tc E I
      (k0_part62 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v113 v116 v122 v179) := by
  intros
  rw [k0_part62_eq_skeleton]
  exact
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h19.reads _ _) fun _ =>
    .bind (.load H.h15.reads _ _) fun _ =>
    .bind (.load ((H.h13.slice _ _).squeeze _ _).reads _ _) fun _ =>
    .bind (.store H.h13 _ _ _ _ _) fun _ =>
    .bind (.load H.h15.reads _ _) fun _ =>
    .pure _

theorem part63 (H : Held c I arg2 arg3 arg4 arg5 arg6 arg7 arg8 arg9 arg10 arg11 arg12 arg13 arg14 arg15 arg16 arg17 arg18 arg19 arg20 arg21) :
    ∀ k0_t1 v113 v116 v122 v209, Safe defs 𝒱 c.tc E I
      (k0_part63 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v113 v116 v122 v209) := by
  intros
  rw [k0_part63_eq_skeleton]
  exact
    .bind (.load ((H.h4.slice _ _).squeeze _ _).reads _ _) fun _ =>
    .bind (.load H.h15.reads _ _) fun _ =>
    .bind (.store H.h15 _ _ _ _ _) fun _ =>
    .bind (.load H.h19.reads _ _) fun _ =>
    .bind (.load H.h15.reads _ _) fun _ =>
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .pure _

theorem part64 (H : Held c I arg2 arg3 arg4 arg5 arg6 arg7 arg8 arg9 arg10 arg11 arg12 arg13 arg14 arg15 arg16 arg17 arg18 arg19 arg20 arg21) :
    ∀ k0_t1 v113 v116 v122 v238 v243, Safe defs 𝒱 c.tc E I
      (k0_part64 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v113 v116 v122 v238 v243) := by
  intros
  rw [k0_part64_eq_skeleton]
  exact
    .bind (.load H.h15.reads _ _) fun _ =>
    .bind (.store H.h15 _ _ _ _ _) fun _ =>
    .bind (.load H.h19.reads _ _) fun _ =>
    .bind (.load H.h15.reads _ _) fun _ =>
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h19.reads _ _) fun _ =>
    .pure _

theorem part65 (H : Held c I arg2 arg3 arg4 arg5 arg6 arg7 arg8 arg9 arg10 arg11 arg12 arg13 arg14 arg15 arg16 arg17 arg18 arg19 arg20 arg21) :
    ∀ k0_t1 v113 v116 v122 v273 v274, Safe defs 𝒱 c.tc E I
      (k0_part65 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v113 v116 v122 v273 v274) := by
  intros
  rw [k0_part65_eq_skeleton]
  exact
    .bind (.load H.h15.reads _ _) fun _ =>
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h19.reads _ _) fun _ =>
    .bind (.load H.h15.reads _ _) fun _ =>
    .pure _

theorem part66 (H : Held c I arg2 arg3 arg4 arg5 arg6 arg7 arg8 arg9 arg10 arg11 arg12 arg13 arg14 arg15 arg16 arg17 arg18 arg19 arg20 arg21) :
    ∀ k0_t1 v8 c0_i32_30 c0_i32_31 c0_i32_32 v113 v122 v305, Safe defs 𝒱 c.tc E I
      (k0_part66 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v8 c0_i32_30 c0_i32_31 c0_i32_32 v113 v122 v305) := by
  intros
  rw [k0_part66_eq_skeleton]
  exact
    .bind (.load ((H.h13.slice _ _).squeeze _ _).reads _ _) fun _ =>
    .bind (.store H.h13 _ _ _ _ _) fun _ =>
    .bind (.load H.h15.reads _ _) fun _ =>
    .bind (.load ((H.h4.slice _ _).squeeze _ _).reads _ _) fun _ =>
    .bind (.load H.h15.reads _ _) fun _ =>
    .bind (.store H.h15 _ _ _ _ _) fun _ =>
    .bind (.load H.h7.reads _ _) fun _ =>
    .bind (.load H.h18.reads _ _) fun _ =>
    .bind (.load H.h9.reads _ _) fun _ =>
    .bind (.load H.h20.reads _ _) fun _ =>
    .bind (.store H.h20 _ _ _ _ _) fun _ =>
    .bind (.load H.h8.reads _ _) fun _ =>
    .bind (.load H.h21.reads _ _) fun _ =>
    .pure _

theorem t3_body (H : Held c I arg2 arg3 arg4 arg5 arg6 arg7 arg8 arg9 arg10 arg11 arg12 arg13 arg14 arg15 arg16 arg17 arg18 arg19 arg20 arg21) :
    ∀ k0_t1 v327 v328 v341 v349 k0_t3 u, Safe defs 𝒱 c.tc E I
      (k0_t3_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v327 v328 v341 v349 k0_t3 u) := by
  intros
  exact
    .bind (part56 H _ _ _ _ _ _) fun _ =>
    .bind (part57 H _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .bind (.load H.h19.reads _ _) fun _ =>
    .bind (.load H.h19.reads _ _) fun _ =>
    .bind (.store H.h19 _ _ _ _ _) fun _ =>
    .pure _

theorem part67 (H : Held c I arg2 arg3 arg4 arg5 arg6 arg7 arg8 arg9 arg10 arg11 arg12 arg13 arg14 arg15 arg16 arg17 arg18 arg19 arg20 arg21) :
    ∀ k0_t1 v327 v328 v341, Safe defs 𝒱 c.tc E I
      (k0_part67 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v327 v328 v341) := by
  intros
  rw [k0_part67_eq_skeleton]
  exact
    .bind (.store H.h21 _ _ _ _ _) fun _ =>
    .bind (.load H.h19.reads _ _) fun _ =>
    .bind (.store H.h19 _ _ _ _ _) fun _ =>
    .bind (.loop _ _ _ (t3_body H _ _ _ _ _)) fun _ =>
    .bind (.load H.h18.reads _ _) fun _ =>
    .bind (.load H.h20.reads _ _) fun _ =>
    .bind (.load H.h19.reads _ _) fun _ =>
    .bind (.load H.h16.reads _ _) fun _ =>
    .pure _

theorem part68 (H : Held c I arg2 arg3 arg4 arg5 arg6 arg7 arg8 arg9 arg10 arg11 arg12 arg13 arg14 arg15 arg16 arg17 arg18 arg19 arg20 arg21) :
    ∀ k0_t1 v363 v366 v372 v380, Safe defs 𝒱 c.tc E I
      (k0_part68 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 v380) := by
  intros
  rw [k0_part68_eq_skeleton]
  exact
    .bind (.load ((H.h14.slice _ _).squeeze _ _).reads _ _) fun _ =>
    .bind (.store H.h14 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .bind (.store H.h14 _ _ _ _ _) fun _ =>
    .bind (.load H.h16.reads _ _) fun _ =>
    .pure _

theorem part69 (H : Held c I arg2 arg3 arg4 arg5 arg6 arg7 arg8 arg9 arg10 arg11 arg12 arg13 arg14 arg15 arg16 arg17 arg18 arg19 arg20 arg21) :
    ∀ k0_t1 v363 v366 v372 v410 v412, Safe defs 𝒱 c.tc E I
      (k0_part69 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 v410 v412) := by
  intros
  rw [k0_part69_eq_skeleton]
  exact
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .bind (.store H.h14 _ _ _ _ _) fun _ =>
    .bind (.load H.h16.reads _ _) fun _ =>
    .bind (.load ((H.h8.slice _ _).squeeze _ _).reads _ _) fun _ =>
    .pure _

theorem part70 (H : Held c I arg2 arg3 arg4 arg5 arg6 arg7 arg8 arg9 arg10 arg11 arg12 arg13 arg14 arg15 arg16 arg17 arg18 arg19 arg20 arg21) :
    ∀ k0_t1 v363 v366 v372 v444, Safe defs 𝒱 c.tc E I
      (k0_part70 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 v444) := by
  intros
  rw [k0_part70_eq_skeleton]
  exact
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .bind (.store H.h14 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .pure _

theorem part71 (H : Held c I arg2 arg3 arg4 arg5 arg6 arg7 arg8 arg9 arg10 arg11 arg12 arg13 arg14 arg15 arg16 arg17 arg18 arg19 arg20 arg21) :
    ∀ k0_t1 v363 v366 v372 v473 v474 v475, Safe defs 𝒱 c.tc E I
      (k0_part71 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 v473 v474 v475) := by
  intros
  rw [k0_part71_eq_skeleton]
  exact
    .bind (.load ((H.h14.slice _ _).squeeze _ _).reads _ _) fun _ =>
    .bind (.store H.h14 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .pure _

theorem part72 (H : Held c I arg2 arg3 arg4 arg5 arg6 arg7 arg8 arg9 arg10 arg11 arg12 arg13 arg14 arg15 arg16 arg17 arg18 arg19 arg20 arg21) :
    ∀ k0_t1 v363 v366 v372 k0_w30, Safe defs 𝒱 c.tc E I
      (k0_part72 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 k0_w30) := by
  intros
  rw [k0_part72_eq_skeleton]
  exact
    .bind (.store H.h14 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .bind (.store H.h14 _ _ _ _ _) fun _ =>
    .bind (.load H.h16.reads _ _) fun _ =>
    .pure _

theorem part73 (H : Held c I arg2 arg3 arg4 arg5 arg6 arg7 arg8 arg9 arg10 arg11 arg12 arg13 arg14 arg15 arg16 arg17 arg18 arg19 arg20 arg21) :
    ∀ k0_t1 v363 v366 v372 v538 v539, Safe defs 𝒱 c.tc E I
      (k0_part73 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 k0_t1 v363 v366 v372 v538 v539) := by
  intros
  rw [k0_part73_eq_skeleton]
  exact
    .bind (.load ((H.h8.slice _ _).squeeze _ _).reads _ _) fun _ =>
    .bind (.load H.h16.reads _ _) fun _ =>
    .bind (.store H.h16 _ _ _ _ _) fun _ =>
    .bind (.load H.h19.reads _ _) fun _ =>
    .bind (.load H.h16.reads _ _) fun _ =>
    .bind (.load ((H.h14.slice _ _).squeeze _ _).reads _ _) fun _ =>
    .bind (.store H.h14 _ _ _ _ _) fun _ =>
    .bind (.load H.h16.reads _ _) fun _ =>
    .bind (.load ((H.h8.slice _ _).squeeze _ _).reads _ _) fun _ =>
    .bind (.load H.h16.reads _ _) fun _ =>
    .bind (.store H.h16 _ _ _ _ _) fun _ =>
    .pure _

theorem part74 (H : Held c I arg2 arg3 arg4 arg5 arg6 arg7 arg8 arg9 arg10 arg11 arg12 arg13 arg14 arg15 arg16 arg17 arg18 arg19 arg20 arg21) :
    ∀ arg0 arg1 c0_i32_1 c1_i32 k0_t1, Safe defs 𝒱 c.tc E I
      (k0_part74 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 c0_i32_1 c1_i32 k0_t1) := by
  intros
  rw [k0_part74_eq_skeleton]
  exact
    .bind (.smemLoad H.h2 _ _ _) fun _ =>
    .bind (.smemLoad H.h2 _ _ _) fun _ =>
    .dite (fun _ =>
      .bind (part53 H _ _ _ _ _) fun _ =>
      .bind (.load H.h16.reads _ _) fun _ =>
      .bind (.store H.h16 _ _ _ _ _) fun _ =>
      .pure _) fun _ => .pure _

theorem t1_body (H : Held c I arg2 arg3 arg4 arg5 arg6 arg7 arg8 arg9 arg10 arg11 arg12 arg13 arg14 arg15 arg16 arg17 arg18 arg19 arg20 arg21) :
    ∀ arg0 arg1 k0_t1 u, Safe defs 𝒱 c.tc E I
      (k0_t1_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg0 arg1 k0_t1 u) := by
  intros
  exact
    .bind (part74 H _ _ _ _ _) fun _ =>
    .dite (fun _ =>
      .bind (part58 H _ _ _ _ _ _) fun _ =>
      .bind (part59 H _ _ _ _) fun _ =>
      .bind (part60 H _ _ _ _ _ _ _ _ _ _ _ _ _) fun _ =>
      .bind (part61 H _ _ _ _) fun _ =>
      .bind (part62 H _ _ _ _ _) fun _ =>
      .bind (part63 H _ _ _ _ _) fun _ =>
      .bind (part64 H _ _ _ _ _ _) fun _ =>
      .bind (part65 H _ _ _ _ _ _) fun _ =>
      .bind (part66 H _ _ _ _ _ _ _ _) fun _ =>
      .bind (part67 H _ _ _ _) fun _ =>
      .bind (part68 H _ _ _ _ _) fun _ =>
      .bind (part69 H _ _ _ _ _ _) fun _ =>
      .bind (part70 H _ _ _ _ _) fun _ =>
      .bind (part71 H _ _ _ _ _ _ _) fun _ =>
      .bind (part72 H _ _ _ _ _) fun _ =>
      .bind (part73 H _ _ _ _ _ _) fun _ =>
      .pure _) fun _ => .pure _

/-- The kernel's body at any grid point. -/
theorem body (H : Held c I arg2 arg3 arg4 arg5 arg6 arg7 arg8 arg9 arg10 arg11 arg12 arg13 arg14 arg15 arg16 arg17 arg18 arg19 arg20 arg21) :
    Safe defs 𝒱 c.tc E I
      (cc0_hgrn i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) := by
  rw [cc0_hgrn_eq_skeleton]
  exact
    .dite (fun _ =>
      .bind (.load H.h11.reads _ _) fun _ =>
      .bind (.load H.h15.reads _ _) fun _ =>
      .bind (.store H.h15 _ _ _ _ _) fun _ =>
      .bind (.load H.h12.reads _ _) fun _ =>
      .bind (.load H.h16.reads _ _) fun _ =>
      .bind (.store H.h16 _ _ _ _ _) fun _ =>
      .bind (.loop _ _ _ (t1_body H _ _)) fun _ => .pure _) fun _ =>
      .bind (.loop _ _ _ (t1_body H _ _)) fun _ => .pure _

end Cert.Proof.Hgrn

end
-- ==== Proof.HgrnFrame.lean ====
module

public import proofs.«01_k».proof.Defs
public import proofs.«01_k».proof.Proof.Gen.Kernel5
public import proofs.«01_k».proof.Proof.Gen.Kernel5Ideal.Launch
public import proofs.«01_k».proof.Proof.HgrnBody

/-! # The recurrence kernel's run

At every grid point the body is handed the twelve windows' staging buffers, the scratch buffers and half of the table
of flags, and hands them back, at contents of which nothing is said. -/

@[expose] public section

namespace Cert.Proof.Hgrn

open Idealize.ShloMosaic Idealize.ShloMosaic.TcCoe Idealize.ShloMosaic.Pipeline
open Idealize.SL Idealize.SL.RA Idealize.SL.Sem Idealize.SL.ProofMode
open Idealize.SL.BI (sProp bigSep bigSep_univ_split bigSep_mono bigSep_congr)
open scoped Idealize.SL.BI
open Idealize.SL.BI.BIBase Idealize.SL.BI.Laws
open Cert.Kernel5Ideal Cert.Kernel5Ideal.Gen Cert.Proof.Safe

section Lend

variable {sig : RefSig} {nD : Nat} {τ : Topo} {Val : EltTy → Type} {c : Thread nD τ}
variable {I A B : sProp (MT nD τ sig Unit Val ℕ (UR sig nD τ) ℕ)}

theorem keeps_left {sp : Space} {s : Shape} {e : EltTy} {m : Memref sig c.2.kind sp s e}
    (hA : Keeps c A m) : Keeps c iprop(A ∗ B) m := by
  obtain ⟨S, hS, hA⟩ := hA
  refine ⟨S, hS, Entails.trans (sep_mono_left hA) ?_⟩
  iintro ⟨⟨%f, H, K⟩, HB⟩
  iexists f
  isplitl [H]
  · iexact H
  iintro %f' H
  isplitl [H K]
  · iapply K $$ %f'
    iexact H
  iexact HB

theorem keeps_right {sp : Space} {s : Shape} {e : EltTy} {m : Memref sig c.2.kind sp s e}
    (hB : Keeps c B m) : Keeps c iprop(A ∗ B) m := by
  obtain ⟨S, hS, hB⟩ := hB
  refine ⟨S, hS, Entails.trans (sep_mono_right hB) ?_⟩
  iintro ⟨HA, ⟨%f, H, K⟩⟩
  iexists f
  isplitl [H]
  · iexact H
  iintro %f' H
  isplitl [HA]
  · iexact HA
  iapply K $$ %f'
  iexact H

theorem reads_left {sp : Space} {s : Shape} {e : EltTy} {m : Memref sig c.2.kind sp s e}
    (hA : Reads c A m) : Reads c iprop(A ∗ B) m := by
  obtain ⟨S, q, hS, hA⟩ := hA
  refine ⟨S, q, hS, Entails.trans (sep_mono_left hA) ?_⟩
  iintro ⟨⟨%f, H, K⟩, HB⟩
  iexists f
  isplitl [H]
  · iexact H
  iintro H
  isplitl [H K]
  · iapply K
    iexact H
  iexact HB

theorem reads_right {sp : Space} {s : Shape} {e : EltTy} {m : Memref sig c.2.kind sp s e}
    (hB : Reads c B m) : Reads c iprop(A ∗ B) m := by
  obtain ⟨S, q, hS, hB⟩ := hB
  refine ⟨S, q, hS, Entails.trans (sep_mono_right hB) ?_⟩
  iintro ⟨HA, ⟨%f, H, K⟩⟩
  iexists f
  isplitl [H]
  · iexact H
  iintro H
  isplitl [HA]
  · iexact HA
  iapply K
  iexact H

/-- A whole buffer held at a share may be read. -/
theorem reads_whole (b : Ref sig c.2.kind) (q : PosShare TreeShare) (f : Buf Val (c.loc b)) :
    Reads c (((c.loc b) ↦{q} f) : sProp (MT nD τ sig Unit Val ℕ (UR sig nD τ) ℕ)) (Memref.whole b) := by
  refine ⟨Finset.univ, q, Finset.subset_univ _, ?_⟩
  iintro H
  iexists f
  isplitl [H]
  · iexact H
  iintro H
  iexact H

theorem some_of {α : Sort _} (Φ : α → sProp (MT nD τ sig Unit Val ℕ (UR sig nD τ) ℕ)) (x : α) :
    Φ x ⊢ iprop(∃ y, Φ y) := by
  iintro H
  iexists x
  iexact H

theorem some_true {α : Sort _} (Φ : α → sProp (MT nD τ sig Unit Val ℕ (UR sig nD τ) ℕ)) :
    iprop(∃ y, Φ y) ⊢ iprop(∃ y, ⌜True⌝ ∗ Φ y) := by
  iintro ⟨%x, H⟩
  iexists x
  isplitr
  · ipureintro; trivial
  iexact H

/-- A buffer owned at some contents is lent. -/
theorem keeps_owns {sp : Space} {s : Shape} {e : EltTy} {m : Memref sig c.2.kind sp s e} :
    Keeps c (iprop(∃ X, owns c m fullShare X) : sProp (MT nD τ sig Unit Val ℕ (UR sig nD τ) ℕ)) m := by
  refine ⟨m.view.set, subset_rfl, ?_⟩
  iintro ⟨%X, H⟩
  unfold owns
  icases H with ⟨%f, -, H⟩
  iexists f
  isplitl [H]
  · iexact H
  iintro %f' H
  iexists m.view.read Val f', f'
  isplitr
  · ipureintro; rfl
  iexact H

/-- A whole buffer held at some contents is lent. -/
theorem keeps_whole (b : Ref sig c.2.kind) :
    Keeps c (iprop(∃ f : Buf Val (c.loc b), (c.loc b) ↦{fullShare} f) : sProp (MT nD τ sig Unit Val ℕ (UR sig nD τ) ℕ))
      (Memref.whole b) := by
  refine ⟨Finset.univ, Finset.subset_univ _, ?_⟩
  iintro ⟨%f, H⟩
  iexists f
  isplitl [H]
  · iexact H
  iintro %f' H
  iexists f'
  iexact H

end Lend

variable {F : FTy → Type} [FloatOps F]

variable (a : (p : Fin 1) → (pcfgs (F := F) p).Adm)
variable (V : (c : Dev nD) → (b : Ref sig .tc) → Buf (Elt F) ((c.tc : Thread nD τ).loc b))

/-- What is said of the run: the windows' arrays start at `V`, nothing of what the body leaves in a window, and
between two points the scratch buffers and half of the table are held. -/
noncomputable def rdat (c : Dev nD) : RDat τ (Elt F) Unit ℕ (UR sig nD τ) ℕ (pin (pcfgs (F := F)) a 0) c where
  A w := V c (arrRef (pin (pcfgs (F := F)) a 0).spec w)
  after _ _ _ _ := True
  Φ _ := iprop(ΦA spec0 c ∗ ΦT pre0 (a 0).1 c)
  q _ := fullShare
  owed _ := 0

/-- What stands between any two statements of the body at the point `t`. -/
noncomputable def Inv (c : Dev nD) (t : Fin (pin (pcfgs (F := F)) a 0).N) : sProp (MT nD τ sig Unit (Elt F) ℕ (UR sig nD τ) ℕ) :=
  iprop((ΦA spec0 c ∗ ΦT pre0 (a 0).1 c) ∗ (rdat a V c).owesAt () t.castSucc ∗
    bigSep Finset.univ fun w : Fin 12 => iprop(∃ X, owns (c.tc : Thread nD τ)
      (((pin (pcfgs (F := F)) a 0).win w).stage ((pin (pcfgs (F := F)) a 0).slots t w)) fullShare X))

set_option maxHeartbeats 4000000 in
theorem held (c : Dev nD) (t : Fin (pin (pcfgs (F := F)) a 0).N) (s : (w : Fin 12) → Fin (spec0 w).nbuf)
    (hs : (pin (pcfgs (F := F)) a 0).slots t = s) :
    Held c (Inv a V c t) (Memref.whole main_arg0) (spec0_0.stage (s 0)) (spec0_1.stage (s 1)) (spec0_2.stage (s 2))
      (spec0_3.stage (s 3)) (spec0_4.stage (s 4)) (spec0_5.stage (s 5)) (spec0_6.stage (s 6)) (spec0_7.stage (s 7))
      (spec0_8.stage (s 8)) (spec0_9.stage (s 9)) (spec0_10.stage (s 10)) (spec0_11.stage (s 11))
      (Memref.whole cc0_scratch0) (Memref.whole cc0_scratch1) (Memref.whole cc0_scratch2) (Memref.whole cc0_scratch3)
      (Memref.whole cc0_scratch4) (Memref.whole cc0_scratch5) (Memref.whole cc0_scratch6) := by
  subst hs
  unfold Inv ΦA
  rw [bigSep_W0, scopedRest0_eq]
  exact {
    h2 := reads_left (reads_right (by
      unfold ΦT prefHeld
      rw [BI.bigSep_univ_of_subsingleton (0 : Fin 1)]
      exact reads_whole (c := (c.tc : Thread nD τ)) main_arg0 _ _))
    h3 := keeps_right (keeps_right (keeps_left keeps_owns))
    h4 := keeps_right (keeps_right (keeps_right (keeps_left keeps_owns)))
    h5 := keeps_right (keeps_right (keeps_right (keeps_right (keeps_left keeps_owns))))
    h6 := keeps_right (keeps_right (keeps_right (keeps_right (keeps_right (keeps_left keeps_owns)))))
    h7 := keeps_right (keeps_right (keeps_right (keeps_right (keeps_right (keeps_right (keeps_left keeps_owns))))))
    h8 := keeps_right (keeps_right (keeps_right (keeps_right (keeps_right (keeps_right (keeps_right (keeps_left keeps_owns)))))))
    h9 := keeps_right (keeps_right (keeps_right (keeps_right (keeps_right (keeps_right (keeps_right (keeps_right (keeps_left keeps_owns))))))))
    h10 := keeps_right (keeps_right (keeps_right (keeps_right (keeps_right (keeps_right (keeps_right (keeps_right (keeps_right (keeps_left keeps_owns)))))))))
    h11 := keeps_right (keeps_right (keeps_right (keeps_right (keeps_right (keeps_right (keeps_right (keeps_right (keeps_right (keeps_right (keeps_left keeps_owns))))))))))
    h12 := keeps_right (keeps_right (keeps_right (keeps_right (keeps_right (keeps_right (keeps_right (keeps_right (keeps_right (keeps_right (keeps_right (keeps_left keeps_owns)))))))))))
    h13 := keeps_right (keeps_right (keeps_right (keeps_right (keeps_right (keeps_right (keeps_right (keeps_right (keeps_right (keeps_right (keeps_right (keeps_right (keeps_left keeps_owns))))))))))))
    h14 := keeps_right (keeps_right (keeps_right (keeps_right (keeps_right (keeps_right (keeps_right (keeps_right (keeps_right (keeps_right (keeps_right (keeps_right (keeps_right keeps_owns))))))))))))
    h15 := keeps_left (keeps_left (keeps_left (keeps_left (keeps_whole (c := (c.tc : Thread nD τ)) cc0_scratch0))))
    h16 := keeps_left (keeps_left (keeps_left (keeps_right (keeps_left (keeps_whole (c := (c.tc : Thread nD τ)) cc0_scratch1)))))
    h17 := keeps_left (keeps_left (keeps_left (keeps_right (keeps_right (keeps_left (keeps_whole (c := (c.tc : Thread nD τ)) cc0_scratch2))))))
    h18 := keeps_left (keeps_left (keeps_left (keeps_right (keeps_right (keeps_right (keeps_left (keeps_whole (c := (c.tc : Thread nD τ)) cc0_scratch3)))))))
    h19 := keeps_left (keeps_left (keeps_left (keeps_right (keeps_right (keeps_right (keeps_right (keeps_left (keeps_whole (c := (c.tc : Thread nD τ)) cc0_scratch4))))))))
    h20 := keeps_left (keeps_left (keeps_left (keeps_right (keeps_right (keeps_right (keeps_right (keeps_right (keeps_left (keeps_whole (c := (c.tc : Thread nD τ)) cc0_scratch5)))))))))
    h21 := keeps_left (keeps_left (keeps_left (keeps_right (keeps_right (keeps_right (keeps_right (keeps_right (keeps_right (keeps_whole (c := (c.tc : Thread nD τ)) cc0_scratch6))))))))) }

theorem obligation (𝒱₀ : Variants) (c : Dev nD) :
    (rdat a V c).BodyObligation (defs₀ (F := F)) 𝒱₀ () Set.univ := by
  intro t Y _
  have h : Safe (defs₀ (F := F)) 𝒱₀ (c.tc : Thread nD τ) Set.univ (Inv a V c t)
      ((defs₀ (F := F)) .tc (pin (pcfgs (F := F)) a 0).body
        ((pin (pcfgs (F := F)) a 0).bodyArgs t ((pin (pcfgs (F := F)) a 0).slots t))) :=
    body (held a V c t _ rfl)
  refine Entails.trans ?_ (Entails.trans h (wp_mono _ _ _ fun _ => ?_))
  · exact sep_mono_right (sep_mono_right (bigSep_mono fun w _ => some_of _ (Y w)))
  · exact sep_mono_right (sep_mono_right (bigSep_mono fun w _ => some_true _))

/-- The table's contents at launch. -/
def tbl (m : (ℓ : Loc nD τ sig) → Buf (Elt F) ℓ) : (p : Fin 1) → (pcfgs (F := F) p).Adm :=
  fun _ => ⟨fun k => m (((0 : Dev nD).tc : Thread nD τ).loc (pre0.ref k)), trivial⟩

/-- Every fair run ends, with the eleven arguments as they were at launch and the counters at zero. -/
theorem run_main (m : (ℓ : Loc nD τ sig) → Buf (Elt F) ℓ) (g : Dev nD → PrngReg) :
    θ_run (defs (F := F)) (onTc (τ := τ) (main (F := F))) ⟨m, fun _ => 0, g⟩ fun r =>
      (∀ c : Dev nD, ∀ b ∈ [main_arg0, main_arg1, main_arg2, main_arg3, main_arg4, main_arg5, main_arg6, main_arg7,
        main_arg8, main_arg9, main_arg10],
        r.2.mem ((c.tc : Thread nD τ).loc b) = m ((c.tc : Thread nD τ).loc b)) ∧ r.2.sem = fun _ => 0 := by
  refine RDat.θ_run_frameP (pcfgs (F := F)) (tbl m) 0 launch0 (defs₀ (F := F)) Variants.none
    (rdat (tbl m) fun c b => m ((c.tc : Thread nD τ).loc b)) m g main
    (obligation (tbl m) _ _) ?_ ?_ (fun c b => m ((c.tc : Thread nD τ).loc b))
    (hmainP_region _ 0 _ _ m main fun _ => rfl) ?_ ?_ ?_ _ ?_
  · intro c w
    exact ite_self _
  · intro c t; rfl
  · intro c w; rfl
  · intro c k
    obtain rfl : c = 0 := Subsingleton.elim _ _
    rfl
  · intro c t; rfl
  · rintro r ⟨h, hs⟩
    refine ⟨fun c b hb => ?_, hs⟩
    obtain ⟨hw, hr⟩ := h c
    have arr : ∀ w : Fin 12, (spec0 w).isOut = false →
        r.2.mem ((c.tc : Thread nD τ).loc (arrRef spec0 w)) = m ((c.tc : Thread nD τ).loc (arrRef spec0 w)) :=
      fun w hi => by
        have h := hw w
        exact cast (congrFun (RDat.ArrAt_in (rdat (tbl m) (fun c b => m ((c.tc : Thread nD τ).loc b)) c) w hi _) _) h
    simp only [List.mem_cons, List.not_mem_nil, _root_.or_false] at hb
    rcases hb with rfl | rfl | rfl | rfl | rfl | rfl | rfl | rfl | rfl | rfl | rfl
    · exact hr main_arg0 (mem_restRefs_of (win := spec0) main_arg0 (by decide) (by decide))
    · exact arr 0 (by decide)
    · exact arr 1 (by decide)
    · exact arr 2 (by decide)
    · exact arr 3 (by decide)
    · exact arr 4 (by decide)
    · exact arr 5 (by decide)
    · exact arr 6 (by decide)
    · exact arr 7 (by decide)
    · exact arr 8 (by decide)
    · exact arr 9 (by decide)

theorem frame_ideal : Cert.quiescent_Kernel5Ideal := fun m ρ _ =>
  (θ_run (Cert.Kernel5Ideal.defs (F := Ideal)) _ _).mono (fun r h => ⟨fun c => by
    have k := h.1 c
    simp only [List.forall_mem_cons] at k
    obtain ⟨h0, h1, h2, h3, h4, h5, h6, h7, h8, h9, h10, -⟩ := k
    exact ⟨h0, h1, h2, h3, h4, h5, h6, h7, h8, h9, h10⟩, h.2⟩) (run_main (F := Ideal) m ρ)

set_option maxHeartbeats 4000000 in
/-- The two programs print the same body. -/
theorem same_body : @Cert.Kernel5.cc0_hgrn Bits _ _ = @Cert.Kernel5Ideal.cc0_hgrn Bits _ _ := rfl
set_option maxHeartbeats 8000000 in
/-- So their labels name the same functions. -/
theorem same_labels : Cert.Kernel5.defs₀ (F := Bits) = Cert.Kernel5Ideal.defs₀ := by
  unfold Cert.Kernel5.defs₀ Cert.Kernel5Ideal.defs₀
  rw [same_body]
  refine congrArg Defs.onTc (funext fun b => ?_)
  obtain ⟨n, hn⟩ := b
  cases n with
  | zero =>
    funext x
    obtain ⟨t, s⟩ := x
    rfl
  | succ n => exact absurd hn (Nat.not_lt.2 (Nat.le_add_left _ _))

/-- So they are the same program. -/
theorem same_defs : Cert.Kernel5.defs (F := Bits) = Cert.Kernel5Ideal.defs := by
  unfold Cert.Kernel5.defs Cert.Kernel5Ideal.defs
  rw [same_labels]
  rfl

/-- The kernel as written is the program above at the concrete float types, and so is its run. -/
theorem frame_bits : Cert.quiescent_Kernel5 := fun m ρ _ => by
  rw [same_defs]
  exact (θ_run (Cert.Kernel5Ideal.defs (F := Bits)) _ _).mono (fun r h => ⟨fun c => by
    have k := h.1 c
    simp only [List.forall_mem_cons] at k
    obtain ⟨h0, h1, h2, h3, h4, h5, h6, h7, h8, h9, h10, -⟩ := k
    exact ⟨h0, h1, h2, h3, h4, h5, h6, h7, h8, h9, h10⟩, h.2⟩) (run_main (F := Bits) m ρ)

end Cert.Proof.Hgrn

end
-- ==== Proof.CtxMath.lean ====
/-
  The decay behind a token, over the reals: the kernel sums the logarithms of the forget gates after the token, the
  reference subtracts the token's running sum from the last one.
-/
module

public import proofs.«01_k».proof.Proof.InProjBlock

@[expose] public section

noncomputable section

namespace Cert.Proof.Ctx

open Idealize.ShloMosaic
open Cert.Proof.InProj (lower forget)
open scoped BigOperators

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A lower bound from finite logits is a real number between zero and one. -/
theorem lower_real (a b : ℝ) : ∃ l : ℝ, lower (a : EReal) (b : EReal) = l ∧ 0 < l ∧ l ≤ 1 := by
  have hs : 0 < Real.exp (a - max a b) + Real.exp (b - max a b) := by positivity
  refine ⟨Real.exp (a - max a b) / (Real.exp (a - max a b) + Real.exp (b - max a b)), ?_, by positivity, ?_⟩
  · unfold lower
    have hm : max (a : EReal) (b : EReal) = ((max a b : ℝ) : EReal) := (Monotone.map_max EReal.coe_strictMono.monotone).symm
    rw [hm, ← EReal.coe_sub, ← EReal.coe_sub, Ideal.exp_coe, Ideal.exp_coe, ← EReal.coe_add, Ideal.div_coe hs.ne', ← EReal.coe_mul, mul_one_div]
  · rw [div_le_one hs]
    have := Real.exp_pos (b - max a b)
    linarith

/-- The logistic of anything is a real number that is not negative. -/
theorem logistic_real (z : EReal) : ∃ s : ℝ, Ideal.logistic z = s ∧ 0 ≤ s := by
  induction z using EReal.rec with
  | bot => exact ⟨0, by simp, le_refl _⟩
  | top => exact ⟨1, by simp, zero_le_one⟩
  | coe r => exact ⟨(1 + Real.exp (-r))⁻¹, by simp, by positivity⟩

/-- With finite logits the logarithm of a forget gate is a real number, whatever the gate's argument. -/
theorem log_forget_real (a b : ℝ) (z : EReal) : ∃ y : ℝ, Ideal.log (forget (lower (a : EReal) (b : EReal)) z) = y := by
  obtain ⟨l, hl, h0, h1⟩ := lower_real a b
  obtain ⟨s, hs, hs0⟩ := logistic_real z
  have hp : 0 < l + (1 - l) * s := by
    have := mul_nonneg (sub_nonneg.mpr h1) hs0
    linarith
  refine ⟨Real.log (l + (1 - l) * s), ?_⟩
  unfold forget
  rw [hl, hs, ← EReal.coe_one, ← EReal.coe_sub, ← EReal.coe_mul, ← EReal.coe_add, Ideal.log_coe, if_neg (not_le.mpr hp)]

/-- One where the condition holds and zero elsewhere. -/
def bit (p : Prop) [Decidable p] : EReal := if p then 1 else 0

/-- The kernel's sum over the tokens which the mask keeps, taken in three parts. -/
def tail3 (p : Fin 256 → Prop) [DecidablePred p] (g : Fin 256 → EReal) : EReal :=
  ∑ c, bit (p c) * g c + ∑ c, bit (p c) * (g c - g c) + ∑ c, bit (p c) * ((g c - g c) - (g c - g c))

/-- The sum over the tokens kept. -/
def kept (p : Fin 256 → Prop) [DecidablePred p] (y : Fin 256 → ℝ) : ℝ := ∑ c, if p c then y c else 0

theorem tail3_real (p : Fin 256 → Prop) [DecidablePred p] (y : Fin 256 → ℝ) : tail3 p (fun c => (y c : EReal)) = (kept p y : EReal) := by
  unfold tail3 kept
  have h0 : ∀ c, (y c : EReal) - (y c : EReal) = 0 := fun c => by rw [← EReal.coe_sub, sub_self, EReal.coe_zero]
  have e2 : ∑ c, bit (p c) * ((y c : EReal) - (y c : EReal)) = 0 := Finset.sum_eq_zero fun c _ => by rw [h0, mul_zero]
  have e3 : ∑ c, bit (p c) * (((y c : EReal) - (y c : EReal)) - ((y c : EReal) - (y c : EReal))) = 0 := Finset.sum_eq_zero fun c _ => by rw [h0, sub_zero, mul_zero]
  rw [e2, e3, add_zero, add_zero, coe_sum]
  refine Finset.sum_congr rfl fun c _ => ?_
  unfold bit
  split
  · rw [one_mul]
  · rw [zero_mul, EReal.coe_zero]

/-- The reference's running sum up to token `n`: a window that ends there, the padding counting nothing. -/
def running (g : Fin 256 → EReal) (n : Fin 256) : EReal :=
  ∑ k : Fin 256, if h : 255 ≤ n.val + k.val then g ⟨n.val + k.val - 255, by omega⟩ else 0

theorem running_real (y : Fin 256 → ℝ) (n : Fin 256) : running (fun c => (y c : EReal)) n = (kept (fun c => c.val ≤ n.val) y : EReal) := by
  unfold running kept
  rw [coe_sum]
  have e1 : (∑ k : Fin 256, if h : 255 ≤ n.val + k.val then (y ⟨n.val + k.val - 255, by omega⟩ : EReal) else 0)
      = ∑ k ∈ Finset.univ.filter (fun k : Fin 256 => 255 ≤ n.val + k.val), (if h : n.val + k.val - 255 < 256 then (y ⟨n.val + k.val - 255, h⟩ : EReal) else 0) := by
    rw [Finset.sum_filter]
    refine Finset.sum_congr rfl fun k _ => ?_
    by_cases h : 255 ≤ n.val + k.val
    · rw [dif_pos h, if_pos h, dif_pos (by omega)]
    · rw [dif_neg h, if_neg h]
  have e2 : (∑ c : Fin 256, (((if c.val ≤ n.val then y c else 0 : ℝ)) : EReal)) = ∑ c ∈ Finset.univ.filter (fun c : Fin 256 => c.val ≤ n.val), (y c : EReal) := by
    rw [Finset.sum_filter]
    refine Finset.sum_congr rfl fun c _ => ?_
    split
    · rfl
    · rw [EReal.coe_zero]
  refine e1.trans (Eq.trans ?_ e2.symm)
  refine Finset.sum_bij' (fun k _ => ⟨(n.val + k.val - 255) % 256, Nat.mod_lt _ (by decide)⟩) (fun c _ => ⟨(c.val + 255 - n.val) % 256, Nat.mod_lt _ (by decide)⟩) ?_ ?_ ?_ ?_ ?_
  · intro k hk
    have hk := (Finset.mem_filter.mp hk).2
    refine Finset.mem_filter.mpr ⟨Finset.mem_univ _, ?_⟩
    show (n.val + k.val - 255) % 256 ≤ n.val
    omega
  · intro c hc
    have hc := (Finset.mem_filter.mp hc).2
    refine Finset.mem_filter.mpr ⟨Finset.mem_univ _, ?_⟩
    show 255 ≤ n.val + (c.val + 255 - n.val) % 256
    omega
  · intro k hk
    have hk := (Finset.mem_filter.mp hk).2
    refine Fin.ext ?_
    show ((n.val + k.val - 255) % 256 + 255 - n.val) % 256 = k.val
    omega
  · intro c hc
    have hc := (Finset.mem_filter.mp hc).2
    refine Fin.ext ?_
    show (n.val + (c.val + 255 - n.val) % 256 - 255) % 256 = c.val
    omega
  · intro k hk
    have hk := (Finset.mem_filter.mp hk).2
    have hlt : n.val + k.val - 255 < 256 := by omega
    rw [dif_pos hlt]
    refine congrArg (fun c => (y c : EReal)) (Fin.ext ?_)
    show n.val + k.val - 255 = (n.val + k.val - 255) % 256
    omega

/-- The last running sum less the token's is the sum over the later tokens. -/
theorem running_tail (y : Fin 256 → ℝ) (n : Fin 256) :
    running (fun c => (y c : EReal)) ⟨255, by decide⟩ - running (fun c => (y c : EReal)) n = (kept (fun c => n.val < c.val) y : EReal) := by
  rw [running_real, running_real, ← EReal.coe_sub]
  refine congrArg _ ?_
  unfold kept
  rw [← Finset.sum_sub_distrib]
  refine Finset.sum_congr rfl fun c _ => ?_
  rw [if_pos (show c.val ≤ 255 by omega)]
  by_cases h : n.val < c.val
  · rw [if_pos h, if_neg (by omega), sub_zero]
  · rw [if_neg h, if_pos (by omega), sub_self]

/-- Read from the other end, the sum over the later tokens is that over the earlier ones. -/
theorem kept_rev (y : Fin 256 → ℝ) (n : Fin 256) : kept (fun c => (Fin.rev n).val < c.val) (fun c => y (Fin.rev c)) = kept (fun c => c.val < n.val) y := by
  unfold kept
  refine (Equiv.sum_comp Fin.revPerm (fun c => if (Fin.rev n).val < c.val then y (Fin.rev c) else 0)).symm.trans ?_
  refine Finset.sum_congr rfl fun c _ => ?_
  show (if (Fin.rev n).val < (Fin.rev c).val then y (Fin.rev (Fin.rev c)) else 0) = _
  rw [Fin.rev_rev, Fin.val_rev, Fin.val_rev]
  refine if_congr (by omega) rfl rfl

/-- The running sum taken from the other end. -/
theorem running_tail_rev (y : Fin 256 → ℝ) (n : Fin 256) :
    running (fun c => (y (Fin.rev c) : EReal)) ⟨255, by decide⟩ - running (fun c => (y (Fin.rev c) : EReal)) (Fin.rev n) = (kept (fun c => c.val < n.val) y : EReal) := by
  rw [← kept_rev]
  exact running_tail (fun c => y (Fin.rev c)) (Fin.rev n)

end Cert.Proof.Ctx

end
-- ==== Proof.CtxBlock.lean ====
/-
  The context kernel at one sample: what each of its values is at an index.
-/
module

public import proofs.«01_k».proof.Defs
public import proofs.«01_k».proof.Proof.Gen.Kernel6Ideal
public import proofs.«01_k».proof.Proof.Gen.Kernel6Ideal.Value
public import proofs.«01_k».proof.Proof.CtxMath

@[expose] public section

noncomputable section

namespace Cert.Proof.Ctx

open Idealize.ShloMosaic Idealize.ShloMosaic.TcCoe Idealize.SL.Sem
open Cert.Kernel6Ideal Cert.Kernel6Ideal.Gen
open Cert.Proof.InProj (normed lower forget dotCol)
open scoped BigOperators

theorem pay1_apply (v0 : Vec Ideal S1x256x1024 .f32) (v2 v3 v4 : Vec Ideal S1x1024 .f32) (i : S256x1024.Idx) :
    k0_pay1 v0 v2 v3 v4 i = normed (fun j => v0 (ix3 0 (i 0) j)) (fun j => v4 (ix2 0 j)) (fun j => v2 (ix2 0 j)) (fun j => v3 (ix2 0 j)) (i 1) := by
  unfold k0_pay1 normed
  dsimp only
  pointwise

theorem pay2_apply (v0 : Vec Ideal S1x256x1024 .f32) (v2 v3 v4 : Vec Ideal S1x1024 .f32) (w : Vec Ideal S1024x1024 .bf16) (i : S256x1024.Idx) :
    k0_pay2 v0 v2 v3 v4 w i = dotCol (n := 1024) (k0_pay1 v0 v2 v3 v4) w (i 0) (i 1) := by
  unfold k0_pay2 dotCol
  generalize k0_pay1 v0 v2 v3 v4 = u
  pointwise

theorem pay3_apply (v0 : Vec Ideal S1x256x1024 .f32) (v2 v3 v4 : Vec Ideal S1x1024 .f32) (w : Vec Ideal S1024x1024 .bf16) (i : S256x1024.Idx) :
    k0_pay3 v0 v2 v3 v4 w i = dotCol (n := 1024) (k0_pay1 v0 v2 v3 v4) w (i 0) (i 1) := by
  unfold k0_pay3 dotCol
  generalize k0_pay1 v0 v2 v3 v4 = u
  pointwise

theorem pay4_apply (v0 : Vec Ideal S1x256x1024 .f32) (v2 v3 v4 : Vec Ideal S1x1024 .f32) (w : Vec Ideal S1024x1024 .bf16) (i : S256x1024.Idx) :
    k0_pay4 v0 v2 v3 v4 w i = dotCol (n := 1024) (k0_pay1 v0 v2 v3 v4) w (i 0) (i 1) := by
  unfold k0_pay4 dotCol
  generalize k0_pay1 v0 v2 v3 v4 = u
  pointwise

theorem pay5_apply (z : FVec Ideal S256x1024 .f32) (a b : Vec Ideal S1x1024 .f32) (i : S256x1024.Idx) :
    k0_pay5 z a b i = forget (lower (a (ix2 0 (i 1))) (b (ix2 0 (i 1)))) (z i) := by
  unfold k0_pay5 forget lower
  pointwise

theorem pay6_apply (z : FVec Ideal S256x1024 .f32) (a b : Vec Ideal S1x1024 .f32) (i : S256x1024.Idx) :
    k0_pay6 z a b i = forget (lower (a (ix2 0 (i 1))) (b (ix2 0 (i 1)))) (z i) := by
  unfold k0_pay6 forget lower
  pointwise

theorem later_bit : ∀ r c : Fin 256, IntOp.cmpi .sgt (BitVec.ofNat 32 c.val) (BitVec.ofNat 32 r.val) = if r.val < c.val then 1#1 else 0#1 := by decide +kernel
theorem earlier_bit : ∀ r c : Fin 256, IntOp.cmpi .slt (BitVec.ofNat 32 c.val) (BitVec.ofNat 32 r.val) = if c.val < r.val then 1#1 else 0#1 := by decide +kernel

theorem earlier_select (r c : Fin 256) (z : EReal) : Scalar.select (IntOp.cmpi .slt (BitVec.ofNat 32 c.val) (BitVec.ofNat 32 r.val)) z (0 : EReal) = (if c.val < r.val then 1 else 0) * z := by
  rw [earlier_bit]
  split
  · rw [one_mul]; rfl
  · rw [zero_mul]; rfl

theorem pay7_apply (r c : Fin 256) : k0_pay7 (F := Ideal) (ix2 r c) = bit (r.val < c.val) := by
  unfold k0_pay7 bit
  pointwise
  rw [later_bit]
  split <;> rfl

/-- What a value is worth after the decay behind it. -/
theorem pay13_apply (f : FVec Ideal S256x1024 .f32) (g0 g1 : FVec Ideal S256x1024 .bf16) (g2 : FVec Ideal S256x1024 .f32) (i : S256x1024.Idx) :
    k0_pay13 f (k0_pay7 (F := Ideal)) g0 g1 g2 i = (1 - f i) * Ideal.exp (∑ c, bit ((i 0).val < c.val) * g0 (ix2 c (i 1)) + ∑ c, bit ((i 0).val < c.val) * g1 (ix2 c (i 1))
      + ∑ c, bit ((i 0).val < c.val) * g2 (ix2 c (i 1))) := by
  have h := fun c => pay7_apply (i 0) c
  simp only [← h]
  unfold k0_pay13
  generalize k0_pay7 (F := Ideal) = u
  pointwise

theorem fwd_apply (z : FVec Ideal S256x1024 .f32) (a b : Vec Ideal S1x1024 .f32) (i : S256x1024.Idx) :
    k0_pay13 (k0_pay5 z a b) (k0_pay7 (F := Ideal)) (k0_pay9 z a b) (k0_pay11 z a b) (k0_pay12 z a b) i
      = (1 - k0_pay5 z a b i) * Ideal.exp (tail3 (fun c => (i 0).val < c.val) (fun c => Ideal.log (k0_pay5 z a b (ix2 c (i 1))))) := by
  refine (pay13_apply _ _ _ _ i).trans ?_
  unfold tail3 k0_pay12 k0_pay11 k0_pay10 k0_pay9 k0_pay8
  generalize k0_pay5 z a b = u
  pointwise

theorem bwd_apply (f : FVec Ideal S256x1024 .f32) (i : S256x1024.Idx) :
    k0_pay14 f (iota .tc S256x256 32 [0] iota_S256x256_d0_w32) (iota .tc S256x256 32 [1] iota_S256x256_d1_w32) i
      = (1 - f i) * Ideal.exp (tail3 (fun c => c.val < (i 0).val) (fun c => Ideal.log (f (ix2 c (i 1))))) := by
  unfold k0_pay14 tail3 bit
  pointwise
  simp only [earlier_select (i 0)]

end Cert.Proof.Ctx

end
-- ==== Proof.CtxRef.lean ====
/-
  The states taken from the context as functions of the arguments, and the reference's arrays read as them.
-/
module

public import proofs.«01_k».proof.Defs
public import proofs.«01_k».proof.Proof.Gen.Reference6Ideal
public import proofs.«01_k».proof.Proof.Gen.Reference6Ideal.Read
public import proofs.«01_k».proof.Proof.InProjRef
public import proofs.«01_k».proof.Proof.CtxMath

@[expose] public section

noncomputable section

namespace Cert.Proof.Ctx

open Idealize.ShloMosaic Idealize.ShloMosaic.TcCoe Idealize.SL.Sem
open Cert.Reference6Ideal Cert.Reference6Ideal.Gen Cert.Reference6Ideal.Read
open Cert.Proof.InProj (normed lower forget bound window_first)
open scoped BigOperators

/-- The arguments: the context, the norm's weight, the modulation, the lower bounds' logits and the projection's matrix. -/
structure Args where
  x : S8x256x1024.Idx → EReal
  g : S1024.Idx → EReal
  md : S16x6144.Idx → EReal
  a : S2x2x1024.Idx → EReal
  w : S1024x7680.Idx → EReal

/-- Lane `k` of head `h`. -/
def lane (h : Fin 8) (k : Fin 128) : Fin 1024 := ⟨h.val * 128 + k.val, by omega⟩

/-- A token of the context normed and modulated by the row kept for it. -/
def hid (A : Args) (b : Fin 8) (r : Fin 256) (k : Fin 1024) : EReal :=
  normed (fun j => A.x (ix3 b r j)) (fun j => A.g (ix1 j)) (fun j => A.md (ix2 8 ⟨j.val, by omega⟩)) (fun j => A.md (ix2 8 ⟨1024 + j.val, by omega⟩)) k

/-- Its projection onto column `c`. -/
def zed (A : Args) (b : Fin 8) (r : Fin 256) (c : Fin 7680) : EReal := ∑ k, hid A b r k * A.w (ix2 k c)

/-- The forget gate of direction `d`. -/
def gate (A : Args) (d : Fin 2) (b : Fin 8) (r : Fin 256) (j : Fin 1024) : EReal :=
  forget (bound A.a d j) (zed A b r ⟨2048 + 1024 * d.val + j.val, by omega⟩)

/-- A direction's state: the tokens' outer products, each decayed by what stands behind its token. -/
def state (A : Args) (d : Fin 2) (p : Fin 256 → Fin 256 → Prop) [∀ r, DecidablePred (p r)] (i : S8x8x128x128.Idx) : EReal :=
  ∑ r : Fin 256, (1 - gate A d (i 0) r (lane (i 1) (i 2))) * Ideal.exp (tail3 (p r) (fun c => Ideal.log (gate A d (i 0) c (lane (i 1) (i 2)))))
    * zed A (i 0) r ⟨1024 + (lane (i 1) (i 3)).val, by omega⟩

abbrev later (r c : Fin 256) : Prop := r.val < c.val
abbrev earlier (r c : Fin 256) : Prop := c.val < r.val

theorem ref11 (a : S2x2x1024.Idx → EReal) (d : Fin 2) (j : Fin 1024) : val_main_v11 (F := Ideal) a (ix3 d 0 j) = bound a d j := by
  unfold val_main_v11
  refine (window_first _ _ (fun i => ?_) _ _ d j).trans ?_
  · unfold val_main_call0_call0_v0 val_main_call0_call0_cst
    pointwise
  · unfold val_main_v10 val_main_v9 val_main_v8 val_main_v7 val_main_cst_1 val_main_v6 val_main_v5 val_main_v4 val_main_v3 val_main_v2 val_main_v1 val_main_cst_0 val_main_v0 val_main_cst
    pointwise
    rw [show (Finset.univ : Finset (Fin 2)) = {0, 1} from rfl, Finset.fold_insert (by decide), Finset.fold_singleton, Finset.sum_insert (by decide), Finset.sum_singleton]
    have hb : Ideal.ofBits FTy.f32 0xFF800000#32 = ⊥ := by simp [Ideal.ofBits, Ideal.ieee]
    rw [hb, max_eq_right bot_le, max_eq_left (bot_le : ⊥ ≤ a (ix3 d 1 j))]
    rfl

theorem ref40 (A : Args) (i : S8x256x1024.Idx) : val_main_v40 (F := Ideal) A.x A.g A.md i = hid A (i 0) (i 1) (i 2) := by
  unfold val_main_v40 val_main_v39 val_main_v38 val_main_v37 val_main_v36 val_main_v35 val_main_v34 val_main_v33 val_main_cst_5 val_main_v32 val_main_v31 val_main_v30 val_main_v29 val_main_v28 val_main_v27 val_main_v26 val_main_v25 val_main_cst_4 val_main_v24 val_main_v23 val_main_cst_3 val_main_v22 val_main_v21 val_main_cst_2 val_main_v20 val_main_v15 val_main_v14 val_main_v13 val_main_v12 hid normed
  pointwise

theorem ref42 (A : Args) (i : S8x256x3072.Idx) : val_main_v42 (F := Ideal) A.x A.g A.md A.w i = zed A (i 0) (i 1) ⟨1024 + (i 2).val, by have h : (i 2).val < 3072 := (i 2).isLt; omega⟩ := by
  unfold zed
  refine Eq.trans ?_ (Finset.sum_congr rfl fun k _ => congrArg (· * _) (ref40 A (ix3 (i 0) (i 1) k)))
  unfold val_main_v42 val_main_v41
  generalize val_main_v40 (F := Ideal) A.x A.g A.md = u
  pointwise

theorem ref45 (A : Args) (b : Fin 8) (r : Fin 256) (h : Fin 8) (k : Fin 128) : val_main_v45 (F := Ideal) A.x A.g A.md A.w (ix4 b r h k) = zed A b r ⟨1024 + (lane h k).val, by omega⟩ := by
  refine Eq.trans ?_ (ref42 A (ix3 b r ⟨(lane h k).val, by omega⟩))
  unfold val_main_v45 val_main_v44 lane
  generalize val_main_v42 (F := Ideal) A.x A.g A.md A.w = u
  pointwise

theorem ref62 (A : Args) (i : S8x256x1024.Idx) : val_main_v62 (F := Ideal) A.x A.g A.md A.a A.w i = gate A 0 (i 0) (i 1) (i 2) := by
  refine Eq.trans ?_ (congrArg (fun z => forget (bound A.a 0 (i 2)) z) ((ref42 A (ix3 (i 0) (i 1) ⟨1024 + (i 2).val, by have h : (i 2).val < 1024 := (i 2).isLt; omega⟩)).trans
    (congrArg (zed A (i 0) (i 1)) (Fin.ext (show 1024 + (1024 + (i 2).val) = 2048 + 1024 * 0 + (i 2).val by omega)))))
  refine Eq.trans ?_ (congrArg (fun l => forget l _) (ref11 A.a 0 (i 2)))
  unfold val_main_v62 val_main_v61 val_main_v60 val_main_v59 val_main_v58 val_main_v57 val_main_v56 val_main_v55 val_main_cst_9 val_main_v54 val_main_v53 val_main_cst_8 val_main_v52 val_main_v51 val_main_v50 val_main_v49 val_main_cst_7 val_main_v48 val_main_v47 val_main_v46 forget
  generalize val_main_v42 (F := Ideal) A.x A.g A.md A.w = u
  generalize val_main_v11 (F := Ideal) A.a = l
  pointwise
  rfl

theorem ref84 (A : Args) (i : S8x256x1024.Idx) : val_main_v84 (F := Ideal) A.x A.g A.md A.a A.w i = gate A 1 (i 0) (i 1) (i 2) := by
  refine Eq.trans ?_ (congrArg (fun z => forget (bound A.a 1 (i 2)) z) ((ref42 A (ix3 (i 0) (i 1) ⟨2048 + (i 2).val, by have h : (i 2).val < 1024 := (i 2).isLt; omega⟩)).trans
    (congrArg (zed A (i 0) (i 1)) (Fin.ext (show 1024 + (2048 + (i 2).val) = 2048 + 1024 * 1 + (i 2).val by omega)))))
  refine Eq.trans ?_ (congrArg (fun l => forget l _) (ref11 A.a 1 (i 2)))
  unfold val_main_v84 val_main_v83 val_main_v82 val_main_v81 val_main_v80 val_main_v79 val_main_v78 val_main_v77 val_main_cst_13 val_main_v76 val_main_v75 val_main_cst_12 val_main_v74 val_main_v73 val_main_v72 val_main_v71 val_main_cst_11 val_main_v70 val_main_v69 val_main_v68 forget
  generalize val_main_v42 (F := Ideal) A.x A.g A.md A.w = u
  generalize val_main_v11 (F := Ideal) A.a = l
  pointwise
  rfl

theorem foldl_sum {n : Nat} (t : Fin n → EReal) (L : List (Fin n)) : ∀ s : EReal, L.foldl (fun s k => s + t k) s = s + (L.map t).sum := by
  induction L with
  | nil => intro s; simp
  | cons a L ih => intro s; rw [List.foldl_cons, ih, List.map_cons, List.sum_cons, add_assoc]

theorem fold_sum {n : Nat} (t : Fin n → EReal) : (List.finRange n).foldl (fun s k => s + t k) 0 = ∑ k, t k := by
  rw [foldl_sum, zero_add, ← List.ofFn_eq_map, List.sum_ofFn]

/-- The reference's running sum over the tokens. -/
theorem window_running (x : S8x256x8x128.Idx → EReal) (z : S_.Idx → EReal) (hz : ∀ i, z i = 0)
    (h : S8x256x8x128.ReduceWindows ![1, 256, 1, 1] ![1, 1, 1, 1] ![0, 255, 0, 0] ![0, 0, 0, 0] S8x256x8x128) (hu : 0 < S_.numel) (b : Fin 8) (n : Fin 256) (e : Fin 8) (j : Fin 128) :
    Host.reduceWindowAdd (F := Ideal) (φ := .f32) ![1, 256, 1, 1] ![1, 1, 1, 1] ![0, 255, 0, 0] ![0, 0, 0, 0] x z h hu (ix4 b n e j) = running (fun c => x (ix4 b c e j)) n := by
  show Ideal.hostReduceWindowAdd _ _ _ _ h x (z (Shape.Idx.first hu)) (ix4 b n e j) = _
  unfold Ideal.hostReduceWindowAdd Host.reduceWindow
  dsimp only
  rw [hz]
  refine (fold_sum _).trans ?_
  unfold running
  have h0 : ∀ k : Fin 256, ((⟨4, ![1, 256, 1, 1]⟩ : Shape).rowMajor.symm k 0).val = 0 := by decide +kernel
  have h1 : ∀ k : Fin 256, ((⟨4, ![1, 256, 1, 1]⟩ : Shape).rowMajor.symm k 1).val = k.val := by decide +kernel
  have h2 : ∀ k : Fin 256, ((⟨4, ![1, 256, 1, 1]⟩ : Shape).rowMajor.symm k 2).val = 0 := by decide +kernel
  have h3 : ∀ k : Fin 256, ((⟨4, ![1, 256, 1, 1]⟩ : Shape).rowMajor.symm k 3).val = 0 := by decide +kernel
  refine Finset.sum_congr rfl fun (k : Fin 256) _ => ?_
  have hb := b.isLt
  have he := e.isLt
  have hj := j.isLt
  have hn := n.isLt
  have hk := k.isLt
  by_cases hc : 255 ≤ n.val + k.val
  · rw [dif_pos hc, dif_pos]
    · refine congrArg x (funext fun a => Fin.ext ?_)
      match a with
      | ⟨0, _⟩ => refine (congrArg (fun q => b.val * 1 + q - 0) (h0 k)).trans ?_; show b.val * 1 + 0 - 0 = b.val; omega
      | ⟨1, _⟩ => refine (congrArg (fun q => n.val * 1 + q - 255) (h1 k)).trans ?_; show n.val * 1 + k.val - 255 = n.val + k.val - 255; omega
      | ⟨2, _⟩ => refine (congrArg (fun q => e.val * 1 + q - 0) (h2 k)).trans ?_; show e.val * 1 + 0 - 0 = e.val; omega
      | ⟨3, _⟩ => refine (congrArg (fun q => j.val * 1 + q - 0) (h3 k)).trans ?_; show j.val * 1 + 0 - 0 = j.val; omega
    · intro a
      match a with
      | ⟨0, _⟩ =>
        show 0 ≤ b.val * 1 + ((⟨4, ![1, 256, 1, 1]⟩ : Shape).rowMajor.symm k 0).val ∧ b.val * 1 + ((⟨4, ![1, 256, 1, 1]⟩ : Shape).rowMajor.symm k 0).val - 0 < 8
        rw [h0]; omega
      | ⟨1, _⟩ =>
        show 255 ≤ n.val * 1 + ((⟨4, ![1, 256, 1, 1]⟩ : Shape).rowMajor.symm k 1).val ∧ n.val * 1 + ((⟨4, ![1, 256, 1, 1]⟩ : Shape).rowMajor.symm k 1).val - 255 < 256
        rw [h1]; omega
      | ⟨2, _⟩ =>
        show 0 ≤ e.val * 1 + ((⟨4, ![1, 256, 1, 1]⟩ : Shape).rowMajor.symm k 2).val ∧ e.val * 1 + ((⟨4, ![1, 256, 1, 1]⟩ : Shape).rowMajor.symm k 2).val - 0 < 8
        rw [h2]; omega
      | ⟨3, _⟩ =>
        show 0 ≤ j.val * 1 + ((⟨4, ![1, 256, 1, 1]⟩ : Shape).rowMajor.symm k 3).val ∧ j.val * 1 + ((⟨4, ![1, 256, 1, 1]⟩ : Shape).rowMajor.symm k 3).val - 0 < 128
        rw [h3]; omega
  · rw [dif_neg hc, dif_neg]
    intro hq
    have hq1 : 255 ≤ n.val * 1 + ((⟨4, ![1, 256, 1, 1]⟩ : Shape).rowMajor.symm k 1).val := (hq 1).1
    rw [h1] at hq1
    omega

theorem ref67 (A : Args) (b : Fin 8) (r : Fin 256) (h : Fin 8) (k : Fin 128) : val_main_v67 (F := Ideal) A.x A.g A.md A.a A.w (ix4 b r h k) = Ideal.log (gate A 0 b r (lane h k)) := by
  refine Eq.trans ?_ (congrArg Ideal.log (ref62 A (ix3 b r (lane h k))))
  unfold val_main_v67 val_main_v65 lane
  generalize val_main_v62 (F := Ideal) A.x A.g A.md A.a A.w = u
  pointwise

theorem ref66 (A : Args) (b : Fin 8) (r : Fin 256) (h : Fin 8) (k : Fin 128) : val_main_v66 (F := Ideal) A.x A.g A.md A.a A.w (ix4 b r h k) = 1 - gate A 0 b r (lane h k) := by
  refine Eq.trans ?_ (congrArg (fun f => 1 - f) (ref62 A (ix3 b r (lane h k))))
  unfold val_main_v66 val_main_v64 val_main_v63 val_main_cst_10 lane
  generalize val_main_v62 (F := Ideal) A.x A.g A.md A.a A.w = u
  pointwise

theorem ref106 (A : Args) (b : Fin 8) (r : Fin 256) (h : Fin 8) (k : Fin 128) : val_main_v106 (F := Ideal) A.x A.g A.md A.a A.w (ix4 b r h k) = Ideal.log (gate A 1 b (Fin.rev r) (lane h k)) := by
  refine Eq.trans ?_ (congrArg Ideal.log (ref84 A (ix3 b (Fin.rev r) (lane h k))))
  unfold val_main_v106 val_main_v89 val_main_v87 lane
  generalize val_main_v84 (F := Ideal) A.x A.g A.md A.a A.w = u
  pointwise
  rfl

theorem ref104 (A : Args) (b : Fin 8) (r : Fin 256) (h : Fin 8) (k : Fin 128) : val_main_v104 (F := Ideal) A.x A.g A.md A.a A.w (ix4 b r h k) = 1 - gate A 1 b (Fin.rev r) (lane h k) := by
  refine Eq.trans ?_ (congrArg (fun f => 1 - f) (ref84 A (ix3 b (Fin.rev r) (lane h k))))
  unfold val_main_v104 val_main_v88 val_main_v86 val_main_v85 val_main_cst_14 lane
  generalize val_main_v84 (F := Ideal) A.x A.g A.md A.a A.w = u
  pointwise
  rfl

theorem ref105 (A : Args) (b : Fin 8) (r : Fin 256) (h : Fin 8) (k : Fin 128) : val_main_v105 (F := Ideal) A.x A.g A.md A.w (ix4 b r h k) = zed A b (Fin.rev r) ⟨1024 + (lane h k).val, by omega⟩ := by
  refine Eq.trans ?_ (ref45 A b (Fin.rev r) h k)
  unfold val_main_v105
  generalize val_main_v45 (F := Ideal) A.x A.g A.md A.w = u
  pointwise
  rfl

theorem ref90 (A : Args) (b : Fin 8) (r : Fin 256) (h : Fin 8) (k : Fin 128) : val_main_v90 (F := Ideal) A.x A.g A.md A.a A.w (ix4 b r h k)
    = running (fun c => Ideal.log (gate A 0 b c (lane h k))) r := by
  unfold val_main_v90
  refine (window_running _ _ (fun i => ?_) _ _ b r h k).trans (congrArg (fun g => running g r) (funext fun c => ref67 A b c h k))
  unfold val_main_call1_call0_v0 val_main_call1_call0_cst
  pointwise

theorem ref107 (A : Args) (b : Fin 8) (r : Fin 256) (h : Fin 8) (k : Fin 128) : val_main_v107 (F := Ideal) A.x A.g A.md A.a A.w (ix4 b r h k)
    = running (fun c => Ideal.log (gate A 1 b (Fin.rev c) (lane h k))) r := by
  unfold val_main_v107
  refine (window_running _ _ (fun i => ?_) _ _ b r h k).trans (congrArg (fun g => running g r) (funext fun c => ref106 A b c h k))
  unfold val_main_call2_call0_v0 val_main_call2_call0_cst
  pointwise

theorem ref103_apply (A : Args) (i : S8x8x128x128.Idx) : val_main_v103 (F := Ideal) A.x A.g A.md A.a A.w i
    = ∑ r : Fin 256, val_main_v66 (F := Ideal) A.x A.g A.md A.a A.w (ix4 (i 0) r (i 1) (i 2))
        * Ideal.exp (val_main_v90 (F := Ideal) A.x A.g A.md A.a A.w (ix4 (i 0) ⟨255, by decide⟩ (i 1) (i 2)) - val_main_v90 (F := Ideal) A.x A.g A.md A.a A.w (ix4 (i 0) r (i 1) (i 2)))
        * val_main_v45 (F := Ideal) A.x A.g A.md A.w (ix4 (i 0) r (i 1) (i 3)) := by
  unfold val_main_v103 val_main_v102 val_main_v101 val_main_v100 val_main_v99 val_main_v98 val_main_v97 val_main_v96 val_main_v95 val_main_v94 val_main_v93 val_main_v92 val_main_v91 val_main_v43 val_main_cst_6
  generalize val_main_v90 (F := Ideal) A.x A.g A.md A.a A.w = s
  generalize val_main_v66 (F := Ideal) A.x A.g A.md A.a A.w = f
  generalize val_main_v45 (F := Ideal) A.x A.g A.md A.w = v
  pointwise
  rw [mul_zero, zero_add]

theorem ref120_apply (A : Args) (i : S8x8x128x128.Idx) : val_main_v120 (F := Ideal) A.x A.g A.md A.a A.w i
    = ∑ r : Fin 256, val_main_v104 (F := Ideal) A.x A.g A.md A.a A.w (ix4 (i 0) r (i 1) (i 2))
        * Ideal.exp (val_main_v107 (F := Ideal) A.x A.g A.md A.a A.w (ix4 (i 0) ⟨255, by decide⟩ (i 1) (i 2)) - val_main_v107 (F := Ideal) A.x A.g A.md A.a A.w (ix4 (i 0) r (i 1) (i 2)))
        * val_main_v105 (F := Ideal) A.x A.g A.md A.w (ix4 (i 0) r (i 1) (i 3)) := by
  unfold val_main_v120 val_main_v119 val_main_v118 val_main_v117 val_main_v116 val_main_v115 val_main_v114 val_main_v113 val_main_v112 val_main_v111 val_main_v110 val_main_v109 val_main_v108 val_main_v43 val_main_cst_6
  generalize val_main_v107 (F := Ideal) A.x A.g A.md A.a A.w = s
  generalize val_main_v104 (F := Ideal) A.x A.g A.md A.a A.w = f
  generalize val_main_v105 (F := Ideal) A.x A.g A.md A.w = v
  pointwise
  rw [mul_zero, zero_add]

/-- With finite logits the logarithms of the gates are real numbers. -/
theorem log_gate (A : Args) (hA : ∀ i, ∃ y : ℝ, A.a i = y) (d : Fin 2) (b : Fin 8) (j : Fin 1024) : ∃ y : Fin 256 → ℝ, ∀ r, Ideal.log (gate A d b r j) = y r := by
  obtain ⟨u, hu⟩ := hA (ix3 d 0 j)
  obtain ⟨v, hv⟩ := hA (ix3 d 1 j)
  have h : ∀ r, ∃ y : ℝ, Ideal.log (gate A d b r j) = y := fun r => by
    unfold gate bound
    rw [hu, hv]
    exact log_forget_real u v _
  choose y hy using h
  exact ⟨y, hy⟩

theorem ref103 (A : Args) (hA : ∀ i, ∃ y : ℝ, A.a i = y) : val_main_v103 (F := Ideal) A.x A.g A.md A.a A.w = state A 0 later := by
  funext i
  refine (ref103_apply A i).trans ?_
  unfold state
  refine Finset.sum_congr rfl fun r _ => ?_
  obtain ⟨y, hy⟩ := log_gate A hA 0 (i 0) (lane (i 1) (i 2))
  refine congrArg₂ (· * ·) (congrArg₂ (· * ·) (ref66 A (i 0) r (i 1) (i 2)) (congrArg Ideal.exp ((congrArg₂ (· - ·) (ref90 A (i 0) _ (i 1) (i 2)) (ref90 A (i 0) r (i 1) (i 2))).trans ?_)))
    (ref45 A (i 0) r (i 1) (i 3))
  rw [funext hy]
  exact (running_tail y r).trans (tail3_real _ y).symm

theorem ref120 (A : Args) (hA : ∀ i, ∃ y : ℝ, A.a i = y) : val_main_v120 (F := Ideal) A.x A.g A.md A.a A.w = state A 1 earlier := by
  funext i
  refine (ref120_apply A i).trans ?_
  unfold state
  refine (Equiv.sum_comp Fin.revPerm _).symm.trans (Finset.sum_congr rfl fun r _ => ?_)
  obtain ⟨y, hy⟩ := log_gate A hA 1 (i 0) (lane (i 1) (i 2))
  show val_main_v104 (F := Ideal) A.x A.g A.md A.a A.w (ix4 (i 0) (Fin.rev r) (i 1) (i 2))
    * Ideal.exp (val_main_v107 (F := Ideal) A.x A.g A.md A.a A.w (ix4 (i 0) ⟨255, by decide⟩ (i 1) (i 2)) - val_main_v107 (F := Ideal) A.x A.g A.md A.a A.w (ix4 (i 0) (Fin.rev r) (i 1) (i 2)))
    * val_main_v105 (F := Ideal) A.x A.g A.md A.w (ix4 (i 0) (Fin.rev r) (i 1) (i 3)) = _
  refine congrArg₂ (· * ·) (congrArg₂ (· * ·) ((ref104 A (i 0) (Fin.rev r) (i 1) (i 2)).trans ?_)
      (congrArg Ideal.exp ((congrArg₂ (· - ·) (ref107 A (i 0) _ (i 1) (i 2)) (ref107 A (i 0) (Fin.rev r) (i 1) (i 2))).trans ?_)))
    ((ref105 A (i 0) (Fin.rev r) (i 1) (i 3)).trans ?_)
  · rw [Fin.rev_rev]
  · rw [funext hy, funext fun c => hy (Fin.rev c)]
    exact (running_tail_rev y r).trans (tail3_real _ y).symm
  · rw [Fin.rev_rev]

end Cert.Proof.Ctx

end
-- ==== Proof.CtxHeads.lean ====
/-
  The heads' products of the context kernel.
-/
module

public import proofs.«01_k».proof.Proof.CtxBlock
public import proofs.«01_k».proof.Proof.CtxRef

@[expose] public section

noncomputable section

namespace Cert.Proof.Ctx

open Idealize.ShloMosaic Idealize.ShloMosaic.TcCoe Idealize.SL.Sem
open Cert.Kernel6Ideal Cert.Kernel6Ideal.Gen
open scoped BigOperators

/-- A head's product: over the tokens, a lane of the keys times a lane of the values. -/
def headSum (u v : S256x1024.Idx → EReal) (h : Fin 8) (k d : Fin 128) : EReal := ∑ r : Fin 256, u (ix2 r (lane h k)) * v (ix2 r (lane h d))

theorem pay15_apply (v : FVec Ideal S256x1024 .bf16) (f : FVec Ideal S256x1024 .f32) (p : FVec Ideal S256x256 .bf16) (a b : FVec Ideal S256x1024 .bf16) (e : FVec Ideal S256x1024 .f32) (i : S1x1x128x128.Idx) :
    k0_pay15 v f p a b e i = headSum (k0_pay13 f p a b e) v 0 (i 2) (i 3) := by
  unfold k0_pay15 headSum lane
  generalize k0_pay13 f p a b e = u
  pointwise

theorem pay17_apply (v : FVec Ideal S256x1024 .bf16) (f : FVec Ideal S256x1024 .f32) (p q : IVec S256x256 32) (i : S1x1x128x128.Idx) :
    k0_pay17 (k0_pay16 v f p q) i = headSum (k0_pay14 f p q) v 0 (i 2) (i 3) := by
  unfold k0_pay17 k0_pay16 headSum lane
  generalize k0_pay14 f p q = u
  pointwise

theorem pay18_apply (v u : FVec Ideal S256x1024 .bf16) (i : S1x1x128x128.Idx) : k0_pay18 v u i = headSum u v 1 (i 2) (i 3) := by
  unfold k0_pay18 headSum lane
  pointwise

theorem pay19_apply (v u : FVec Ideal S256x1024 .bf16) (i : S1x1x128x128.Idx) : k0_pay19 v u i = headSum u v 1 (i 2) (i 3) := by
  unfold k0_pay19 headSum lane
  pointwise

theorem pay20_apply (v u : FVec Ideal S256x1024 .bf16) (i : S1x1x128x128.Idx) : k0_pay20 v u i = headSum u v 2 (i 2) (i 3) := by
  unfold k0_pay20 headSum lane
  pointwise

theorem pay21_apply (v u : FVec Ideal S256x1024 .bf16) (i : S1x1x128x128.Idx) : k0_pay21 v u i = headSum u v 2 (i 2) (i 3) := by
  unfold k0_pay21 headSum lane
  pointwise

theorem pay23_apply (v u : FVec Ideal S256x1024 .bf16) (i : S1x1x128x128.Idx) : k0_pay23 (k0_pay22 v u) i = headSum u v 3 (i 2) (i 3) := by
  unfold k0_pay23 k0_pay22 headSum lane
  pointwise

theorem pay24_apply (v u : FVec Ideal S256x1024 .bf16) (i : S1x1x128x128.Idx) : k0_pay24 v u i = headSum u v 3 (i 2) (i 3) := by
  unfold k0_pay24 headSum lane
  pointwise

theorem pay25_apply (v u : FVec Ideal S256x1024 .bf16) (i : S1x1x128x128.Idx) : k0_pay25 v u i = headSum u v 4 (i 2) (i 3) := by
  unfold k0_pay25 headSum lane
  pointwise

theorem pay26_apply (v u : FVec Ideal S256x1024 .bf16) (i : S1x1x128x128.Idx) : k0_pay26 v u i = headSum u v 4 (i 2) (i 3) := by
  unfold k0_pay26 headSum lane
  pointwise

theorem pay27_apply (v u : FVec Ideal S256x1024 .bf16) (i : S1x1x128x128.Idx) : k0_pay27 v u i = headSum u v 5 (i 2) (i 3) := by
  unfold k0_pay27 headSum lane
  pointwise

theorem pay29_apply (v u : FVec Ideal S256x1024 .bf16) (i : S1x1x128x128.Idx) : k0_pay29 (k0_pay28 v u) i = headSum u v 5 (i 2) (i 3) := by
  unfold k0_pay29 k0_pay28 headSum lane
  pointwise

theorem pay30_apply (v u : FVec Ideal S256x1024 .bf16) (i : S1x1x128x128.Idx) : k0_pay30 v u i = headSum u v 6 (i 2) (i 3) := by
  unfold k0_pay30 headSum lane
  pointwise

theorem pay31_apply (v u : FVec Ideal S256x1024 .bf16) (i : S1x1x128x128.Idx) : k0_pay31 v u i = headSum u v 6 (i 2) (i 3) := by
  unfold k0_pay31 headSum lane
  pointwise

theorem pay32_apply (v u : FVec Ideal S256x1024 .bf16) (i : S1x1x128x128.Idx) : k0_pay32 v u i = headSum u v 7 (i 2) (i 3) := by
  unfold k0_pay32 headSum lane
  pointwise

theorem pay33_apply (v u : FVec Ideal S256x1024 .bf16) (i : S1x1x128x128.Idx) : k0_pay33 v u i = headSum u v 7 (i 2) (i 3) := by
  unfold k0_pay33 headSum lane
  pointwise

end Cert.Proof.Ctx

end
-- ==== Proof.CtxValue.lean ====
/-
  The context kernel over its whole grid: both arrays it leaves are the layer's functions of the arguments.
-/
module

public import proofs.«01_k».proof.Proof.CtxHeads

@[expose] public section

noncomputable section

namespace Cert.Proof.Ctx

open Idealize.ShloMosaic Idealize.ShloMosaic.TcCoe Idealize.SL.Sem
open Cert.Kernel6Ideal Cert.Kernel6Ideal.Gen
open Cert.Proof.InProj (normed lower forget dotCol bound)
open scoped BigOperators

variable (m : (ℓ : Loc nD τ sig) → Buf (Elt Ideal) ℓ)

theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 1] := (by decide +kernel : ∀ t : Fin grid0.N, _)
theorem index5 : ∀ t : Fin cfg0.N, win0_5.index t = ![0, 2] := (by decide +kernel : ∀ t : Fin grid0.N, _)
theorem index6 : ∀ t : Fin cfg0.N, win0_6.index t = ![0, 3] := (by decide +kernel : ∀ t : Fin grid0.N, _)
theorem index7 : ∀ t : Fin cfg0.N, win0_7.index t = ![t.val, 0, 0, 0] := (by decide +kernel : ∀ t : Fin grid0.N, _)
theorem index8 : ∀ t : Fin cfg0.N, win0_8.index t = ![t.val, 0, 0, 0] := (by decide +kernel : ∀ t : Fin grid0.N, _)

/-- The arguments of the kernel in its memory. -/
def argsAt (c : Dev nD) : Args where
  x := m ((c : Thread nD τ).loc main_arg0)
  g := m ((c : Thread nD τ).loc main_arg1)
  md := m ((c : Thread nD τ).loc main_arg2)
  a := m ((c : Thread nD τ).loc main_arg3)
  w := m ((c : Thread nD τ).loc main_arg4)

/-- The sample of a point. -/
def sam (t : Fin cfg0.N) : Fin 8 := ⟨t.val, lt_of_lt_of_eq t.isLt (show cfg0.N = 8 from N_0)⟩

theorem blk0 (c : Dev nD) (t : Fin cfg0.N) (r : Fin 256) (k : Fin 1024) : iblk m c 0 t (ix3 0 r k) = (argsAt m c).x (ix3 (sam t) r k) := by
  unfold argsAt
  blk_ext! [iblk, V, index0 t]
  rfl
theorem blk1 (c : Dev nD) (t : Fin cfg0.N) (k : Fin 1024) : iblk m c 1 t (ix2 0 k) = (argsAt m c).g (ix1 k) := by
  unfold argsAt
  blk_ext! [iblk, V, index1 t]
theorem blk2 (c : Dev nD) (t : Fin cfg0.N) (r : Fin 16) (k : Fin 6144) : iblk m c 2 t (ix2 r k) = (argsAt m c).md (ix2 r k) := by
  unfold argsAt
  blk_ext! [iblk, V, index2 t]
theorem blk3 (c : Dev nD) (t : Fin cfg0.N) (r : Fin 4) (k : Fin 1024) : iblk m c 3 t (ix2 r k) = (argsAt m c).a (ix3 ⟨r.val / 2, by omega⟩ ⟨r.val % 2, by omega⟩ k) := by
  unfold argsAt
  blk_ext! [iblk, V, index3 t]

theorem blk4 (c : Dev nD) (t : Fin cfg0.N) (k j : Fin 1024) : X0_4 m c t (ix2 k j : S1024x1024.Idx) = (argsAt m c).w (ix2 k ⟨1024 + j.val, by omega⟩) := by
  unfold X0_4 Pipeline.Window.fill argsAt
  rw [dif_pos (moved0_4 t _)]
  blk_ext! [iblk, V, index4 t]
theorem blk5 (c : Dev nD) (t : Fin cfg0.N) (k j : Fin 1024) : X0_5 m c t (ix2 k j : S1024x1024.Idx) = (argsAt m c).w (ix2 k ⟨2048 + j.val, by omega⟩) := by
  unfold X0_5 Pipeline.Window.fill argsAt
  rw [dif_pos (moved0_5 t _)]
  blk_ext! [iblk, V, index5 t]
theorem blk6 (c : Dev nD) (t : Fin cfg0.N) (k j : Fin 1024) : X0_6 m c t (ix2 k j : S1024x1024.Idx) = (argsAt m c).w (ix2 k ⟨3072 + j.val, by omega⟩) := by
  unfold X0_6 Pipeline.Window.fill argsAt
  rw [dif_pos (moved0_6 t _)]
  blk_ext! [iblk, V, index6 t]

end Cert.Proof.Ctx

end
-- ==== Proof.CtxOut.lean ====
/-
  What a point of the context kernel leaves, and the arrays after its whole grid.
-/
module

public import proofs.«01_k».proof.Proof.CtxValue

@[expose] public section

noncomputable section

namespace Cert.Proof.Ctx

open Idealize.ShloMosaic Idealize.ShloMosaic.TcCoe Idealize.SL.Sem
open Cert.Kernel6Ideal Cert.Kernel6Ideal.Gen
open Cert.Proof.InProj (normed lower forget dotCol bound)
open scoped BigOperators

variable (m : (ℓ : Loc nD τ sig) → Buf (Elt Ideal) ℓ)

/-- The rows that a point reads: the context's shift and scale, and the four of the logits. -/
abbrev shift (c : Dev nD) (t : Fin cfg0.N) : Vec Ideal S1x1024 .f32 := View.ld (iblk m c 2 t) (Rect.unit (s := S16x6144) ![8, 0] S1x1024.size inb_S16x6144_S1x1024_8_0)
abbrev scale (c : Dev nD) (t : Fin cfg0.N) : Vec Ideal S1x1024 .f32 := View.ld (iblk m c 2 t) (Rect.unit (s := S16x6144) ![8, 1024] S1x1024.size inb_S16x6144_S1x1024_8_1024)
abbrev logit0 (c : Dev nD) (t : Fin cfg0.N) : Vec Ideal S1x1024 .f32 := View.ld (iblk m c 3 t) (Rect.unit (s := S4x1024) ![0, 0] S1x1024.size inb_S4x1024_S1x1024_0_0)
abbrev logit1 (c : Dev nD) (t : Fin cfg0.N) : Vec Ideal S1x1024 .f32 := View.ld (iblk m c 3 t) (Rect.unit (s := S4x1024) ![1, 0] S1x1024.size inb_S4x1024_S1x1024_1_0)
abbrev logit2 (c : Dev nD) (t : Fin cfg0.N) : Vec Ideal S1x1024 .f32 := View.ld (iblk m c 3 t) (Rect.unit (s := S4x1024) ![2, 0] S1x1024.size inb_S4x1024_S1x1024_2_0)
abbrev logit3 (c : Dev nD) (t : Fin cfg0.N) : Vec Ideal S1x1024 .f32 := View.ld (iblk m c 3 t) (Rect.unit (s := S4x1024) ![3, 0] S1x1024.size inb_S4x1024_S1x1024_3_0)

theorem shift_eq (c : Dev nD) (t : Fin cfg0.N) (k : Fin 1024) : shift m c t (ix2 0 k) = (argsAt m c).md (ix2 8 ⟨k.val, by omega⟩) := by
  rw [← blk2 m c t 8 ⟨k.val, by omega⟩]
  refine congrArg (iblk m c 2 t) (funext fun a => Fin.ext ?_)
  match a with
  | ⟨0, _⟩ => rfl
  | ⟨1, _⟩ => show 0 + 1 * k.val = _; simp
theorem scale_eq (c : Dev nD) (t : Fin cfg0.N) (k : Fin 1024) : scale m c t (ix2 0 k) = (argsAt m c).md (ix2 8 ⟨1024 + k.val, by omega⟩) := by
  rw [← blk2 m c t 8 ⟨1024 + k.val, by omega⟩]
  refine congrArg (iblk m c 2 t) (funext fun a => Fin.ext ?_)
  match a with
  | ⟨0, _⟩ => rfl
  | ⟨1, _⟩ => show 1024 + 1 * k.val = _; simp
theorem logit0_eq (c : Dev nD) (t : Fin cfg0.N) (k : Fin 1024) : logit0 m c t (ix2 0 k) = (argsAt m c).a (ix3 0 0 k) := by
  refine Eq.trans ?_ (blk3 m c t 0 k)
  refine congrArg (iblk m c 3 t) (funext fun a => Fin.ext ?_)
  match a with
  | ⟨0, _⟩ => rfl
  | ⟨1, _⟩ => show 0 + 1 * k.val = _; simp
theorem logit1_eq (c : Dev nD) (t : Fin cfg0.N) (k : Fin 1024) : logit1 m c t (ix2 0 k) = (argsAt m c).a (ix3 0 1 k) := by
  refine Eq.trans ?_ (blk3 m c t 1 k)
  refine congrArg (iblk m c 3 t) (funext fun a => Fin.ext ?_)
  match a with
  | ⟨0, _⟩ => rfl
  | ⟨1, _⟩ => show 0 + 1 * k.val = _; simp
theorem logit2_eq (c : Dev nD) (t : Fin cfg0.N) (k : Fin 1024) : logit2 m c t (ix2 0 k) = (argsAt m c).a (ix3 1 0 k) := by
  refine Eq.trans ?_ (blk3 m c t 2 k)
  refine congrArg (iblk m c 3 t) (funext fun a => Fin.ext ?_)
  match a with
  | ⟨0, _⟩ => rfl
  | ⟨1, _⟩ => show 0 + 1 * k.val = _; simp
theorem logit3_eq (c : Dev nD) (t : Fin cfg0.N) (k : Fin 1024) : logit3 m c t (ix2 0 k) = (argsAt m c).a (ix3 1 1 k) := by
  refine Eq.trans ?_ (blk3 m c t 3 k)
  refine congrArg (iblk m c 3 t) (funext fun a => Fin.ext ?_)
  match a with
  | ⟨0, _⟩ => rfl
  | ⟨1, _⟩ => show 0 + 1 * k.val = _; simp

theorem row_eq (c : Dev nD) (t : Fin cfg0.N) (i : S256x1024.Idx) : k0_pay1 (iblk m c 0 t) (shift m c t) (scale m c t) (iblk m c 1 t) i = hid (argsAt m c) (sam t) (i 0) (i 1) := by
  refine (pay1_apply _ _ _ _ i).trans ?_
  unfold hid
  congr 1
  · exact funext fun j => blk0 m c t (i 0) j
  · exact funext fun j => blk1 m c t j
  · exact funext fun j => shift_eq m c t j
  · exact funext fun j => scale_eq m c t j

theorem dot_eq (c : Dev nD) (t : Fin cfg0.N) (w : Vec Ideal S1024x1024 .bf16) (o : Nat) (ho : o + 1024 ≤ 7680) (hw : ∀ k j : Fin 1024, w (ix2 k j) = (argsAt m c).w (ix2 k ⟨o + j.val, by omega⟩)) (r : Fin 256) (j : Fin 1024) :
    dotCol (n := 1024) (k0_pay1 (iblk m c 0 t) (shift m c t) (scale m c t) (iblk m c 1 t)) w r j = zed (argsAt m c) (sam t) r ⟨o + j.val, by omega⟩ :=
  Finset.sum_congr rfl fun k _ => congrArg₂ (· * ·) (row_eq m c t (ix2 r k)) (hw k j)

/-- A point's values, and its two directions' gates. -/
theorem val_eq (c : Dev nD) (t : Fin cfg0.N) (r : Fin 256) (j : Fin 1024) : k0_pay2 (iblk m c 0 t) (shift m c t) (scale m c t) (iblk m c 1 t) (X0_4 m c t) (ix2 r j) = zed (argsAt m c) (sam t) r ⟨1024 + j.val, by omega⟩ :=
  (pay2_apply _ _ _ _ _ (ix2 r j)).trans (dot_eq m c t _ 1024 (by decide) (fun k j => blk4 m c t k j) r j)

theorem gate0_eq (c : Dev nD) (t : Fin cfg0.N) (r : Fin 256) (j : Fin 1024) :
    k0_pay5 (k0_pay3 (iblk m c 0 t) (shift m c t) (scale m c t) (iblk m c 1 t) (X0_5 m c t)) (logit0 m c t) (logit1 m c t) (ix2 r j) = gate (argsAt m c) 0 (sam t) r j := by
  refine (pay5_apply _ _ _ (ix2 r j)).trans ?_
  unfold gate bound
  exact congrArg₂ forget (congrArg₂ lower (logit0_eq m c t j) (logit1_eq m c t j)) ((pay3_apply _ _ _ _ _ (ix2 r j)).trans (dot_eq m c t _ 2048 (by decide) (fun k j => blk5 m c t k j) r j))

theorem gate1_eq (c : Dev nD) (t : Fin cfg0.N) (r : Fin 256) (j : Fin 1024) :
    k0_pay6 (k0_pay4 (iblk m c 0 t) (shift m c t) (scale m c t) (iblk m c 1 t) (X0_6 m c t)) (logit2 m c t) (logit3 m c t) (ix2 r j) = gate (argsAt m c) 1 (sam t) r j := by
  refine (pay6_apply _ _ _ (ix2 r j)).trans ?_
  unfold gate bound
  exact congrArg₂ forget (congrArg₂ lower (logit2_eq m c t j) (logit3_eq m c t j)) ((pay4_apply _ _ _ _ _ (ix2 r j)).trans (dot_eq m c t _ 3072 (by decide) (fun k j => blk6 m c t k j) r j))

/-- A head's product is its part of the state. -/
theorem head_piece (A : Args) (d : Fin 2) (p : Fin 256 → Fin 256 → Prop) [∀ r, DecidablePred (p r)] (b : Fin 8) (u v : S256x1024.Idx → EReal)
    (hu : ∀ (r : Fin 256) (j : Fin 1024), u (ix2 r j) = (1 - gate A d b r j) * Ideal.exp (tail3 (p r) (fun c => Ideal.log (gate A d b c j))))
    (hv : ∀ (r : Fin 256) (j : Fin 1024), v (ix2 r j) = zed A b r ⟨1024 + j.val, by omega⟩)
    (h : Fin 8) (inb : ∀ a, (![0, h.val, 0, 0] : Fin 4 → Nat) a + S1x1x128x128.size a ≤ S1x8x128x128.size a) (x : S1x1x128x128.Idx) :
    headSum u v h (x 2) (x 3) = state A d p (ix4 b ((Rect.unit (s := S1x8x128x128) ![0, h.val, 0, 0] S1x1x128x128.size inb).emb x 1)
      ((Rect.unit (s := S1x8x128x128) ![0, h.val, 0, 0] S1x1x128x128.size inb).emb x 2) ((Rect.unit (s := S1x8x128x128) ![0, h.val, 0, 0] S1x1x128x128.size inb).emb x 3)) := by
  have h1 : (Rect.unit (s := S1x8x128x128) ![0, h.val, 0, 0] S1x1x128x128.size inb).emb x 1 = h := by
    have hx : (x 1).val < 1 := (x 1).isLt
    exact Fin.ext (show h.val + 1 * (x 1).val = h.val by omega)
  have h2 : (Rect.unit (s := S1x8x128x128) ![0, h.val, 0, 0] S1x1x128x128.size inb).emb x 2 = x 2 := Fin.ext (show 0 + 1 * (x 2).val = (x 2).val by omega)
  have h3 : (Rect.unit (s := S1x8x128x128) ![0, h.val, 0, 0] S1x1x128x128.size inb).emb x 3 = x 3 := Fin.ext (show 0 + 1 * (x 3).val = (x 3).val by omega)
  rw [h1, h2, h3]
  unfold headSum state
  exact Finset.sum_congr rfl fun r _ => congrArg₂ (· * ·) (hu r (lane h (x 2))) (hv r (lane h (x 3)))

theorem keys0_eq (c : Dev nD) (t : Fin cfg0.N) (z : FVec Ideal S256x1024 .f32) (a b : Vec Ideal S1x1024 .f32) (hg : ∀ (r : Fin 256) (j : Fin 1024), k0_pay5 z a b (ix2 r j) = gate (argsAt m c) 0 (sam t) r j)
    (r : Fin 256) (j : Fin 1024) : k0_pay13 (k0_pay5 z a b) (k0_pay7 (F := Ideal)) (k0_pay9 z a b) (k0_pay11 z a b) (k0_pay12 z a b) (ix2 r j)
      = (1 - gate (argsAt m c) 0 (sam t) r j) * Ideal.exp (tail3 (later r) (fun q => Ideal.log (gate (argsAt m c) 0 (sam t) q j))) := by
  refine (fwd_apply z a b (ix2 r j)).trans ?_
  exact congrArg₂ (· * ·) (congrArg (1 - ·) (hg r j)) (congrArg (fun g => Ideal.exp (tail3 (later r) g)) (funext fun q => congrArg Ideal.log (hg q j)))

theorem keys1_eq (c : Dev nD) (t : Fin cfg0.N) (f : FVec Ideal S256x1024 .f32) (hg : ∀ (r : Fin 256) (j : Fin 1024), f (ix2 r j) = gate (argsAt m c) 1 (sam t) r j)
    (r : Fin 256) (j : Fin 1024) : k0_pay14 f (iota .tc S256x256 32 [0] iota_S256x256_d0_w32) (iota .tc S256x256 32 [1] iota_S256x256_d1_w32) (ix2 r j)
      = (1 - gate (argsAt m c) 1 (sam t) r j) * Ideal.exp (tail3 (earlier r) (fun q => Ideal.log (gate (argsAt m c) 1 (sam t) q j))) := by
  refine (bwd_apply f (ix2 r j)).trans ?_
  exact congrArg₂ (· * ·) (congrArg (1 - ·) (hg r j)) (congrArg (fun g => Ideal.exp (tail3 (earlier r) g)) (funext fun q => congrArg Ideal.log (hg q j)))

end Cert.Proof.Ctx

end
-- ==== Proof.CtxArr.lean ====
/-
  The arrays which the context kernel leaves.
-/
module

public import proofs.«01_k».proof.Proof.CtxOut

@[expose] public section

noncomputable section

namespace Cert.Proof.Ctx

open Idealize.ShloMosaic Idealize.ShloMosaic.TcCoe Idealize.SL.Sem
open Cert.Kernel6Ideal Cert.Kernel6Ideal.Gen
open scoped BigOperators

variable (m : (ℓ : Loc nD τ sig) → Buf (Elt Ideal) ℓ)

theorem out7 (c : Dev nD) (t : Fin cfg0.N) (y : S1x8x128x128.Idx) : (outsAt0 m c t).1 y = state (argsAt m c) 0 later (ix4 (sam t) (y 1) (y 2) (y 3)) := by
  unfold outsAt0
  dsimp only
  unfold out0_A_7
  refine View.read_writes_apply_of_pieces (Val := Elt Ideal) (e := .f32) VO0_7 VO0_7.junk (fun y => (state (argsAt m c) 0 later (ix4 (sam t) (y 1) (y 2) (y 3)) : EReal)) _ ?_ y ?_
  rotate_left
  · apply cover0_A_7
  frame_out
  have hv := val_eq m c t
  have hg := gate0_eq m c t
  have hu := keys0_eq m c t _ _ _ hg
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_, fun _ hn => absurd hn List.not_mem_nil⟩⟩⟩⟩⟩⟩⟩⟩
  · exact (pay32_apply _ _ x).trans (head_piece _ 0 later _ _ _ hu hv 7 inb_S1x8x128x128_S1x1x128x128_0_7_0_0 x)
  · exact (pay30_apply _ _ x).trans (head_piece _ 0 later _ _ _ hu hv 6 inb_S1x8x128x128_S1x1x128x128_0_6_0_0 x)
  · exact (pay27_apply _ _ x).trans (head_piece _ 0 later _ _ _ hu hv 5 inb_S1x8x128x128_S1x1x128x128_0_5_0_0 x)
  · exact (pay25_apply _ _ x).trans (head_piece _ 0 later _ _ _ hu hv 4 inb_S1x8x128x128_S1x1x128x128_0_4_0_0 x)
  · exact (pay23_apply _ _ x).trans (head_piece _ 0 later _ _ _ hu hv 3 inb_S1x8x128x128_S1x1x128x128_0_3_0_0 x)
  · exact (pay20_apply _ _ x).trans (head_piece _ 0 later _ _ _ hu hv 2 inb_S1x8x128x128_S1x1x128x128_0_2_0_0 x)
  · exact (pay18_apply _ _ x).trans (head_piece _ 0 later _ _ _ hu hv 1 inb_S1x8x128x128_S1x1x128x128_0_1_0_0 x)
  · exact (pay15_apply _ _ _ _ _ _ x).trans (head_piece _ 0 later _ _ _ hu hv 0 inb_S1x8x128x128_S1x1x128x128_0_0_0_0 x)

theorem out8 (c : Dev nD) (t : Fin cfg0.N) (y : S1x8x128x128.Idx) : (outsAt0 m c t).2 y = state (argsAt m c) 1 earlier (ix4 (sam t) (y 1) (y 2) (y 3)) := by
  unfold outsAt0
  dsimp only
  unfold out0_A_8
  refine View.read_writes_apply_of_pieces (Val := Elt Ideal) (e := .f32) VO0_8 VO0_8.junk (fun y => (state (argsAt m c) 1 earlier (ix4 (sam t) (y 1) (y 2) (y 3)) : EReal)) _ ?_ y ?_
  rotate_left
  · apply cover0_A_8
  frame_out
  have hv := val_eq m c t
  have hu := keys1_eq m c t _ (gate1_eq m c t)
  refine List.forall_mem_cons.mpr ⟨fun x => ?_, List.forall_mem_cons.mpr ⟨fun x => ?_, List.forall_mem_cons.mpr ⟨fun x => ?_, List.forall_mem_cons.mpr ⟨fun x => ?_, List.forall_mem_cons.mpr ⟨fun x => ?_,
    List.forall_mem_cons.mpr ⟨fun x => ?_, List.forall_mem_cons.mpr ⟨fun x => ?_, List.forall_mem_cons.mpr ⟨fun x => ?_, fun _ hn => absurd hn List.not_mem_nil⟩⟩⟩⟩⟩⟩⟩⟩
  · exact (pay33_apply _ _ x).trans (head_piece _ 1 earlier _ _ _ hu hv 7 inb_S1x8x128x128_S1x1x128x128_0_7_0_0 x)
  · exact (pay31_apply _ _ x).trans (head_piece _ 1 earlier _ _ _ hu hv 6 inb_S1x8x128x128_S1x1x128x128_0_6_0_0 x)
  · exact (pay29_apply _ _ x).trans (head_piece _ 1 earlier _ _ _ hu hv 5 inb_S1x8x128x128_S1x1x128x128_0_5_0_0 x)
  · exact (pay26_apply _ _ x).trans (head_piece _ 1 earlier _ _ _ hu hv 4 inb_S1x8x128x128_S1x1x128x128_0_4_0_0 x)
  · exact (pay24_apply _ _ x).trans (head_piece _ 1 earlier _ _ _ hu hv 3 inb_S1x8x128x128_S1x1x128x128_0_3_0_0 x)
  · exact (pay21_apply _ _ x).trans (head_piece _ 1 earlier _ _ _ hu hv 2 inb_S1x8x128x128_S1x1x128x128_0_2_0_0 x)
  · exact (pay19_apply _ _ x).trans (head_piece _ 1 earlier _ _ _ hu hv 1 inb_S1x8x128x128_S1x1x128x128_0_1_0_0 x)
  · exact (pay17_apply _ _ _ _ x).trans (head_piece _ 1 earlier _ _ _ hu hv 0 inb_S1x8x128x128_S1x1x128x128_0_0_0_0 x)

theorem arr7 (c : Dev nD) : (dats m 0 c).arrAt 7 cfg0.N = state (argsAt m c) 0 later := by
  refine (dats m 0 c).arrAt_eq_of_covers 7 _ (by decide +kernel) fun t hf y => ?_
  blk_simp
  rw [after0_7]
  refine (out7 m c t y).trans (congrArg (state (argsAt m c) 0 later) (funext fun a => Fin.ext ?_))
  have h0 : (y 0).val < 1 := (y 0).isLt
  match a with
  | ⟨0, _⟩ => show t.val = win0_7.index t 0 * 1 + 1 * (y 0).val; rw [index7]; simp
  | ⟨1, _⟩ => show (y 1).val = win0_7.index t 1 * 8 + 1 * (y 1).val; rw [index7]; simp
  | ⟨2, _⟩ => show (y 2).val = win0_7.index t 2 * 128 + 1 * (y 2).val; rw [index7]; simp
  | ⟨3, _⟩ => show (y 3).val = win0_7.index t 3 * 128 + 1 * (y 3).val; rw [index7]; simp

theorem arr8 (c : Dev nD) : (dats m 0 c).arrAt 8 cfg0.N = state (argsAt m c) 1 earlier := by
  refine (dats m 0 c).arrAt_eq_of_covers 8 _ (by decide +kernel) fun t hf y => ?_
  blk_simp
  rw [after0_8]
  refine (out8 m c t y).trans (congrArg (state (argsAt m c) 1 earlier) (funext fun a => Fin.ext ?_))
  have h0 : (y 0).val < 1 := (y 0).isLt
  match a with
  | ⟨0, _⟩ => show t.val = win0_8.index t 0 * 1 + 1 * (y 0).val; rw [index8]; simp
  | ⟨1, _⟩ => show (y 1).val = win0_8.index t 1 * 8 + 1 * (y 1).val; rw [index8]; simp
  | ⟨2, _⟩ => show (y 2).val = win0_8.index t 2 * 128 + 1 * (y 2).val; rw [index8]; simp
  | ⟨3, _⟩ => show (y 3).val = win0_8.index t 3 * 128 + 1 * (y 3).val; rw [index8]; simp

end Cert.Proof.Ctx

end
-- ==== Proof.CtxClaim.lean ====
/-
  The states taken from the context: the kernel's arrays and the reference's are the same functions of the arguments.
-/
module

public import proofs.«01_k».proof.Proof.CtxArr
public import proofs.«01_k».proof.Proof.Gen.Pre_finite_logits

@[expose] public section

noncomputable section

namespace Cert.Proof.Ctx

open Idealize.ShloMosaic Idealize.ShloMosaic.TcCoe Idealize.SL.Sem

/-- A number of which the magnitude is below infinity is real. -/
theorem real_of_lt (v : EReal) (h : BitVec.ofBool (decide (max v (-v) < Ideal.ofBits FTy.f32 0x7F800000#32)) = 1#1) : ∃ y : ℝ, v = y := by
  rw [show Ideal.ofBits FTy.f32 0x7F800000#32 = (⊤ : EReal) by simp [Ideal.ofBits, Ideal.ieee]] at h
  have hlt : max v (-v) < (⊤ : EReal) := by
    by_contra hn
    rw [decide_eq_false hn] at h
    exact absurd h (by decide)
  have h1 : v ≠ ⊤ := fun e => absurd (lt_of_le_of_lt (le_max_left v (-v)) hlt) (by rw [e]; exact lt_irrefl _)
  have h2 : v ≠ ⊥ := fun e => absurd (lt_of_le_of_lt (le_max_right v (-v)) hlt) (by rw [e, EReal.neg_bot]; exact lt_irrefl _)
  exact ⟨v.toReal, (EReal.coe_toReal h1 h2).symm⟩

/-- The precondition: every logit is a real number. -/
theorem logits_real (m : (ℓ : Loc Cert.Kernel6Ideal.nD Cert.Kernel6Ideal.τ Cert.Kernel6Ideal.sig) → Buf (Elt Ideal) ℓ) (c : Dev Cert.Kernel6Ideal.nD)
    (h : Cert.Pre_Kernel6Ideal_finite_logits (hPre_finite_logits := Cert.Pre_finite_logits.Gen.facts) m) (i : Cert.Kernel6Ideal.S2x2x1024.Idx) : ∃ y : ℝ, (argsAt m c).a i = y := by
  have hi := congrFun (h c) i
  unfold Cert.Pre_finite_logits.fn at hi
  dsimp only at hi
  revert hi
  unfold argsAt
  dsimp only
  generalize m ((c.tc : Thread Cert.Kernel6Ideal.nD Cert.Kernel6Ideal.τ).loc Cert.Kernel6Ideal.main_arg3) = x
  pointwise
  exact real_of_lt (x i)

/-- The reference's frame, whatever the memory. -/
theorem frame_reference : Cert.quiescent_Reference6Ideal (hReference6Ideal := Cert.Reference6Ideal.Gen.facts) :=
  fun m g _ => (θ_run _ _ _).mono (fun r h => ⟨fun c => (h c).2.2, sem_eq_zero_of_no_sems (by decide) r.2⟩) (Cert.Reference6Ideal.Value.run (F := Ideal) m g)

set_option maxHeartbeats 4000000 in
/-- The context kernel and its reference, at the extended reals: from memories agreeing on the arguments, the logits
    finite, both end with the same two arrays and their arguments unchanged. -/
theorem agree : Cert.algebraic_Kernel6Ideal_Reference6Ideal_pre_finite_logits (hKernel6Ideal := Cert.Kernel6Ideal.Gen.facts) (hReference6Ideal := Cert.Reference6Ideal.Gen.facts)
    (hPre_finite_logits := Cert.Pre_finite_logits.Gen.facts) := by
  intro m g m' g' hpre hargs
  refine ⟨fun c => (Cert.Kernel6Ideal.Gen.dats m 0 c).arrAt 7 Cert.Kernel6Ideal.cfg0.N, fun c => (Cert.Kernel6Ideal.Gen.dats m 0 c).arrAt 8 Cert.Kernel6Ideal.cfg0.N, ?_, ?_⟩
  · exact Cert.Kernel6Ideal.Value.run_blocks (F := Ideal) m g
  · refine (θ_run _ _ _).mono (fun r h c => ?_) (Cert.Reference6Ideal.Value.run (F := Ideal) m' g')
    obtain ⟨h0, h1, hk⟩ := h c
    obtain ⟨e0, e1, e2, e3, e4⟩ := hargs c
    have hA := logits_real m c hpre
    refine ⟨?_, ?_, hk⟩
    · refine h0.trans ((Cert.Reference6Ideal.Read.val_main_v103_eq _ _).trans ?_)
      rw [e0, e1, e2, e3, e4]
      exact (ref103 (argsAt m c) hA).trans (arr7 m c).symm
    · refine h1.trans ((Cert.Reference6Ideal.Read.val_main_v120_eq _ _).trans ?_)
      rw [e0, e1, e2, e3, e4]
      exact (ref120 (argsAt m c) hA).trans (arr8 m c).symm

end Cert.Proof.Ctx

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel5
public import proofs.«01_k».proof.Proof.Gen.Kernel5.Skeleton
public import proofs.«01_k».proof.Proof.Gen.Kernel5.Loops
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Loops
public import proofs.«01_k».proof.Proof.Gen.Kernel5Ideal.Launch
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Pre_finite_logits
public import proofs.«01_k».proof.Proof.InProjClaim
public import proofs.«01_k».proof.Proof.MoeClaim
public import proofs.«01_k».proof.Proof.MergeClaim
public import proofs.«01_k».proof.Proof.AdalnClaim
public import proofs.«01_k».proof.Proof.HgrnFrame
public import proofs.«01_k».proof.Proof.CtxClaim
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Kernel6.Gen.facts, Cert.Kernel6Ideal.Gen.facts, Cert.Reference6Ideal.Gen.facts, Cert.Pre_finite_logits.Gen.facts,
  fun m ρ _ => Cert.Kernel.Gen.frame m ρ,
  fun m ρ _ => Cert.KernelIdeal.Gen.frame m ρ,
  fun m ρ _ => (θ_run _ _ _).mono (fun r h => ⟨fun c => (h c).2.2.2.2.2.2.2.2.2.2,
    sem_eq_zero_of_no_sems (by decide) r.2⟩) (Cert.ReferenceIdeal.Value.run (F := Ideal) m ρ),
  fun m ρ _ => Cert.Kernel2.Gen.frame m ρ,
  fun m ρ _ => Cert.Kernel2Ideal.Gen.frame m ρ,
  fun m ρ _ => (θ_run _ _ _).mono (fun r h => ⟨fun c => (h c).2,
    sem_eq_zero_of_no_sems (by decide) r.2⟩) (Cert.Reference2Ideal.Value.run (F := Ideal) m ρ),
  fun m ρ _ => Cert.Kernel3.Gen.frame m ρ,
  fun m ρ _ => Cert.Kernel3Ideal.Gen.frame m ρ,
  fun m ρ _ => (θ_run _ _ _).mono (fun r h => ⟨fun c => (h c).2.2.2,
    sem_eq_zero_of_no_sems (by decide) r.2⟩) (Cert.Reference3Ideal.Value.run (F := Ideal) m ρ),
  fun m ρ _ => Cert.Kernel4.Gen.frame m ρ,
  fun m ρ _ => Cert.Kernel4Ideal.Gen.frame m ρ,
  fun m ρ _ => (θ_run _ _ _).mono (fun r h => ⟨fun c => (h c).2,
    sem_eq_zero_of_no_sems (by decide) r.2⟩) (Cert.Reference4Ideal.Value.run (F := Ideal) m ρ),
  Hgrn.frame_bits, Hgrn.frame_ideal,
  fun m ρ _ => Cert.Kernel6.Gen.frame m ρ,
  fun m ρ _ => Cert.Kernel6Ideal.Gen.frame m ρ,
  fun m ρ _ => Cert.Kernel6Ideal.Gen.frame m ρ,
  fun m ρ _ => Ctx.frame_reference m ρ trivial,
  fun m ρ _ => Ctx.frame_reference m ρ trivial,
  trivial, InProj.agree, trivial, Moe.agree, trivial, Merge.agree, trivial, Adaln.agree, trivial,
  trivial, Ctx.agree⟩

end Cert.Proof

end
